-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_Assembly (m : (ℓ : Loc Cert.Assembly.nD Cert.Assembly.τ Cert.Assembly.sig) → Buf (Elt Bits) ℓ) : Prop :=
  True

def Pre_AssemblyIdeal (m : (ℓ : Loc Cert.AssemblyIdeal.nD Cert.AssemblyIdeal.τ Cert.AssemblyIdeal.sig) → Buf (Elt Ideal) ℓ) : Prop :=
  True

def Pre_AssemblyIdeal_finite_both [hPre_finite_both : Cert.Pre_finite_both.Facts] (m : (ℓ : Loc Cert.AssemblyIdeal.nD Cert.AssemblyIdeal.τ Cert.AssemblyIdeal.sig) → Buf (Elt Ideal) ℓ) : Prop :=
  ∀ c : Dev Cert.AssemblyIdeal.nD,
    (Cert.Pre_finite_both.fn (F := Ideal) (m ((c.tc : Thread Cert.AssemblyIdeal.nD Cert.AssemblyIdeal.τ).loc Cert.AssemblyIdeal.main_arg0)) (m ((c.tc : Thread Cert.AssemblyIdeal.nD Cert.AssemblyIdeal.τ).loc Cert.AssemblyIdeal.main_arg1))) = (fun _ => 1#1)

def Pre_NormalIdeal (m : (ℓ : Loc Cert.NormalIdeal.nD Cert.NormalIdeal.τ Cert.NormalIdeal.sig) → Buf (Elt Ideal) ℓ) : Prop :=
  True

def Pre_NormalIdeal_finite_both [hPre_finite_both : Cert.Pre_finite_both.Facts] (m : (ℓ : Loc Cert.NormalIdeal.nD Cert.NormalIdeal.τ Cert.NormalIdeal.sig) → Buf (Elt Ideal) ℓ) : Prop :=
  ∀ c : Dev Cert.NormalIdeal.nD,
    (Cert.Pre_finite_both.fn (F := Ideal) (m ((c.tc : Thread Cert.NormalIdeal.nD Cert.NormalIdeal.τ).loc Cert.NormalIdeal.main_arg0)) (m ((c.tc : Thread Cert.NormalIdeal.nD Cert.NormalIdeal.τ).loc Cert.NormalIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Assembly [hAssembly : Cert.Assembly.Facts] : Prop :=
  ∀ (m : (ℓ : Loc Cert.Assembly.nD Cert.Assembly.τ Cert.Assembly.sig) → Buf (Elt Bits) ℓ) (g : Dev Cert.Assembly.nD → PrngReg), Pre_Assembly m →
    θ_run (Cert.Assembly.defs (F := Bits)) (onTc (τ := Cert.Assembly.τ) (Cert.Assembly.main (F := Bits))) ⟨m, fun _ => 0, g⟩ (fun r => (∀ c : Dev Cert.Assembly.nD,
      r.2.mem ((c.tc : Thread Cert.Assembly.nD Cert.Assembly.τ).loc Cert.Assembly.main_arg0) = m ((c.tc : Thread Cert.Assembly.nD Cert.Assembly.τ).loc Cert.Assembly.main_arg0)
      ∧ r.2.mem ((c.tc : Thread Cert.Assembly.nD Cert.Assembly.τ).loc Cert.Assembly.main_arg1) = m ((c.tc : Thread Cert.Assembly.nD Cert.Assembly.τ).loc Cert.Assembly.main_arg1))
      ∧ r.2.sem = fun _ => 0)

def quiescent_AssemblyIdeal [hAssemblyIdeal : Cert.AssemblyIdeal.Facts] : Prop :=
  ∀ (m : (ℓ : Loc Cert.AssemblyIdeal.nD Cert.AssemblyIdeal.τ Cert.AssemblyIdeal.sig) → Buf (Elt Ideal) ℓ) (g : Dev Cert.AssemblyIdeal.nD → PrngReg), Pre_AssemblyIdeal m →
    θ_run (Cert.AssemblyIdeal.defs (F := Ideal)) (onTc (τ := Cert.AssemblyIdeal.τ) (Cert.AssemblyIdeal.main (F := Ideal))) ⟨m, fun _ => 0, g⟩ (fun r => (∀ c : Dev Cert.AssemblyIdeal.nD,
      r.2.mem ((c.tc : Thread Cert.AssemblyIdeal.nD Cert.AssemblyIdeal.τ).loc Cert.AssemblyIdeal.main_arg0) = m ((c.tc : Thread Cert.AssemblyIdeal.nD Cert.AssemblyIdeal.τ).loc Cert.AssemblyIdeal.main_arg0)
      ∧ r.2.mem ((c.tc : Thread Cert.AssemblyIdeal.nD Cert.AssemblyIdeal.τ).loc Cert.AssemblyIdeal.main_arg1) = m ((c.tc : Thread Cert.AssemblyIdeal.nD Cert.AssemblyIdeal.τ).loc Cert.AssemblyIdeal.main_arg1))
      ∧ r.2.sem = fun _ => 0)

def quiescent_AssemblyIdeal_pre_finite_both [hAssemblyIdeal : Cert.AssemblyIdeal.Facts] [hPre_finite_both : Cert.Pre_finite_both.Facts] : Prop :=
  ∀ (m : (ℓ : Loc Cert.AssemblyIdeal.nD Cert.AssemblyIdeal.τ Cert.AssemblyIdeal.sig) → Buf (Elt Ideal) ℓ) (g : Dev Cert.AssemblyIdeal.nD → PrngReg), Pre_AssemblyIdeal_finite_both m →
    θ_run (Cert.AssemblyIdeal.defs (F := Ideal)) (onTc (τ := Cert.AssemblyIdeal.τ) (Cert.AssemblyIdeal.main (F := Ideal))) ⟨m, fun _ => 0, g⟩ (fun r => (∀ c : Dev Cert.AssemblyIdeal.nD,
      r.2.mem ((c.tc : Thread Cert.AssemblyIdeal.nD Cert.AssemblyIdeal.τ).loc Cert.AssemblyIdeal.main_arg0) = m ((c.tc : Thread Cert.AssemblyIdeal.nD Cert.AssemblyIdeal.τ).loc Cert.AssemblyIdeal.main_arg0)
      ∧ r.2.mem ((c.tc : Thread Cert.AssemblyIdeal.nD Cert.AssemblyIdeal.τ).loc Cert.AssemblyIdeal.main_arg1) = m ((c.tc : Thread Cert.AssemblyIdeal.nD Cert.AssemblyIdeal.τ).loc Cert.AssemblyIdeal.main_arg1))
      ∧ r.2.sem = fun _ => 0)

def quiescent_NormalIdeal [hNormalIdeal : Cert.NormalIdeal.Facts] : Prop :=
  ∀ (m : (ℓ : Loc Cert.NormalIdeal.nD Cert.NormalIdeal.τ Cert.NormalIdeal.sig) → Buf (Elt Ideal) ℓ) (g : Dev Cert.NormalIdeal.nD → PrngReg), Pre_NormalIdeal m →
    θ_run (Cert.NormalIdeal.defs (F := Ideal)) (onTc (τ := Cert.NormalIdeal.τ) (Cert.NormalIdeal.main (F := Ideal))) ⟨m, fun _ => 0, g⟩ (fun r => (∀ c : Dev Cert.NormalIdeal.nD,
      r.2.mem ((c.tc : Thread Cert.NormalIdeal.nD Cert.NormalIdeal.τ).loc Cert.NormalIdeal.main_arg0) = m ((c.tc : Thread Cert.NormalIdeal.nD Cert.NormalIdeal.τ).loc Cert.NormalIdeal.main_arg0)
      ∧ r.2.mem ((c.tc : Thread Cert.NormalIdeal.nD Cert.NormalIdeal.τ).loc Cert.NormalIdeal.main_arg1) = m ((c.tc : Thread Cert.NormalIdeal.nD Cert.NormalIdeal.τ).loc Cert.NormalIdeal.main_arg1))
      ∧ r.2.sem = fun _ => 0)

def quiescent_NormalIdeal_pre_finite_both [hNormalIdeal : Cert.NormalIdeal.Facts] [hPre_finite_both : Cert.Pre_finite_both.Facts] : Prop :=
  ∀ (m : (ℓ : Loc Cert.NormalIdeal.nD Cert.NormalIdeal.τ Cert.NormalIdeal.sig) → Buf (Elt Ideal) ℓ) (g : Dev Cert.NormalIdeal.nD → PrngReg), Pre_NormalIdeal_finite_both m →
    θ_run (Cert.NormalIdeal.defs (F := Ideal)) (onTc (τ := Cert.NormalIdeal.τ) (Cert.NormalIdeal.main (F := Ideal))) ⟨m, fun _ => 0, g⟩ (fun r => (∀ c : Dev Cert.NormalIdeal.nD,
      r.2.mem ((c.tc : Thread Cert.NormalIdeal.nD Cert.NormalIdeal.τ).loc Cert.NormalIdeal.main_arg0) = m ((c.tc : Thread Cert.NormalIdeal.nD Cert.NormalIdeal.τ).loc Cert.NormalIdeal.main_arg0)
      ∧ r.2.mem ((c.tc : Thread Cert.NormalIdeal.nD Cert.NormalIdeal.τ).loc Cert.NormalIdeal.main_arg1) = m ((c.tc : Thread Cert.NormalIdeal.nD Cert.NormalIdeal.τ).loc Cert.NormalIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Assembly_AssemblyIdeal : Prop :=
  True

def algebraic_AssemblyIdeal_NormalIdeal_pre_finite_both [hAssemblyIdeal : Cert.AssemblyIdeal.Facts] [hNormalIdeal : Cert.NormalIdeal.Facts] [hPre_finite_both : Cert.Pre_finite_both.Facts] : Prop :=
  ∀ (m : (ℓ : Loc Cert.AssemblyIdeal.nD Cert.AssemblyIdeal.τ Cert.AssemblyIdeal.sig) → Buf (Elt Ideal) ℓ) (g : Dev Cert.AssemblyIdeal.nD → PrngReg)
    (m' : (ℓ : Loc Cert.NormalIdeal.nD Cert.NormalIdeal.τ Cert.NormalIdeal.sig) → Buf (Elt Ideal) ℓ) (g' : Dev Cert.NormalIdeal.nD → PrngReg), Pre_AssemblyIdeal_finite_both m →
    (∀ c : Dev Cert.AssemblyIdeal.nD,
      m' ((c.tc : Thread Cert.NormalIdeal.nD Cert.NormalIdeal.τ).loc Cert.NormalIdeal.main_arg0) = m ((c.tc : Thread Cert.AssemblyIdeal.nD Cert.AssemblyIdeal.τ).loc Cert.AssemblyIdeal.main_arg0)
      ∧ m' ((c.tc : Thread Cert.NormalIdeal.nD Cert.NormalIdeal.τ).loc Cert.NormalIdeal.main_arg1) = m ((c.tc : Thread Cert.AssemblyIdeal.nD Cert.AssemblyIdeal.τ).loc Cert.AssemblyIdeal.main_arg1)) →
    ∃ (v0 : (c : Dev Cert.AssemblyIdeal.nD) → Buf (Elt Ideal) ((c.tc : Thread Cert.AssemblyIdeal.nD Cert.AssemblyIdeal.τ).loc Cert.AssemblyIdeal.main_v109_0)) (v1 : (c : Dev Cert.AssemblyIdeal.nD) → Buf (Elt Ideal) ((c.tc : Thread Cert.AssemblyIdeal.nD Cert.AssemblyIdeal.τ).loc Cert.AssemblyIdeal.main_v109_1)),
      θ_run (Cert.AssemblyIdeal.defs (F := Ideal)) (onTc (τ := Cert.AssemblyIdeal.τ) (Cert.AssemblyIdeal.main (F := Ideal))) ⟨m, fun _ => 0, g⟩ (fun r => ∀ c : Dev Cert.AssemblyIdeal.nD,
          r.2.mem ((c.tc : Thread Cert.AssemblyIdeal.nD Cert.AssemblyIdeal.τ).loc Cert.AssemblyIdeal.main_v109_0) = v0 c
          ∧ r.2.mem ((c.tc : Thread Cert.AssemblyIdeal.nD Cert.AssemblyIdeal.τ).loc Cert.AssemblyIdeal.main_v109_1) = v1 c
          ∧ r.2.mem ((c.tc : Thread Cert.AssemblyIdeal.nD Cert.AssemblyIdeal.τ).loc Cert.AssemblyIdeal.main_arg0) = m ((c.tc : Thread Cert.AssemblyIdeal.nD Cert.AssemblyIdeal.τ).loc Cert.AssemblyIdeal.main_arg0)
          ∧ r.2.mem ((c.tc : Thread Cert.AssemblyIdeal.nD Cert.AssemblyIdeal.τ).loc Cert.AssemblyIdeal.main_arg1) = m ((c.tc : Thread Cert.AssemblyIdeal.nD Cert.AssemblyIdeal.τ).loc Cert.AssemblyIdeal.main_arg1))
      ∧ θ_run (Cert.NormalIdeal.defs (F := Ideal)) (onTc (τ := Cert.NormalIdeal.τ) (Cert.NormalIdeal.main (F := Ideal))) ⟨m', fun _ => 0, g'⟩ (fun r => ∀ c : Dev Cert.NormalIdeal.nD,
          r.2.mem ((c.tc : Thread Cert.NormalIdeal.nD Cert.NormalIdeal.τ).loc Cert.NormalIdeal.main_v387) = v0 c
          ∧ r.2.mem ((c.tc : Thread Cert.NormalIdeal.nD Cert.NormalIdeal.τ).loc Cert.NormalIdeal.main_v517) = v1 c
          ∧ r.2.mem ((c.tc : Thread Cert.NormalIdeal.nD Cert.NormalIdeal.τ).loc Cert.NormalIdeal.main_arg0) = m' ((c.tc : Thread Cert.NormalIdeal.nD Cert.NormalIdeal.τ).loc Cert.NormalIdeal.main_arg0)
          ∧ r.2.mem ((c.tc : Thread Cert.NormalIdeal.nD Cert.NormalIdeal.τ).loc Cert.NormalIdeal.main_arg1) = m' ((c.tc : Thread Cert.NormalIdeal.nD Cert.NormalIdeal.τ).loc Cert.NormalIdeal.main_arg1))

def Claim : Prop :=
  ∃ (hKernel : Cert.Kernel.Facts) (hKernelIdeal : Cert.KernelIdeal.Facts) (hReferenceIdeal : Cert.ReferenceIdeal.Facts) (hAssembly : Cert.Assembly.Facts) (hAssemblyIdeal : Cert.AssemblyIdeal.Facts) (hNormalIdeal : Cert.NormalIdeal.Facts) (hPre_finite : Cert.Pre_finite.Facts) (hPre_finite_both : Cert.Pre_finite_both.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Assembly (hAssembly := hAssembly)
    ∧ quiescent_AssemblyIdeal (hAssemblyIdeal := hAssemblyIdeal)
    ∧ quiescent_AssemblyIdeal_pre_finite_both (hAssemblyIdeal := hAssemblyIdeal) (hPre_finite_both := hPre_finite_both)
    ∧ quiescent_NormalIdeal (hNormalIdeal := hNormalIdeal)
    ∧ quiescent_NormalIdeal_pre_finite_both (hNormalIdeal := hNormalIdeal) (hPre_finite_both := hPre_finite_both)
    ∧ preserves_Kernel_KernelIdeal
    ∧ algebraic_KernelIdeal_ReferenceIdeal_pre_finite (hKernelIdeal := hKernelIdeal) (hReferenceIdeal := hReferenceIdeal) (hPre_finite := hPre_finite)
    ∧ preserves_Assembly_AssemblyIdeal
    ∧ algebraic_AssemblyIdeal_NormalIdeal_pre_finite_both (hAssemblyIdeal := hAssemblyIdeal) (hNormalIdeal := hNormalIdeal) (hPre_finite_both := hPre_finite_both)
-- ==== Pre_finite.lean ====
abbrev S2x10000x3 : Shape := ⟨3, ![2, 10000, 3]⟩
abbrev S_ : Shape := ⟨0, ![]⟩

class Facts : Prop where
  bcast_S_S2x10000x3 : S_.BroadcastsInDim S2x10000x3 (![] : Fin 0 → Fin S2x10000x3.rank)
  reducesTo_S2x10000x3_S_d0_1_2 : S2x10000x3.ReducesTo [0, 1, 2] S_
  h_S_ : 0 < S_.numel

variable [Facts]

def fn {F : FTy → Type} [FloatOps F] (main_arg0 : FVec F S2x10000x3 .f32) : IVec S_ 1 :=
  let main_v0 : FVec F S2x10000x3 .f32 := Host.absf main_arg0
  let main_cst : FVec F S_ .f32 := constant S_ .f32 0x7F800000#32
  let main_v1 : FVec F S2x10000x3 .f32 := broadcastInDim S2x10000x3 ![] bcast_S_S2x10000x3 main_cst
  let main_v2 : IVec S2x10000x3 1 := cmpf .olt main_v0 main_v1
  let main_c : IVec S_ 1 := constantI S_ 1 1#1
  let main_v3 : IVec S_ 1 := (fun x v => Host.reduce IntOp.andi x v reducesTo_S2x10000x3_S_d0_1_2 h_S_) main_v2 main_c
  main_v3
-- ==== Pre_finite_both.lean ====
abbrev S2x10240x27 : Shape := ⟨3, ![2, 10240, 27]⟩
abbrev S2x30000x64 : Shape := ⟨3, ![2, 30000, 64]⟩
abbrev S_ : Shape := ⟨0, ![]⟩

class Facts : Prop where
  bcast_S_S2x10240x27 : S_.BroadcastsInDim S2x10240x27 (![] : Fin 0 → Fin S2x10240x27.rank)
  reducesTo_S2x10240x27_S_d0_1_2 : S2x10240x27.ReducesTo [0, 1, 2] S_
  h_S_ : 0 < S_.numel
  bcast_S_S2x30000x64 : S_.BroadcastsInDim S2x30000x64 (![] : Fin 0 → Fin S2x30000x64.rank)
  reducesTo_S2x30000x64_S_d0_1_2 : S2x30000x64.ReducesTo [0, 1, 2] S_

variable [Facts]

def fn {F : FTy → Type} [FloatOps F] (main_arg0 : FVec F S2x10240x27 .f32) (main_arg1 : FVec F S2x30000x64 .f32) : IVec S_ 1 :=
  let main_v0 : FVec F S2x10240x27 .f32 := Host.absf main_arg0
  let main_cst : FVec F S_ .f32 := constant S_ .f32 0x7F800000#32
  let main_v1 : FVec F S2x10240x27 .f32 := broadcastInDim S2x10240x27 ![] bcast_S_S2x10240x27 main_cst
  let main_v2 : IVec S2x10240x27 1 := cmpf .olt main_v0 main_v1
  let main_c : IVec S_ 1 := constantI S_ 1 1#1
  let main_v3 : IVec S_ 1 := (fun x v => Host.reduce IntOp.andi x v reducesTo_S2x10240x27_S_d0_1_2 h_S_) main_v2 main_c
  let main_v4 : FVec F S2x30000x64 .f32 := Host.absf main_arg1
  let main_cst_0 : FVec F S_ .f32 := constant S_ .f32 0x7F800000#32
  let main_v5 : FVec F S2x30000x64 .f32 := broadcastInDim S2x30000x64 ![] bcast_S_S2x30000x64 main_cst_0
  let main_v6 : IVec S2x30000x64 1 := cmpf .olt main_v4 main_v5
  let main_c_1 : IVec S_ 1 := constantI S_ 1 1#1
  let main_v7 : IVec S_ 1 := (fun x v => Host.reduce IntOp.andi x v reducesTo_S2x30000x64_S_d0_1_2 h_S_) main_v6 main_c_1
  let main_v8 : IVec S_ 1 := andi main_v3 main_v7
  main_v8
-- ==== Kernel.lean ====
abbrev S2x10000x3 : Shape := ⟨3, ![2, 10000, 3]⟩
abbrev S2x10000x1 : Shape := ⟨3, ![2, 10000, 1]⟩
abbrev S2x10000 : Shape := ⟨2, ![2, 10000]⟩
abbrev S_ : Shape := ⟨0, ![]⟩
abbrev S2x10448 : Shape := ⟨2, ![2, 10448]⟩
abbrev S20896 : Shape := ⟨1, ![20896]⟩
abbrev S552960 : Shape := ⟨1, ![552960]⟩
abbrev S848 : Shape := ⟨1, ![848]⟩
abbrev S17280 : Shape := ⟨1, ![17280]⟩
abbrev S16 : Shape := ⟨1, ![16]⟩
abbrev S2x16x27x640 : Shape := ⟨4, ![2, 16, 27, 640]⟩
abbrev S2x16x640x27 : Shape := ⟨4, ![2, 16, 640, 27]⟩
abbrev S2x10240x27 : Shape := ⟨3, ![2, 10240, 27]⟩
abbrev S2x10000x27 : Shape := ⟨3, ![2, 10000, 27]⟩

abbrev nBuf : Table → Nat
  | .hbm => 24
  | .local .scVector .vmem => 4
  | _ => 0

abbrev bufTy : (tb : Table) → Fin (nBuf tb) → BufTy
  | .hbm, ⟨0, _⟩ => ⟨S2x10000x3, .f32⟩
  | .hbm, ⟨1, _⟩ => ⟨S2x10000x1, .f32⟩
  | .hbm, ⟨2, _⟩ => ⟨S2x10000, .f32⟩
  | .hbm, ⟨3, _⟩ => ⟨S_, .i32⟩
  | .hbm, ⟨4, _⟩ => ⟨S_, .f32⟩
  | .hbm, ⟨5, _⟩ => ⟨S2x10448, .f32⟩
  | .hbm, ⟨6, _⟩ => ⟨S20896, .f32⟩
  | .hbm, ⟨7, _⟩ => ⟨S2x10000x1, .f32⟩
  | .hbm, ⟨8, _⟩ => ⟨S2x10000, .f32⟩
  | .hbm, ⟨9, _⟩ => ⟨S_, .i32⟩
  | .hbm, ⟨10, _⟩ => ⟨S_, .f32⟩
  | .hbm, ⟨11, _⟩ => ⟨S2x10448, .f32⟩
  | .hbm, ⟨12, _⟩ => ⟨S20896, .f32⟩
  | .hbm, ⟨13, _⟩ => ⟨S2x10000x1, .f32⟩
  | .hbm, ⟨14, _⟩ => ⟨S2x10000, .f32⟩
  | .hbm, ⟨15, _⟩ => ⟨S_, .i32⟩
  | .hbm, ⟨16, _⟩ => ⟨S_, .f32⟩
  | .hbm, ⟨17, _⟩ => ⟨S2x10448, .f32⟩
  | .hbm, ⟨18, _⟩ => ⟨S20896, .f32⟩
  | .hbm, ⟨19, _⟩ => ⟨S552960, .f32⟩
  | .hbm, ⟨20, _⟩ => ⟨S2x16x27x640, .f32⟩
  | .hbm, ⟨21, _⟩ => ⟨S2x16x640x27, .f32⟩
  | .hbm, ⟨22, _⟩ => ⟨S2x10240x27, .f32⟩
  | .hbm, ⟨23, _⟩ => ⟨S2x10000x27, .f32⟩
  | .local .scVector .vmem, ⟨0, _⟩ => ⟨S848, .f32⟩
  | .local .scVector .vmem, ⟨1, _⟩ => ⟨S848, .f32⟩
  | .local .scVector .vmem, ⟨2, _⟩ => ⟨S848, .f32⟩
  | .local .scVector .vmem, ⟨3, _⟩ => ⟨S17280, .f32⟩
  | _, _ => ⟨S2x10000x3, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_call0_v0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_call1_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_call2_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v3_scv : Ref sig .scVector := ⟨.hbm, 6, rfl⟩
abbrev main_v7_scv : Ref sig .scVector := ⟨.hbm, 12, rfl⟩
abbrev main_v11_scv : Ref sig .scVector := ⟨.hbm, 18, rfl⟩
abbrev main_v12_scv : Ref sig .scVector := ⟨.hbm, 19, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.shrsi v1 c4_i32
  let c10448_i32 : BitVec 32 := 10448#32
  let v5 : BitVec 32 := Scalar.muli v2 c10448_i32
  let c15_i32 : BitVec 32 := 15#32
  let v3 : BitVec 32 := Scalar.andi v1 c15_i32
  let c640_i32 : BitVec 32 := 640#32
  let v4 : BitVec 32 := Scalar.muli v3 c640_i32
  let v6 : BitVec 32 := Scalar.addi v5 v4
  ![v6.toNat]
@[reducible] def k0_t1_loop : Scf.Loop 32 :=
  let c0_i32_2 : BitVec 32 := 0#32
  let c40_i32 : BitVec 32 := 40#32
  let v11 : BitVec 32 := Scalar.addi c0_i32_2 c40_i32
  let c1_i32 : BitVec 32 := 1#32
  ⟨c0_i32_2, v11, c1_i32⟩
def k0_off2 (k0_t1 : Fin k0_t1_loop.trips) : Fin 1 → Nat :=
  let c104_i32 : BitVec 32 := 104#32
  let c0_i32_2 : BitVec 32 := 0#32
  let c1_i32 : BitVec 32 := 1#32
  let arg10 : BitVec 32 := Scf.iv c0_i32_2 c1_i32 k0_t1
  let c16_i32_4 : BitVec 32 := 16#32
  let v25 : BitVec 32 := Scalar.muli arg10 c16_i32_4
  let v26 : BitVec 32 := Scalar.addi c104_i32 v25
  let v27 : Index := Scalar.indexCast v26
  ![v27.toNat]
def k0_off3 (k0_t1 : Fin k0_t1_loop.trips) (c1_i32_21 : BitVec 32) : Fin 1 → Nat :=
  let c104_i32_20 : BitVec 32 := 104#32
  let c0_i32_2 : BitVec 32 := 0#32
  let c1_i32 : BitVec 32 := 1#32
  let arg10 : BitVec 32 := Scf.iv c0_i32_2 c1_i32 k0_t1
  let c16_i32_19 : BitVec 32 := 16#32
  let v54 : BitVec 32 := Scalar.muli arg10 c16_i32_19
  let v55 : BitVec 32 := Scalar.addi c104_i32_20 v54
  let v56 : BitVec 32 := Scalar.addi v55 c1_i32_21
  let v57 : Index := Scalar.indexCast v56
  ![v57.toNat]
def k0_off3_at (r : Fin 6) : BitVec 32 :=
  if r.val < 3 then
    if r.val < 1 then
      1#32
    else
      if r.val < 2 then
        4294967295#32
      else
        100#32
  else
    if r.val < 4 then
      4294967196#32
    else
      if r.val < 5 then
        99#32
      else
        4294967197#32
def k0_off4 (k0_t1 : Fin k0_t1_loop.trips) (c0_i32_88 : BitVec 32) : Fin 1 → Nat :=
  let c0_i32_2 : BitVec 32 := 0#32
  let c1_i32 : BitVec 32 := 1#32
  let arg10 : BitVec 32 := Scf.iv c0_i32_2 c1_i32 k0_t1
  let c16_i32_87 : BitVec 32 := 16#32
  let v395 : BitVec 32 := Scalar.muli arg10 c16_i32_87
  let v396 : BitVec 32 := Scalar.addi c0_i32_88 v395
  let v397 : Index := Scalar.indexCast v396
  ![v397.toNat]
def k0_off5 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c17280_i32 : BitVec 32 := 17280#32
  let v12 : BitVec 32 := Scalar.muli v1 c17280_i32
  ![v12.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x10000x3 : Shape := ⟨3, ![2, 10000, 3]⟩
abbrev S2x100x100x3 : Shape := ⟨4, ![2, 100, 100, 3]⟩
abbrev S_ : Shape := ⟨0, ![]⟩
abbrev S2x102x102x3 : Shape := ⟨4, ![2, 102, 102, 3]⟩
abbrev S2x100x100x1 : Shape := ⟨4, ![2, 100, 100, 1]⟩
abbrev S2x102x102x1 : Shape := ⟨4, ![2, 102, 102, 1]⟩
abbrev S2x100x100x1x3 : Shape := ⟨5, ![2, 100, 100, 1, 3]⟩
abbrev S2x100x100x6x3 : Shape := ⟨5, ![2, 100, 100, 6, 3]⟩
abbrev S2x10000x6x3 : Shape := ⟨4, ![2, 10000, 6, 3]⟩
abbrev S2x10000x6 : Shape := ⟨3, ![2, 10000, 6]⟩
abbrev S2x10000x6x1x1 : Shape := ⟨5, ![2, 10000, 6, 1, 1]⟩
abbrev S3x3 : Shape := ⟨2, ![3, 3]⟩
abbrev S1x1x1x3x3 : Shape := ⟨5, ![1, 1, 1, 3, 3]⟩
abbrev S2x10000x6x3x3 : Shape := ⟨5, ![2, 10000, 6, 3, 3]⟩
abbrev S2x10000x6x3x1 : Shape := ⟨5, ![2, 10000, 6, 3, 1]⟩
abbrev S2x10000x6x1x3 : Shape := ⟨5, ![2, 10000, 6, 1, 3]⟩
abbrev S2x10000x3x3 : Shape := ⟨4, ![2, 10000, 3, 3]⟩
abbrev S2x10000x2x3 : Shape := ⟨4, ![2, 10000, 2, 3]⟩
abbrev S2x10000x5x3 : Shape := ⟨4, ![2, 10000, 5, 3]⟩
abbrev S2x10000x5x2 : Shape := ⟨4, ![2, 10000, 5, 2]⟩
abbrev S2x10000x5x5 : Shape := ⟨4, ![2, 10000, 5, 5]⟩
abbrev S2x10000x1x3 : Shape := ⟨4, ![2, 10000, 1, 3]⟩
abbrev S2x10000 : Shape := ⟨2, ![2, 10000]⟩
abbrev S2x10000x1x1 : Shape := ⟨4, ![2, 10000, 1, 1]⟩
abbrev S2x10000x18 : Shape := ⟨3, ![2, 10000, 18]⟩
abbrev S2x10000x1x2 : Shape := ⟨4, ![2, 10000, 1, 2]⟩
abbrev S2x10000x2 : Shape := ⟨3, ![2, 10000, 2]⟩
abbrev S2x10000x1 : Shape := ⟨3, ![2, 10000, 1]⟩
abbrev S2x10000x27 : Shape := ⟨3, ![2, 10000, 27]⟩

abbrev nBuf : Space → Nat
  | .hbm => 106
  | .vmem => 0
  | .smem => 0
  | _ => 0

abbrev bufTy : (tb : Table) → Fin (tcTables nBuf tb) → BufTy
  | .hbm, ⟨0, _⟩ => ⟨S2x10000x3, .f32⟩
  | .hbm, ⟨1, _⟩ => ⟨S2x100x100x3, .f32⟩
  | .hbm, ⟨2, _⟩ => ⟨S_, .i32⟩
  | .hbm, ⟨3, _⟩ => ⟨S_, .f32⟩
  | .hbm, ⟨4, _⟩ => ⟨S2x102x102x3, .f32⟩
  | .hbm, ⟨5, _⟩ => ⟨S_, .f32⟩
  | .hbm, ⟨6, _⟩ => ⟨S2x100x100x1, .f32⟩
  | .hbm, ⟨7, _⟩ => ⟨S_, .i32⟩
  | .hbm, ⟨8, _⟩ => ⟨S_, .f32⟩
  | .hbm, ⟨9, _⟩ => ⟨S2x102x102x1, .f32⟩
  | .hbm, ⟨10, _⟩ => ⟨S2x100x100x1, .f32⟩
  | .hbm, ⟨11, _⟩ => ⟨S2x100x100x3, .f32⟩
  | .hbm, ⟨12, _⟩ => ⟨S2x100x100x3, .f32⟩
  | .hbm, ⟨13, _⟩ => ⟨S2x100x100x3, .f32⟩
  | .hbm, ⟨14, _⟩ => ⟨S2x100x100x3, .f32⟩
  | .hbm, ⟨15, _⟩ => ⟨S2x100x100x1, .f32⟩
  | .hbm, ⟨16, _⟩ => ⟨S2x100x100x3, .f32⟩
  | .hbm, ⟨17, _⟩ => ⟨S2x100x100x3, .f32⟩
  | .hbm, ⟨18, _⟩ => ⟨S2x100x100x3, .f32⟩
  | .hbm, ⟨19, _⟩ => ⟨S2x100x100x3, .f32⟩
  | .hbm, ⟨20, _⟩ => ⟨S2x100x100x1, .f32⟩
  | .hbm, ⟨21, _⟩ => ⟨S2x100x100x3, .f32⟩
  | .hbm, ⟨22, _⟩ => ⟨S2x100x100x3, .f32⟩
  | .hbm, ⟨23, _⟩ => ⟨S2x100x100x3, .f32⟩
  | .hbm, ⟨24, _⟩ => ⟨S2x100x100x3, .f32⟩
  | .hbm, ⟨25, _⟩ => ⟨S2x100x100x1, .f32⟩
  | .hbm, ⟨26, _⟩ => ⟨S2x100x100x3, .f32⟩
  | .hbm, ⟨27, _⟩ => ⟨S2x100x100x3, .f32⟩
  | .hbm, ⟨28, _⟩ => ⟨S2x100x100x3, .f32⟩
  | .hbm, ⟨29, _⟩ => ⟨S2x100x100x3, .f32⟩
  | .hbm, ⟨30, _⟩ => ⟨S2x100x100x1, .f32⟩
  | .hbm, ⟨31, _⟩ => ⟨S2x100x100x3, .f32⟩
  | .hbm, ⟨32, _⟩ => ⟨S2x100x100x3, .f32⟩
  | .hbm, ⟨33, _⟩ => ⟨S2x100x100x3, .f32⟩
  | .hbm, ⟨34, _⟩ => ⟨S2x100x100x3, .f32⟩
  | .hbm, ⟨35, _⟩ => ⟨S2x100x100x1, .f32⟩
  | .hbm, ⟨36, _⟩ => ⟨S2x100x100x3, .f32⟩
  | .hbm, ⟨37, _⟩ => ⟨S2x100x100x3, .f32⟩
  | .hbm, ⟨38, _⟩ => ⟨S2x100x100x3, .f32⟩
  | .hbm, ⟨39, _⟩ => ⟨S2x100x100x3, .f32⟩
  | .hbm, ⟨40, _⟩ => ⟨S2x100x100x1x3, .f32⟩
  | .hbm, ⟨41, _⟩ => ⟨S2x100x100x1x3, .f32⟩
  | .hbm, ⟨42, _⟩ => ⟨S2x100x100x1x3, .f32⟩
  | .hbm, ⟨43, _⟩ => ⟨S2x100x100x1x3, .f32⟩
  | .hbm, ⟨44, _⟩ => ⟨S2x100x100x1x3, .f32⟩
  | .hbm, ⟨45, _⟩ => ⟨S2x100x100x1x3, .f32⟩
  | .hbm, ⟨46, _⟩ => ⟨S2x100x100x6x3, .f32⟩
  | .hbm, ⟨47, _⟩ => ⟨S2x10000x6x3, .f32⟩
  | .hbm, ⟨48, _⟩ => ⟨S2x10000x6x3, .f32⟩
  | .hbm, ⟨49, _⟩ => ⟨S_, .f32⟩
  | .hbm, ⟨50, _⟩ => ⟨S2x10000x6, .f32⟩
  | .hbm, ⟨51, _⟩ => ⟨S2x10000x6x1x1, .f32⟩
  | .hbm, ⟨52, _⟩ => ⟨S3x3, .i32⟩
  | .hbm, ⟨53, _⟩ => ⟨S3x3, .i32⟩
  | .hbm, ⟨54, _⟩ => ⟨S_, .i32⟩
  | .hbm, ⟨55, _⟩ => ⟨S3x3, .i32⟩
  | .hbm, ⟨56, _⟩ => ⟨S3x3, .i32⟩
  | .hbm, ⟨57, _⟩ => ⟨S3x3, .i1⟩
  | .hbm, ⟨58, _⟩ => ⟨S3x3, .f32⟩
  | .hbm, ⟨59, _⟩ => ⟨S1x1x1x3x3, .f32⟩
  | .hbm, ⟨60, _⟩ => ⟨S2x10000x6x3x3, .f32⟩
  | .hbm, ⟨61, _⟩ => ⟨S2x10000x6x3x3, .f32⟩
  | .hbm, ⟨62, _⟩ => ⟨S2x10000x6x3x3, .f32⟩
  | .hbm, ⟨63, _⟩ => ⟨S2x10000x6x3x1, .f32⟩
  | .hbm, ⟨64, _⟩ => ⟨S2x10000x6x1x3, .f32⟩
  | .hbm, ⟨65, _⟩ => ⟨S2x10000x6x3x3, .f32⟩
  | .hbm, ⟨66, _⟩ => ⟨S2x10000x6x3x3, .f32⟩
  | .hbm, ⟨67, _⟩ => ⟨S2x10000x6x3x3, .f32⟩
  | .hbm, ⟨68, _⟩ => ⟨S2x10000x6x3x3, .f32⟩
  | .hbm, ⟨69, _⟩ => ⟨S_, .f32⟩
  | .hbm, ⟨70, _⟩ => ⟨S2x10000x3x3, .f32⟩
  | .hbm, ⟨71, _⟩ => ⟨S2x10000x2x3, .f32⟩
  | .hbm, ⟨72, _⟩ => ⟨S2x10000x5x3, .f32⟩
  | .hbm, ⟨73, _⟩ => ⟨S2x10000x5x2, .f32⟩
  | .hbm, ⟨74, _⟩ => ⟨S2x10000x5x5, .f32⟩
  | .hbm, ⟨75, _⟩ => ⟨S2x10000x3x3, .f32⟩
  | .hbm, ⟨76, _⟩ => ⟨S2x10000x3x3, .f32⟩
  | .hbm, ⟨77, _⟩ => ⟨S2x10000x3x3, .f32⟩
  | .hbm, ⟨78, _⟩ => ⟨S2x10000x3x3, .f32⟩
  | .hbm, ⟨79, _⟩ => ⟨S2x10000x3x3, .f32⟩
  | .hbm, ⟨80, _⟩ => ⟨S2x10000x3x3, .f32⟩
  | .hbm, ⟨81, _⟩ => ⟨S2x10000x3x3, .f32⟩
  | .hbm, ⟨82, _⟩ => ⟨S2x10000x1x3, .f32⟩
  | .hbm, ⟨83, _⟩ => ⟨S2x10000x3, .f32⟩
  | .hbm, ⟨84, _⟩ => ⟨S2x10000x1x3, .f32⟩
  | .hbm, ⟨85, _⟩ => ⟨S2x10000x3, .f32⟩
  | .hbm, ⟨86, _⟩ => ⟨S2x10000x3, .f32⟩
  | .hbm, ⟨87, _⟩ => ⟨S_, .f32⟩
  | .hbm, ⟨88, _⟩ => ⟨S2x10000, .f32⟩
  | .hbm, ⟨89, _⟩ => ⟨S2x10000x3x3, .f32⟩
  | .hbm, ⟨90, _⟩ => ⟨S_, .f32⟩
  | .hbm, ⟨91, _⟩ => ⟨S2x10000, .f32⟩
  | .hbm, ⟨92, _⟩ => ⟨S2x10000, .f32⟩
  | .hbm, ⟨93, _⟩ => ⟨S2x10000x1x1, .f32⟩
  | .hbm, ⟨94, _⟩ => ⟨S2x10000x3x3, .f32⟩
  | .hbm, ⟨95, _⟩ => ⟨S2x10000x3x3, .f32⟩
  | .hbm, ⟨96, _⟩ => ⟨S2x10000x18, .f32⟩
  | .hbm, ⟨97, _⟩ => ⟨S_, .f32⟩
  | .hbm, ⟨98, _⟩ => ⟨S2x10000x3, .f32⟩
  | .hbm, ⟨99, _⟩ => ⟨S2x10000x1x3, .f32⟩
  | .hbm, ⟨100, _⟩ => ⟨S2x10000x3, .f32⟩
  | .hbm, ⟨101, _⟩ => ⟨S2x10000x1x2, .f32⟩
  | .hbm, ⟨102, _⟩ => ⟨S2x10000x2, .f32⟩
  | .hbm, ⟨103, _⟩ => ⟨S2x10000x1x1, .f32⟩
  | .hbm, ⟨104, _⟩ => ⟨S2x10000x1, .f32⟩
  | .hbm, ⟨105, _⟩ => ⟨S2x10000x27, .f32⟩
  | _, _ => ⟨S2x10000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_c_0 : Ref sig .tc := ⟨.hbm, 7, rfl⟩
abbrev main_call1_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_cst_1 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_c_2 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_cst_3 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_cst_4 : Ref sig .tc := ⟨.hbm, 87, rfl⟩
abbrev main_v78 : Ref sig .tc := ⟨.hbm, 88, rfl⟩
abbrev main_v79 : Ref sig .tc := ⟨.hbm, 89, rfl⟩
abbrev main_cst_5 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_cst_6 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩

abbrev nD : Nat := 1
abbrev τ : Topo := Topo.v7x

variable {F : FTy → Type} [FloatOps F]
-- ==== Assembly.lean ====
abbrev S2x10240x27 : Shape := ⟨3, ![2, 10240, 27]⟩
abbrev S2x30000x64 : Shape := ⟨3, ![2, 30000, 64]⟩
abbrev S2x10000x192 : Shape := ⟨3, ![2, 10000, 192]⟩
abbrev S2x10208x192 : Shape := ⟨3, ![2, 10208, 192]⟩
abbrev S1x1000x192 : Shape := ⟨3, ![1, 1000, 192]⟩
abbrev S1x10208x192 : Shape := ⟨3, ![1, 10208, 192]⟩
abbrev S1000x192 : Shape := ⟨2, ![1000, 192]⟩
abbrev S104x192 : Shape := ⟨2, ![104, 192]⟩
abbrev S1x104x192 : Shape := ⟨3, ![1, 104, 192]⟩
abbrev S3x1000x1208 : Shape := ⟨3, ![3, 1000, 1208]⟩
abbrev S_ : Shape := ⟨0, ![]⟩
abbrev S2x64x64 : Shape := ⟨3, ![2, 64, 64]⟩
abbrev S1x1 : Shape := ⟨2, ![1, 1]⟩
abbrev S1x1000x27 : Shape := ⟨3, ![1, 1000, 27]⟩
abbrev S1x1000x1208 : Shape := ⟨3, ![1, 1000, 1208]⟩
abbrev S1x1208x192 : Shape := ⟨3, ![1, 1208, 192]⟩
abbrev S1208x192 : Shape := ⟨2, ![1208, 192]⟩
abbrev S1000x27 : Shape := ⟨2, ![1000, 27]⟩
abbrev S1000x64 : Shape := ⟨2, ![1000, 64]⟩
abbrev S1000x1 : Shape := ⟨2, ![1000, 1]⟩
abbrev S1000x1208 : Shape := ⟨2, ![1000, 1208]⟩
abbrev S64x64 : Shape := ⟨2, ![64, 64]⟩
abbrev S1x64x64 : Shape := ⟨3, ![1, 64, 64]⟩
abbrev S128x128 : Shape := ⟨2, ![128, 128]⟩
abbrev S64x128 : Shape := ⟨2, ![64, 128]⟩
abbrev S1x128x128 : Shape := ⟨3, ![1, 128, 128]⟩
abbrev S1 : Shape := ⟨1, ![1]⟩
abbrev S1x1x1 : Shape := ⟨3, ![1, 1, 1]⟩

abbrev nBuf : Space → Nat
  | .hbm => 144
  | .vmem => 12
  | .smem => 0
  | _ => 0

abbrev hbmTy0_0 (i : Nat) : BufTy := match i % 128 with
  | 0 => ⟨S2x10240x27, .f32⟩
  | 1 => ⟨S2x30000x64, .f32⟩
  | 2 => ⟨S2x10000x192, .f32⟩
  | 3 => ⟨S2x10208x192, .bf16⟩
  | 4 => ⟨S3x1000x1208, .i32⟩
  | 5 => ⟨S3x1000x1208, .i32⟩
  | 6 => ⟨S3x1000x1208, .i32⟩
  | 7 => ⟨S_, .i32⟩
  | 8 => ⟨S3x1000x1208, .i32⟩
  | 9 => ⟨S3x1000x1208, .i1⟩
  | 10 => ⟨S_, .i32⟩
  | 11 => ⟨S3x1000x1208, .i32⟩
  | 12 => ⟨S_, .i32⟩
  | 13 => ⟨S3x1000x1208, .i32⟩
  | 14 => ⟨S3x1000x1208, .i1⟩
  | 15 => ⟨S_, .i32⟩
  | 16 => ⟨S3x1000x1208, .i32⟩
  | 17 => ⟨S_, .i32⟩
  | 18 => ⟨S3x1000x1208, .i32⟩
  | 19 => ⟨S3x1000x1208, .i32⟩
  | 20 => ⟨S3x1000x1208, .i32⟩
  | 21 => ⟨S3x1000x1208, .i32⟩
  | 22 => ⟨S_, .i32⟩
  | 23 => ⟨S3x1000x1208, .i32⟩
  | 24 => ⟨S3x1000x1208, .i32⟩
  | 25 => ⟨S_, .i32⟩
  | 26 => ⟨S3x1000x1208, .i32⟩
  | 27 => ⟨S3x1000x1208, .i32⟩
  | 28 => ⟨S3x1000x1208, .i32⟩
  | 29 => ⟨S_, .i32⟩
  | 30 => ⟨S3x1000x1208, .i32⟩
  | 31 => ⟨S3x1000x1208, .i1⟩
  | 32 => ⟨S_, .i32⟩
  | 33 => ⟨S3x1000x1208, .i32⟩
  | 34 => ⟨S3x1000x1208, .i1⟩
  | 35 => ⟨S_, .i32⟩
  | 36 => ⟨S3x1000x1208, .i32⟩
  | 37 => ⟨S3x1000x1208, .i1⟩
  | 38 => ⟨S_, .i32⟩
  | 39 => ⟨S3x1000x1208, .i32⟩
  | 40 => ⟨S3x1000x1208, .i1⟩
  | 41 => ⟨S_, .i32⟩
  | 42 => ⟨S3x1000x1208, .i32⟩
  | 43 => ⟨S3x1000x1208, .i1⟩
  | 44 => ⟨S_, .i32⟩
  | 45 => ⟨S3x1000x1208, .i32⟩
  | 46 => ⟨S3x1000x1208, .i1⟩
  | 47 => ⟨S3x1000x1208, .i1⟩
  | 48 => ⟨S_, .i32⟩
  | 49 => ⟨S3x1000x1208, .i32⟩
  | 50 => ⟨S3x1000x1208, .i1⟩
  | 51 => ⟨S_, .i32⟩
  | 52 => ⟨S3x1000x1208, .i32⟩
  | 53 => ⟨S3x1000x1208, .i1⟩
  | 54 => ⟨S3x1000x1208, .i1⟩
  | 55 => ⟨S_, .f32⟩
  | 56 => ⟨S3x1000x1208, .f32⟩
  | 57 => ⟨S_, .f32⟩
  | 58 => ⟨S3x1000x1208, .f32⟩
  | 59 => ⟨S3x1000x1208, .f32⟩
  | 60 => ⟨S3x1000x1208, .f32⟩
  | 61 => ⟨S_, .i32⟩
  | 62 => ⟨S3x1000x1208, .i32⟩
  | 63 => ⟨S3x1000x1208, .i32⟩
  | 64 => ⟨S3x1000x1208, .i1⟩
  | 65 => ⟨S3x1000x1208, .f32⟩
  | 66 => ⟨S3x1000x1208, .f32⟩
  | 67 => ⟨S_, .f32⟩
  | 68 => ⟨S3x1000x1208, .f32⟩
  | 69 => ⟨S3x1000x1208, .f32⟩
  | 70 => ⟨S3x1000x1208, .f32⟩
  | 71 => ⟨S3x1000x1208, .f32⟩
  | 72 => ⟨S3x1000x1208, .f32⟩
  | 73 => ⟨S_, .i32⟩
  | 74 => ⟨S3x1000x1208, .i32⟩
  | 75 => ⟨S3x1000x1208, .i32⟩
  | 76 => ⟨S3x1000x1208, .i1⟩
  | 77 => ⟨S3x1000x1208, .f32⟩
  | 78 => ⟨S3x1000x1208, .f32⟩
  | 79 => ⟨S_, .f32⟩
  | 80 => ⟨S3x1000x1208, .f32⟩
  | 81 => ⟨S3x1000x1208, .f32⟩
  | 82 => ⟨S3x1000x1208, .f32⟩
  | 83 => ⟨S3x1000x1208, .f32⟩
  | 84 => ⟨S3x1000x1208, .f32⟩
  | 85 => ⟨S_, .i32⟩
  | 86 => ⟨S3x1000x1208, .i32⟩
  | 87 => ⟨S3x1000x1208, .i32⟩
  | 88 => ⟨S3x1000x1208, .i1⟩
  | 89 => ⟨S3x1000x1208, .f32⟩
  | 90 => ⟨S3x1000x1208, .f32⟩
  | 91 => ⟨S_, .f32⟩
  | 92 => ⟨S3x1000x1208, .f32⟩
  | 93 => ⟨S3x1000x1208, .f32⟩
  | 94 => ⟨S3x1000x1208, .f32⟩
  | 95 => ⟨S3x1000x1208, .f32⟩
  | 96 => ⟨S3x1000x1208, .f32⟩
  | 97 => ⟨S_, .i32⟩
  | 98 => ⟨S3x1000x1208, .i32⟩
  | 99 => ⟨S3x1000x1208, .i32⟩
  | 100 => ⟨S3x1000x1208, .i1⟩
  | 101 => ⟨S3x1000x1208, .f32⟩
  | 102 => ⟨S3x1000x1208, .f32⟩
  | 103 => ⟨S_, .f32⟩
  | 104 => ⟨S3x1000x1208, .f32⟩
  | 105 => ⟨S3x1000x1208, .f32⟩
  | 106 => ⟨S3x1000x1208, .f32⟩
  | 107 => ⟨S3x1000x1208, .f32⟩
  | 108 => ⟨S3x1000x1208, .f32⟩
  | 109 => ⟨S_, .i32⟩
  | 110 => ⟨S3x1000x1208, .i32⟩
  | 111 => ⟨S3x1000x1208, .i32⟩
  | 112 => ⟨S3x1000x1208, .i1⟩
  | 113 => ⟨S3x1000x1208, .f32⟩
  | 114 => ⟨S3x1000x1208, .f32⟩
  | 115 => ⟨S_, .f32⟩
  | 116 => ⟨S3x1000x1208, .f32⟩
  | 117 => ⟨S3x1000x1208, .f32⟩
  | 118 => ⟨S3x1000x1208, .f32⟩
  | 119 => ⟨S3x1000x1208, .f32⟩
  | 120 => ⟨S3x1000x1208, .f32⟩
  | 121 => ⟨S_, .i32⟩
  | 122 => ⟨S3x1000x1208, .i32⟩
  | 123 => ⟨S3x1000x1208, .i32⟩
  | 124 => ⟨S3x1000x1208, .i1⟩
  | 125 => ⟨S3x1000x1208, .f32⟩
  | 126 => ⟨S3x1000x1208, .f32⟩
  | 127 => ⟨S_, .f32⟩
  | _ => ⟨S2x10240x27, .f32⟩

abbrev hbmTy0_1 (i : Nat) : BufTy := match i % 128 with
  | 0 => ⟨S3x1000x1208, .f32⟩
  | 1 => ⟨S3x1000x1208, .f32⟩
  | 2 => ⟨S3x1000x1208, .f32⟩
  | 3 => ⟨S_, .i32⟩
  | 4 => ⟨S3x1000x1208, .i32⟩
  | 5 => ⟨S3x1000x1208, .i32⟩
  | 6 => ⟨S3x1000x1208, .i1⟩
  | 7 => ⟨S3x1000x1208, .f32⟩
  | 8 => ⟨S3x1000x1208, .f32⟩
  | 9 => ⟨S_, .f32⟩
  | 10 => ⟨S3x1000x1208, .f32⟩
  | 11 => ⟨S3x1000x1208, .f32⟩
  | 12 => ⟨S3x1000x1208, .f32⟩
  | 13 => ⟨S3x1000x1208, .bf16⟩
  | 14 => ⟨S2x64x64, .f32⟩
  | 15 => ⟨S1x1, .f32⟩
  | _ => ⟨S2x10240x27, .f32⟩

abbrev hbmTy (i : Nat) : BufTy := match i / 128 with
  | 0 => hbmTy0_0 i
  | 1 => hbmTy0_1 i
  | _ => ⟨S2x10240x27, .f32⟩

abbrev bufTy : (tb : Table) → Fin (tcTables nBuf tb) → BufTy
  | .hbm, ⟨i, _⟩ => hbmTy i
  | .local _ .vmem, ⟨0, _⟩ => ⟨S1x1000x192, .f32⟩
  | .local _ .vmem, ⟨1, _⟩ => ⟨S1x1000x192, .f32⟩
  | .local _ .vmem, ⟨2, _⟩ => ⟨S1x10208x192, .bf16⟩
  | .local _ .vmem, ⟨3, _⟩ => ⟨S1x10208x192, .bf16⟩
  | .local _ .vmem, ⟨4, _⟩ => ⟨S1x1000x27, .f32⟩
  | .local _ .vmem, ⟨5, _⟩ => ⟨S1x1000x27, .f32⟩
  | .local _ .vmem, ⟨6, _⟩ => ⟨S1x10208x192, .bf16⟩
  | .local _ .vmem, ⟨7, _⟩ => ⟨S1x10208x192, .bf16⟩
  | .local _ .vmem, ⟨8, _⟩ => ⟨S1x1000x1208, .bf16⟩
  | .local _ .vmem, ⟨9, _⟩ => ⟨S1x1000x1208, .bf16⟩
  | .local _ .vmem, ⟨10, _⟩ => ⟨S2x64x64, .f32⟩
  | .local _ .vmem, ⟨11, _⟩ => ⟨S1x1, .f32⟩
  | _, _ => ⟨S2x10240x27, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_c_2 : Ref sig .tc := ⟨.hbm, 15, rfl⟩
abbrev main_v10 : Ref sig .tc := ⟨.hbm, 16, rfl⟩
abbrev main_c_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_4 : Ref sig .tc := ⟨.hbm, 22, rfl⟩
abbrev main_v15 : Ref sig .tc := ⟨.hbm, 23, rfl⟩
abbrev main_v16 : Ref sig .tc := ⟨.hbm, 24, rfl⟩
abbrev main_c_5 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_6 : Ref sig .tc := ⟨.hbm, 29, rfl⟩
abbrev main_v20 : Ref sig .tc := ⟨.hbm, 30, rfl⟩
abbrev main_v21 : Ref sig .tc := ⟨.hbm, 31, rfl⟩
abbrev main_c_7 : Ref sig .tc := ⟨.hbm, 32, rfl⟩
abbrev main_v22 : Ref sig .tc := ⟨.hbm, 33, rfl⟩
abbrev main_v23 : Ref sig .tc := ⟨.hbm, 34, rfl⟩
abbrev main_c_8 : Ref sig .tc := ⟨.hbm, 35, rfl⟩
abbrev main_v24 : Ref sig .tc := ⟨.hbm, 36, rfl⟩
abbrev main_v25 : Ref sig .tc := ⟨.hbm, 37, rfl⟩
abbrev main_c_9 : Ref sig .tc := ⟨.hbm, 38, rfl⟩
abbrev main_v26 : Ref sig .tc := ⟨.hbm, 39, rfl⟩
abbrev main_v27 : Ref sig .tc := ⟨.hbm, 40, rfl⟩
abbrev main_c_10 : Ref sig .tc := ⟨.hbm, 41, rfl⟩
abbrev main_v28 : Ref sig .tc := ⟨.hbm, 42, rfl⟩
abbrev main_v29 : Ref sig .tc := ⟨.hbm, 43, rfl⟩
abbrev main_c_11 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_12 : Ref sig .tc := ⟨.hbm, 48, rfl⟩
abbrev main_v33 : Ref sig .tc := ⟨.hbm, 49, rfl⟩
abbrev main_v34 : Ref sig .tc := ⟨.hbm, 50, rfl⟩
abbrev main_c_13 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst : Ref sig .tc := ⟨.hbm, 55, rfl⟩
abbrev main_v38 : Ref sig .tc := ⟨.hbm, 56, rfl⟩
abbrev main_cst_14 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_15 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_16 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_17 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_18 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_19 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_20 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_21 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_22 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_c_23 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_24 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_c_25 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_26 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_c_27 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_28 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109_0 : Ref sig .tc := ⟨.hbm, 142, rfl⟩
abbrev main_v109_1 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11

abbrev nD : Nat := 1
abbrev τ : Topo := Topo.v7x

variable {F : FTy → Type} [FloatOps F]

abbrev grid0 : Pipeline.Grid := ⟨2, ![2, 10], ![false, false]⟩

def k0_off1 (i : grid0.Coords) : Fin 3 → Nat :=
  let c0_2 : Index := 0#32
  let c104_i32 : BitVec 32 := 104#32
  let arg1 : BitVec 32 := BitVec.ofNat 32 (i 1).val
  let c1000_i32 : BitVec 32 := 1000#32
  let v0 : BitVec 32 := Scalar.muli arg1 c1000_i32
  let v4 : BitVec 32 := Scalar.addi c104_i32 v0
  let v5 : Index := Scalar.indexCast v4
  let c0_3 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1000x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x10208x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![2, 10], ![false, false]⟩

def k1_off1 (i : grid1.Coords) : Fin 3 → Nat :=
  let c0 : Index := 0#32
  let arg1 : BitVec 32 := BitVec.ofNat 32 (i 1).val
  let c1000_i32 : BitVec 32 := 1000#32
  let v0 : BitVec 32 := Scalar.muli arg1 c1000_i32
  let v1 : Index := Scalar.indexCast v0
  let c0_0 : Index := 0#32
  ![0, v1.toNat, 0]
def k1_cond1 (i : grid1.Coords) : BitVec 1 :=
  let arg1 : BitVec 32 := BitVec.ofNat 32 (i 1).val
  let c0_i32 : BitVec 32 := 0#32
  let v252 : BitVec 1 := Scalar.cmpi .eq arg1 c0_i32
  let v253 : BitVec 32 := Scalar.extui v252
  let c0_i32_16 : BitVec 32 := 0#32
  let v254 : BitVec 1 := Scalar.cmpi .ne v253 c0_i32_16
  v254

def k1_off2 (i : grid1.Coords) : Fin 3 → Nat :=
  let arg0 : BitVec 32 := BitVec.ofNat 32 (i 0).val
  let v264 : Index := Scalar.indexCast arg0
  let c0_20 : Index := 0#32
  let c0_21 : Index := 0#32
  ![v264.toNat, 0, 0]
def k1_cond2 (i : grid1.Coords) : BitVec 1 :=
  let arg1 : BitVec 32 := BitVec.ofNat 32 (i 1).val
  let c0_i32_17 : BitVec 32 := 0#32
  let v255 : BitVec 1 := Scalar.cmpi .sgt arg1 c0_i32_17
  let v256 : BitVec 32 := Scalar.extui v255
  let c0_i32_18 : BitVec 32 := 0#32
  let v257 : BitVec 1 := Scalar.cmpi .ne v256 c0_i32_18
  v257

def k1_off3 (i : grid1.Coords) : Fin 3 → Nat :=
  let arg0 : BitVec 32 := BitVec.ofNat 32 (i 0).val
  let v263 : Index := Scalar.indexCast arg0
  let c0_20 : Index := 0#32
  let c0_21 : Index := 0#32
  ![v263.toNat, 0, 0]
def k1_cond3 (i : grid1.Coords) : BitVec 1 :=
  let arg0 : BitVec 32 := BitVec.ofNat 32 (i 0).val
  let c1_i32 : BitVec 32 := 1#32
  let v258 : BitVec 1 := Scalar.cmpi .eq arg0 c1_i32
  let arg1 : BitVec 32 := BitVec.ofNat 32 (i 1).val
  let c9_i32 : BitVec 32 := 9#32
  let v259 : BitVec 1 := Scalar.cmpi .eq arg1 c9_i32
  let v260 : BitVec 1 := Scalar.andi v258 v259
  let v261 : BitVec 32 := Scalar.extui v260
  let c0_i32_19 : BitVec 32 := 0#32
  let v262 : BitVec 1 := Scalar.cmpi .ne v261 c0_i32_19
  v262

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c9_i32 : BitVec 32 := 9#32
  let v1 : BitVec 1 := Scalar.cmpi .eq arg1 c9_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let c0_i32_2 : BitVec 32 := 0#32
  let c0_i32_3 : BitVec 32 := 0#32
  ![v3.toNat, c0_i32_1.toNat, c0_i32_2.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1000x27 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x10208x192 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1000x1208 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S2x64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]
-- ==== NormalIdeal.lean ====
abbrev S2x10240x27 : Shape := ⟨3, ![2, 10240, 27]⟩
abbrev S2x30000x64 : Shape := ⟨3, ![2, 30000, 64]⟩
abbrev S2x10000x3x64 : Shape := ⟨4, ![2, 10000, 3, 64]⟩
abbrev S_ : Shape := ⟨0, ![]⟩
abbrev S2x10200x3x64 : Shape := ⟨4, ![2, 10200, 3, 64]⟩
abbrev S100x100 : Shape := ⟨2, ![100, 100]⟩
abbrev S102x102 : Shape := ⟨2, ![102, 102]⟩
abbrev S2x10000x1 : Shape := ⟨3, ![2, 10000, 1]⟩
abbrev S2x10000x1x64 : Shape := ⟨4, ![2, 10000, 1, 64]⟩
abbrev S2x10000x64 : Shape := ⟨3, ![2, 10000, 64]⟩
abbrev S10000x1 : Shape := ⟨2, ![10000, 1]⟩
abbrev S1x10000x1 : Shape := ⟨3, ![1, 10000, 1]⟩
abbrev S2x64x64 : Shape := ⟨3, ![2, 64, 64]⟩
abbrev S64x64 : Shape := ⟨2, ![64, 64]⟩
abbrev S1x1 : Shape := ⟨2, ![1, 1]⟩

abbrev nBuf : Space → Nat
  | .hbm => 583
  | .vmem => 0
  | .smem => 0
  | _ => 0

abbrev hbmTy0_0 (i : Nat) : BufTy := match i % 128 with
  | 0 => ⟨S2x10240x27, .f32⟩
  | 1 => ⟨S2x30000x64, .f32⟩
  | 2 => ⟨S2x10000x3x64, .f32⟩
  | 3 => ⟨S_, .i32⟩
  | 4 => ⟨S_, .f32⟩
  | 5 => ⟨S2x10200x3x64, .f32⟩
  | 6 => ⟨S_, .f32⟩
  | 7 => ⟨S100x100, .f32⟩
  | 8 => ⟨S_, .i32⟩
  | 9 => ⟨S_, .f32⟩
  | 10 => ⟨S102x102, .f32⟩
  | 11 => ⟨S2x10000x1, .f32⟩
  | 12 => ⟨S2x10000x1, .f32⟩
  | 13 => ⟨S2x10000x1, .f32⟩
  | 14 => ⟨S2x10000x1, .f32⟩
  | 15 => ⟨S2x10000x1, .f32⟩
  | 16 => ⟨S2x10000x1, .f32⟩
  | 17 => ⟨S2x10000x1, .f32⟩
  | 18 => ⟨S2x10000x1, .f32⟩
  | 19 => ⟨S2x10000x1, .f32⟩
  | 20 => ⟨S2x10000x1, .f32⟩
  | 21 => ⟨S2x10000x1, .f32⟩
  | 22 => ⟨S2x10000x1, .f32⟩
  | 23 => ⟨S2x10000x1, .f32⟩
  | 24 => ⟨S2x10000x1, .f32⟩
  | 25 => ⟨S2x10000x1, .f32⟩
  | 26 => ⟨S2x10000x1, .f32⟩
  | 27 => ⟨S2x10000x1, .f32⟩
  | 28 => ⟨S2x10000x1, .f32⟩
  | 29 => ⟨S2x10000x1, .f32⟩
  | 30 => ⟨S2x10000x1, .f32⟩
  | 31 => ⟨S2x10000x1, .f32⟩
  | 32 => ⟨S2x10000x1, .f32⟩
  | 33 => ⟨S2x10000x1, .f32⟩
  | 34 => ⟨S2x10000x1, .f32⟩
  | 35 => ⟨S2x10000x1, .f32⟩
  | 36 => ⟨S2x10000x1, .f32⟩
  | 37 => ⟨S2x10000x1, .f32⟩
  | 38 => ⟨S2x10000x1x64, .f32⟩
  | 39 => ⟨S2x10000x64, .f32⟩
  | 40 => ⟨S2x10000x1x64, .f32⟩
  | 41 => ⟨S2x10000x64, .f32⟩
  | 42 => ⟨S2x10000x1x64, .f32⟩
  | 43 => ⟨S2x10000x64, .f32⟩
  | 44 => ⟨S_, .f32⟩
  | 45 => ⟨S2x10000x64, .f32⟩
  | 46 => ⟨S2x10000x64, .f32⟩
  | 47 => ⟨S_, .f32⟩
  | 48 => ⟨S2x10000x64, .f32⟩
  | 49 => ⟨S2x10000x64, .f32⟩
  | 50 => ⟨S_, .f32⟩
  | 51 => ⟨S2x10000x64, .f32⟩
  | 52 => ⟨S2x10000x64, .f32⟩
  | 53 => ⟨S_, .f32⟩
  | 54 => ⟨S2x10000x64, .f32⟩
  | 55 => ⟨S2x10000x64, .f32⟩
  | 56 => ⟨S_, .f32⟩
  | 57 => ⟨S2x10000x64, .f32⟩
  | 58 => ⟨S2x10000x64, .f32⟩
  | 59 => ⟨S_, .f32⟩
  | 60 => ⟨S2x10000x64, .f32⟩
  | 61 => ⟨S2x10000x64, .f32⟩
  | 62 => ⟨S2x10000x1x64, .f32⟩
  | 63 => ⟨S2x10000x64, .f32⟩
  | 64 => ⟨S2x10000x1x64, .f32⟩
  | 65 => ⟨S2x10000x64, .f32⟩
  | 66 => ⟨S2x10000x1x64, .f32⟩
  | 67 => ⟨S2x10000x64, .f32⟩
  | 68 => ⟨S100x100, .f32⟩
  | 69 => ⟨S10000x1, .f32⟩
  | 70 => ⟨S2x10000x64, .f32⟩
  | 71 => ⟨S2x10000x64, .f32⟩
  | 72 => ⟨S2x10000x64, .f32⟩
  | 73 => ⟨S2x10000x64, .f32⟩
  | 74 => ⟨S2x10000x64, .f32⟩
  | 75 => ⟨S2x10000x64, .f32⟩
  | 76 => ⟨S2x10000x64, .f32⟩
  | 77 => ⟨S2x10000x64, .f32⟩
  | 78 => ⟨S2x10000x64, .f32⟩
  | 79 => ⟨S2x10000x64, .f32⟩
  | 80 => ⟨S2x10000x64, .f32⟩
  | 81 => ⟨S2x10000x64, .f32⟩
  | 82 => ⟨S2x10000x64, .f32⟩
  | 83 => ⟨S2x10000x64, .f32⟩
  | 84 => ⟨S2x10000x64, .f32⟩
  | 85 => ⟨S_, .f32⟩
  | 86 => ⟨S10000x1, .f32⟩
  | 87 => ⟨S10000x1, .f32⟩
  | 88 => ⟨S2x10000x64, .f32⟩
  | 89 => ⟨S1x10000x1, .f32⟩
  | 90 => ⟨S2x10000x64, .f32⟩
  | 91 => ⟨S2x10000x64, .f32⟩
  | 92 => ⟨S2x10000x64, .f32⟩
  | 93 => ⟨S_, .f32⟩
  | 94 => ⟨S10000x1, .f32⟩
  | 95 => ⟨S10000x1, .f32⟩
  | 96 => ⟨S2x10000x64, .f32⟩
  | 97 => ⟨S1x10000x1, .f32⟩
  | 98 => ⟨S2x10000x64, .f32⟩
  | 99 => ⟨S2x10000x64, .f32⟩
  | 100 => ⟨S2x10000x64, .f32⟩
  | 101 => ⟨S_, .f32⟩
  | 102 => ⟨S10000x1, .f32⟩
  | 103 => ⟨S10000x1, .f32⟩
  | 104 => ⟨S2x10000x64, .f32⟩
  | 105 => ⟨S1x10000x1, .f32⟩
  | 106 => ⟨S2x10000x64, .f32⟩
  | 107 => ⟨S2x10000x64, .f32⟩
  | 108 => ⟨S2x10000x64, .f32⟩
  | 109 => ⟨S2x10000x64, .f32⟩
  | 110 => ⟨S2x10000x64, .f32⟩
  | 111 => ⟨S2x10000x64, .f32⟩
  | 112 => ⟨S2x10000x1x64, .f32⟩
  | 113 => ⟨S2x10000x64, .f32⟩
  | 114 => ⟨S2x10000x1x64, .f32⟩
  | 115 => ⟨S2x10000x64, .f32⟩
  | 116 => ⟨S2x10000x1x64, .f32⟩
  | 117 => ⟨S2x10000x64, .f32⟩
  | 118 => ⟨S100x100, .f32⟩
  | 119 => ⟨S10000x1, .f32⟩
  | 120 => ⟨S2x10000x64, .f32⟩
  | 121 => ⟨S2x10000x64, .f32⟩
  | 122 => ⟨S2x10000x64, .f32⟩
  | 123 => ⟨S2x10000x64, .f32⟩
  | 124 => ⟨S2x10000x64, .f32⟩
  | 125 => ⟨S2x10000x64, .f32⟩
  | 126 => ⟨S2x10000x64, .f32⟩
  | 127 => ⟨S2x10000x64, .f32⟩
  | _ => ⟨S2x10240x27, .f32⟩

abbrev hbmTy0_1 (i : Nat) : BufTy := match i % 128 with
  | 0 => ⟨S2x10000x64, .f32⟩
  | 1 => ⟨S2x10000x64, .f32⟩
  | 2 => ⟨S2x10000x64, .f32⟩
  | 3 => ⟨S2x10000x64, .f32⟩
  | 4 => ⟨S2x10000x64, .f32⟩
  | 5 => ⟨S2x10000x64, .f32⟩
  | 6 => ⟨S2x10000x64, .f32⟩
  | 7 => ⟨S_, .f32⟩
  | 8 => ⟨S10000x1, .f32⟩
  | 9 => ⟨S10000x1, .f32⟩
  | 10 => ⟨S2x10000x64, .f32⟩
  | 11 => ⟨S1x10000x1, .f32⟩
  | 12 => ⟨S2x10000x64, .f32⟩
  | 13 => ⟨S2x10000x64, .f32⟩
  | 14 => ⟨S2x10000x64, .f32⟩
  | 15 => ⟨S_, .f32⟩
  | 16 => ⟨S10000x1, .f32⟩
  | 17 => ⟨S10000x1, .f32⟩
  | 18 => ⟨S2x10000x64, .f32⟩
  | 19 => ⟨S1x10000x1, .f32⟩
  | 20 => ⟨S2x10000x64, .f32⟩
  | 21 => ⟨S2x10000x64, .f32⟩
  | 22 => ⟨S2x10000x64, .f32⟩
  | 23 => ⟨S_, .f32⟩
  | 24 => ⟨S10000x1, .f32⟩
  | 25 => ⟨S10000x1, .f32⟩
  | 26 => ⟨S2x10000x64, .f32⟩
  | 27 => ⟨S1x10000x1, .f32⟩
  | 28 => ⟨S2x10000x64, .f32⟩
  | 29 => ⟨S2x10000x64, .f32⟩
  | 30 => ⟨S2x10000x64, .f32⟩
  | 31 => ⟨S2x10000x64, .f32⟩
  | 32 => ⟨S2x10000x64, .f32⟩
  | 33 => ⟨S2x10000x64, .f32⟩
  | 34 => ⟨S2x10000x1x64, .f32⟩
  | 35 => ⟨S2x10000x64, .f32⟩
  | 36 => ⟨S2x10000x1x64, .f32⟩
  | 37 => ⟨S2x10000x64, .f32⟩
  | 38 => ⟨S2x10000x1x64, .f32⟩
  | 39 => ⟨S2x10000x64, .f32⟩
  | 40 => ⟨S100x100, .f32⟩
  | 41 => ⟨S10000x1, .f32⟩
  | 42 => ⟨S2x10000x64, .f32⟩
  | 43 => ⟨S2x10000x64, .f32⟩
  | 44 => ⟨S2x10000x64, .f32⟩
  | 45 => ⟨S2x10000x64, .f32⟩
  | 46 => ⟨S2x10000x64, .f32⟩
  | 47 => ⟨S2x10000x64, .f32⟩
  | 48 => ⟨S2x10000x64, .f32⟩
  | 49 => ⟨S2x10000x64, .f32⟩
  | 50 => ⟨S2x10000x64, .f32⟩
  | 51 => ⟨S2x10000x64, .f32⟩
  | 52 => ⟨S2x10000x64, .f32⟩
  | 53 => ⟨S2x10000x64, .f32⟩
  | 54 => ⟨S2x10000x64, .f32⟩
  | 55 => ⟨S2x10000x64, .f32⟩
  | 56 => ⟨S2x10000x64, .f32⟩
  | 57 => ⟨S_, .f32⟩
  | 58 => ⟨S10000x1, .f32⟩
  | 59 => ⟨S10000x1, .f32⟩
  | 60 => ⟨S2x10000x64, .f32⟩
  | 61 => ⟨S1x10000x1, .f32⟩
  | 62 => ⟨S2x10000x64, .f32⟩
  | 63 => ⟨S2x10000x64, .f32⟩
  | 64 => ⟨S2x10000x64, .f32⟩
  | 65 => ⟨S_, .f32⟩
  | 66 => ⟨S10000x1, .f32⟩
  | 67 => ⟨S10000x1, .f32⟩
  | 68 => ⟨S2x10000x64, .f32⟩
  | 69 => ⟨S1x10000x1, .f32⟩
  | 70 => ⟨S2x10000x64, .f32⟩
  | 71 => ⟨S2x10000x64, .f32⟩
  | 72 => ⟨S2x10000x64, .f32⟩
  | 73 => ⟨S_, .f32⟩
  | 74 => ⟨S10000x1, .f32⟩
  | 75 => ⟨S10000x1, .f32⟩
  | 76 => ⟨S2x10000x64, .f32⟩
  | 77 => ⟨S1x10000x1, .f32⟩
  | 78 => ⟨S2x10000x64, .f32⟩
  | 79 => ⟨S2x10000x64, .f32⟩
  | 80 => ⟨S2x10000x64, .f32⟩
  | 81 => ⟨S2x10000x64, .f32⟩
  | 82 => ⟨S2x10000x64, .f32⟩
  | 83 => ⟨S2x10000x64, .f32⟩
  | 84 => ⟨S2x10000x1x64, .f32⟩
  | 85 => ⟨S2x10000x64, .f32⟩
  | 86 => ⟨S2x10000x1x64, .f32⟩
  | 87 => ⟨S2x10000x64, .f32⟩
  | 88 => ⟨S2x10000x1x64, .f32⟩
  | 89 => ⟨S2x10000x64, .f32⟩
  | 90 => ⟨S100x100, .f32⟩
  | 91 => ⟨S10000x1, .f32⟩
  | 92 => ⟨S2x10000x64, .f32⟩
  | 93 => ⟨S2x10000x64, .f32⟩
  | 94 => ⟨S2x10000x64, .f32⟩
  | 95 => ⟨S2x10000x64, .f32⟩
  | 96 => ⟨S2x10000x64, .f32⟩
  | 97 => ⟨S2x10000x64, .f32⟩
  | 98 => ⟨S2x10000x64, .f32⟩
  | 99 => ⟨S2x10000x64, .f32⟩
  | 100 => ⟨S2x10000x64, .f32⟩
  | 101 => ⟨S2x10000x64, .f32⟩
  | 102 => ⟨S2x10000x64, .f32⟩
  | 103 => ⟨S2x10000x64, .f32⟩
  | 104 => ⟨S2x10000x64, .f32⟩
  | 105 => ⟨S2x10000x64, .f32⟩
  | 106 => ⟨S2x10000x64, .f32⟩
  | 107 => ⟨S_, .f32⟩
  | 108 => ⟨S10000x1, .f32⟩
  | 109 => ⟨S10000x1, .f32⟩
  | 110 => ⟨S2x10000x64, .f32⟩
  | 111 => ⟨S1x10000x1, .f32⟩
  | 112 => ⟨S2x10000x64, .f32⟩
  | 113 => ⟨S2x10000x64, .f32⟩
  | 114 => ⟨S2x10000x64, .f32⟩
  | 115 => ⟨S_, .f32⟩
  | 116 => ⟨S10000x1, .f32⟩
  | 117 => ⟨S10000x1, .f32⟩
  | 118 => ⟨S2x10000x64, .f32⟩
  | 119 => ⟨S1x10000x1, .f32⟩
  | 120 => ⟨S2x10000x64, .f32⟩
  | 121 => ⟨S2x10000x64, .f32⟩
  | 122 => ⟨S2x10000x64, .f32⟩
  | 123 => ⟨S_, .f32⟩
  | 124 => ⟨S10000x1, .f32⟩
  | 125 => ⟨S10000x1, .f32⟩
  | 126 => ⟨S2x10000x64, .f32⟩
  | 127 => ⟨S1x10000x1, .f32⟩
  | _ => ⟨S2x10240x27, .f32⟩

abbrev hbmTy0_2 (i : Nat) : BufTy := match i % 128 with
  | 0 => ⟨S2x10000x64, .f32⟩
  | 1 => ⟨S2x10000x64, .f32⟩
  | 2 => ⟨S2x10000x64, .f32⟩
  | 3 => ⟨S2x10000x64, .f32⟩
  | 4 => ⟨S2x10000x64, .f32⟩
  | 5 => ⟨S2x10000x64, .f32⟩
  | 6 => ⟨S2x10000x1x64, .f32⟩
  | 7 => ⟨S2x10000x64, .f32⟩
  | 8 => ⟨S2x10000x1x64, .f32⟩
  | 9 => ⟨S2x10000x64, .f32⟩
  | 10 => ⟨S2x10000x1x64, .f32⟩
  | 11 => ⟨S2x10000x64, .f32⟩
  | 12 => ⟨S100x100, .f32⟩
  | 13 => ⟨S10000x1, .f32⟩
  | 14 => ⟨S2x10000x64, .f32⟩
  | 15 => ⟨S2x10000x64, .f32⟩
  | 16 => ⟨S2x10000x64, .f32⟩
  | 17 => ⟨S2x10000x64, .f32⟩
  | 18 => ⟨S2x10000x64, .f32⟩
  | 19 => ⟨S2x10000x64, .f32⟩
  | 20 => ⟨S2x10000x64, .f32⟩
  | 21 => ⟨S2x10000x64, .f32⟩
  | 22 => ⟨S2x10000x64, .f32⟩
  | 23 => ⟨S2x10000x64, .f32⟩
  | 24 => ⟨S2x10000x64, .f32⟩
  | 25 => ⟨S2x10000x64, .f32⟩
  | 26 => ⟨S2x10000x64, .f32⟩
  | 27 => ⟨S2x10000x64, .f32⟩
  | 28 => ⟨S2x10000x64, .f32⟩
  | 29 => ⟨S_, .f32⟩
  | 30 => ⟨S10000x1, .f32⟩
  | 31 => ⟨S10000x1, .f32⟩
  | 32 => ⟨S2x10000x64, .f32⟩
  | 33 => ⟨S1x10000x1, .f32⟩
  | 34 => ⟨S2x10000x64, .f32⟩
  | 35 => ⟨S2x10000x64, .f32⟩
  | 36 => ⟨S2x10000x64, .f32⟩
  | 37 => ⟨S_, .f32⟩
  | 38 => ⟨S10000x1, .f32⟩
  | 39 => ⟨S10000x1, .f32⟩
  | 40 => ⟨S2x10000x64, .f32⟩
  | 41 => ⟨S1x10000x1, .f32⟩
  | 42 => ⟨S2x10000x64, .f32⟩
  | 43 => ⟨S2x10000x64, .f32⟩
  | 44 => ⟨S2x10000x64, .f32⟩
  | 45 => ⟨S_, .f32⟩
  | 46 => ⟨S10000x1, .f32⟩
  | 47 => ⟨S10000x1, .f32⟩
  | 48 => ⟨S2x10000x64, .f32⟩
  | 49 => ⟨S1x10000x1, .f32⟩
  | 50 => ⟨S2x10000x64, .f32⟩
  | 51 => ⟨S2x10000x64, .f32⟩
  | 52 => ⟨S2x10000x64, .f32⟩
  | 53 => ⟨S2x10000x64, .f32⟩
  | 54 => ⟨S2x10000x64, .f32⟩
  | 55 => ⟨S2x10000x64, .f32⟩
  | 56 => ⟨S2x10000x1x64, .f32⟩
  | 57 => ⟨S2x10000x64, .f32⟩
  | 58 => ⟨S2x10000x1x64, .f32⟩
  | 59 => ⟨S2x10000x64, .f32⟩
  | 60 => ⟨S2x10000x1x64, .f32⟩
  | 61 => ⟨S2x10000x64, .f32⟩
  | 62 => ⟨S100x100, .f32⟩
  | 63 => ⟨S10000x1, .f32⟩
  | 64 => ⟨S2x10000x64, .f32⟩
  | 65 => ⟨S2x10000x64, .f32⟩
  | 66 => ⟨S2x10000x64, .f32⟩
  | 67 => ⟨S2x10000x64, .f32⟩
  | 68 => ⟨S2x10000x64, .f32⟩
  | 69 => ⟨S2x10000x64, .f32⟩
  | 70 => ⟨S2x10000x64, .f32⟩
  | 71 => ⟨S2x10000x64, .f32⟩
  | 72 => ⟨S2x10000x64, .f32⟩
  | 73 => ⟨S2x10000x64, .f32⟩
  | 74 => ⟨S2x10000x64, .f32⟩
  | 75 => ⟨S2x10000x64, .f32⟩
  | 76 => ⟨S2x10000x64, .f32⟩
  | 77 => ⟨S2x10000x64, .f32⟩
  | 78 => ⟨S2x10000x64, .f32⟩
  | 79 => ⟨S_, .f32⟩
  | 80 => ⟨S10000x1, .f32⟩
  | 81 => ⟨S10000x1, .f32⟩
  | 82 => ⟨S2x10000x64, .f32⟩
  | 83 => ⟨S1x10000x1, .f32⟩
  | 84 => ⟨S2x10000x64, .f32⟩
  | 85 => ⟨S2x10000x64, .f32⟩
  | 86 => ⟨S2x10000x64, .f32⟩
  | 87 => ⟨S_, .f32⟩
  | 88 => ⟨S10000x1, .f32⟩
  | 89 => ⟨S10000x1, .f32⟩
  | 90 => ⟨S2x10000x64, .f32⟩
  | 91 => ⟨S1x10000x1, .f32⟩
  | 92 => ⟨S2x10000x64, .f32⟩
  | 93 => ⟨S2x10000x64, .f32⟩
  | 94 => ⟨S2x10000x64, .f32⟩
  | 95 => ⟨S_, .f32⟩
  | 96 => ⟨S10000x1, .f32⟩
  | 97 => ⟨S10000x1, .f32⟩
  | 98 => ⟨S2x10000x64, .f32⟩
  | 99 => ⟨S1x10000x1, .f32⟩
  | 100 => ⟨S2x10000x64, .f32⟩
  | 101 => ⟨S2x10000x64, .f32⟩
  | 102 => ⟨S2x10000x64, .f32⟩
  | 103 => ⟨S2x10000x64, .f32⟩
  | 104 => ⟨S2x10000x64, .f32⟩
  | 105 => ⟨S2x10000x64, .f32⟩
  | 106 => ⟨S2x10000x64, .f32⟩
  | 107 => ⟨S2x10000x64, .f32⟩
  | 108 => ⟨S2x10000x64, .f32⟩
  | 109 => ⟨S2x10000x64, .f32⟩
  | 110 => ⟨S2x10000x64, .f32⟩
  | 111 => ⟨S2x10000x64, .f32⟩
  | 112 => ⟨S2x10000x64, .f32⟩
  | 113 => ⟨S2x10000x64, .f32⟩
  | 114 => ⟨S2x10000x64, .f32⟩
  | 115 => ⟨S2x10000x64, .f32⟩
  | 116 => ⟨S2x10000x64, .f32⟩
  | 117 => ⟨S2x10000x64, .f32⟩
  | 118 => ⟨S2x10000x64, .f32⟩
  | 119 => ⟨S2x10000x64, .f32⟩
  | 120 => ⟨S2x10000x64, .f32⟩
  | 121 => ⟨S2x10000x64, .f32⟩
  | 122 => ⟨S2x10000x64, .f32⟩
  | 123 => ⟨S2x10000x64, .f32⟩
  | 124 => ⟨S2x10000x64, .f32⟩
  | 125 => ⟨S2x10000x64, .f32⟩
  | 126 => ⟨S2x10000x64, .f32⟩
  | 127 => ⟨S2x10000x64, .f32⟩
  | _ => ⟨S2x10240x27, .f32⟩

abbrev hbmTy0_3 (i : Nat) : BufTy := match i % 128 with
  | 0 => ⟨S2x10000x64, .f32⟩
  | 1 => ⟨S2x10000x64, .f32⟩
  | 2 => ⟨S2x10000x64, .f32⟩
  | 3 => ⟨S2x10000x64, .f32⟩
  | 4 => ⟨S2x10000x64, .f32⟩
  | 5 => ⟨S2x10000x64, .f32⟩
  | 6 => ⟨S2x10000x64, .f32⟩
  | 7 => ⟨S2x10000x64, .f32⟩
  | 8 => ⟨S2x10000x64, .f32⟩
  | 9 => ⟨S2x10000x64, .f32⟩
  | 10 => ⟨S2x10000x64, .f32⟩
  | 11 => ⟨S2x10000x64, .f32⟩
  | 12 => ⟨S2x10000x64, .f32⟩
  | 13 => ⟨S2x10000x64, .f32⟩
  | 14 => ⟨S2x10000x64, .f32⟩
  | 15 => ⟨S2x10000x64, .f32⟩
  | 16 => ⟨S2x10000x64, .f32⟩
  | 17 => ⟨S2x10000x64, .f32⟩
  | 18 => ⟨S2x10000x64, .f32⟩
  | 19 => ⟨S2x10000x64, .f32⟩
  | 20 => ⟨S2x64x64, .f32⟩
  | 21 => ⟨S_, .f32⟩
  | 22 => ⟨S2x64x64, .f32⟩
  | 23 => ⟨S2x64x64, .f32⟩
  | 24 => ⟨S2x64x64, .f32⟩
  | 25 => ⟨S2x64x64, .f32⟩
  | 26 => ⟨S2x64x64, .f32⟩
  | 27 => ⟨S2x64x64, .f32⟩
  | 28 => ⟨S2x64x64, .f32⟩
  | 29 => ⟨S_, .f32⟩
  | 30 => ⟨S2x64x64, .f32⟩
  | 31 => ⟨S2x64x64, .f32⟩
  | 32 => ⟨S2x64x64, .f32⟩
  | 33 => ⟨S2x64x64, .f32⟩
  | 34 => ⟨S2x64x64, .f32⟩
  | 35 => ⟨S2x64x64, .f32⟩
  | 36 => ⟨S2x64x64, .f32⟩
  | 37 => ⟨S2x64x64, .f32⟩
  | 38 => ⟨S_, .f32⟩
  | 39 => ⟨S_, .f32⟩
  | 40 => ⟨S_, .f32⟩
  | 41 => ⟨S64x64, .i32⟩
  | 42 => ⟨S64x64, .i32⟩
  | 43 => ⟨S_, .i32⟩
  | 44 => ⟨S64x64, .i32⟩
  | 45 => ⟨S64x64, .i32⟩
  | 46 => ⟨S64x64, .i1⟩
  | 47 => ⟨S64x64, .f32⟩
  | 48 => ⟨S2x64x64, .f32⟩
  | 49 => ⟨S2x64x64, .f32⟩
  | 50 => ⟨S2x64x64, .f32⟩
  | 51 => ⟨S_, .f32⟩
  | 52 => ⟨S2x64x64, .f32⟩
  | 53 => ⟨S2x64x64, .f32⟩
  | 54 => ⟨S2x64x64, .f32⟩
  | 55 => ⟨S_, .f32⟩
  | 56 => ⟨S2x64x64, .f32⟩
  | 57 => ⟨S2x64x64, .f32⟩
  | 58 => ⟨S2x64x64, .f32⟩
  | 59 => ⟨S2x64x64, .f32⟩
  | 60 => ⟨S2x64x64, .f32⟩
  | 61 => ⟨S_, .f32⟩
  | 62 => ⟨S2x64x64, .f32⟩
  | 63 => ⟨S2x64x64, .f32⟩
  | 64 => ⟨S2x64x64, .f32⟩
  | 65 => ⟨S_, .f32⟩
  | 66 => ⟨S2x64x64, .f32⟩
  | 67 => ⟨S2x64x64, .f32⟩
  | 68 => ⟨S2x64x64, .f32⟩
  | 69 => ⟨S2x64x64, .f32⟩
  | 70 => ⟨S2x64x64, .f32⟩
  | 71 => ⟨S_, .f32⟩
  | 72 => ⟨S2x64x64, .f32⟩
  | 73 => ⟨S2x64x64, .f32⟩
  | 74 => ⟨S2x64x64, .f32⟩
  | 75 => ⟨S_, .f32⟩
  | 76 => ⟨S2x64x64, .f32⟩
  | 77 => ⟨S2x64x64, .f32⟩
  | 78 => ⟨S2x64x64, .f32⟩
  | 79 => ⟨S2x64x64, .f32⟩
  | 80 => ⟨S2x64x64, .f32⟩
  | 81 => ⟨S_, .f32⟩
  | 82 => ⟨S2x64x64, .f32⟩
  | 83 => ⟨S2x64x64, .f32⟩
  | 84 => ⟨S2x64x64, .f32⟩
  | 85 => ⟨S_, .f32⟩
  | 86 => ⟨S2x64x64, .f32⟩
  | 87 => ⟨S2x64x64, .f32⟩
  | 88 => ⟨S2x64x64, .f32⟩
  | 89 => ⟨S2x64x64, .f32⟩
  | 90 => ⟨S2x64x64, .f32⟩
  | 91 => ⟨S_, .f32⟩
  | 92 => ⟨S2x64x64, .f32⟩
  | 93 => ⟨S2x64x64, .f32⟩
  | 94 => ⟨S2x64x64, .f32⟩
  | 95 => ⟨S_, .f32⟩
  | 96 => ⟨S2x64x64, .f32⟩
  | 97 => ⟨S2x64x64, .f32⟩
  | 98 => ⟨S2x64x64, .f32⟩
  | 99 => ⟨S2x64x64, .f32⟩
  | 100 => ⟨S2x64x64, .f32⟩
  | 101 => ⟨S_, .f32⟩
  | 102 => ⟨S2x64x64, .f32⟩
  | 103 => ⟨S2x64x64, .f32⟩
  | 104 => ⟨S2x64x64, .f32⟩
  | 105 => ⟨S_, .f32⟩
  | 106 => ⟨S2x64x64, .f32⟩
  | 107 => ⟨S2x64x64, .f32⟩
  | 108 => ⟨S2x64x64, .f32⟩
  | 109 => ⟨S2x64x64, .f32⟩
  | 110 => ⟨S2x64x64, .f32⟩
  | 111 => ⟨S_, .f32⟩
  | 112 => ⟨S2x64x64, .f32⟩
  | 113 => ⟨S2x64x64, .f32⟩
  | 114 => ⟨S2x64x64, .f32⟩
  | 115 => ⟨S_, .f32⟩
  | 116 => ⟨S2x64x64, .f32⟩
  | 117 => ⟨S2x64x64, .f32⟩
  | 118 => ⟨S2x64x64, .f32⟩
  | 119 => ⟨S2x64x64, .f32⟩
  | 120 => ⟨S2x64x64, .f32⟩
  | 121 => ⟨S_, .f32⟩
  | 122 => ⟨S2x64x64, .f32⟩
  | 123 => ⟨S2x64x64, .f32⟩
  | 124 => ⟨S2x64x64, .f32⟩
  | 125 => ⟨S_, .f32⟩
  | 126 => ⟨S2x64x64, .f32⟩
  | 127 => ⟨S2x64x64, .f32⟩
  | _ => ⟨S2x10240x27, .f32⟩

abbrev hbmTy0_4 (i : Nat) : BufTy := match i % 128 with
  | 0 => ⟨S2x64x64, .f32⟩
  | 1 => ⟨S2x64x64, .f32⟩
  | 2 => ⟨S2x64x64, .f32⟩
  | 3 => ⟨S_, .f32⟩
  | 4 => ⟨S2x64x64, .f32⟩
  | 5 => ⟨S2x64x64, .f32⟩
  | 6 => ⟨S2x64x64, .f32⟩
  | 7 => ⟨S_, .f32⟩
  | 8 => ⟨S2x64x64, .f32⟩
  | 9 => ⟨S2x64x64, .f32⟩
  | 10 => ⟨S2x64x64, .f32⟩
  | 11 => ⟨S2x64x64, .f32⟩
  | 12 => ⟨S2x64x64, .f32⟩
  | 13 => ⟨S_, .f32⟩
  | 14 => ⟨S2x64x64, .f32⟩
  | 15 => ⟨S2x64x64, .f32⟩
  | 16 => ⟨S2x64x64, .f32⟩
  | 17 => ⟨S_, .f32⟩
  | 18 => ⟨S2x64x64, .f32⟩
  | 19 => ⟨S2x64x64, .f32⟩
  | 20 => ⟨S2x64x64, .f32⟩
  | 21 => ⟨S2x64x64, .f32⟩
  | 22 => ⟨S2x64x64, .f32⟩
  | 23 => ⟨S_, .f32⟩
  | 24 => ⟨S2x64x64, .f32⟩
  | 25 => ⟨S2x64x64, .f32⟩
  | 26 => ⟨S2x64x64, .f32⟩
  | 27 => ⟨S_, .f32⟩
  | 28 => ⟨S2x64x64, .f32⟩
  | 29 => ⟨S2x64x64, .f32⟩
  | 30 => ⟨S2x64x64, .f32⟩
  | 31 => ⟨S2x64x64, .f32⟩
  | 32 => ⟨S2x64x64, .f32⟩
  | 33 => ⟨S_, .f32⟩
  | 34 => ⟨S2x64x64, .f32⟩
  | 35 => ⟨S2x64x64, .f32⟩
  | 36 => ⟨S2x64x64, .f32⟩
  | 37 => ⟨S_, .f32⟩
  | 38 => ⟨S2x64x64, .f32⟩
  | 39 => ⟨S2x64x64, .f32⟩
  | 40 => ⟨S2x64x64, .f32⟩
  | 41 => ⟨S2x64x64, .f32⟩
  | 42 => ⟨S2x64x64, .f32⟩
  | 43 => ⟨S_, .f32⟩
  | 44 => ⟨S2x64x64, .f32⟩
  | 45 => ⟨S2x64x64, .f32⟩
  | 46 => ⟨S2x64x64, .f32⟩
  | 47 => ⟨S_, .f32⟩
  | 48 => ⟨S2x64x64, .f32⟩
  | 49 => ⟨S2x64x64, .f32⟩
  | 50 => ⟨S2x64x64, .f32⟩
  | 51 => ⟨S2x64x64, .f32⟩
  | 52 => ⟨S2x64x64, .f32⟩
  | 53 => ⟨S_, .f32⟩
  | 54 => ⟨S2x64x64, .f32⟩
  | 55 => ⟨S2x64x64, .f32⟩
  | 56 => ⟨S2x64x64, .f32⟩
  | 57 => ⟨S_, .f32⟩
  | 58 => ⟨S2x64x64, .f32⟩
  | 59 => ⟨S2x64x64, .f32⟩
  | 60 => ⟨S2x64x64, .f32⟩
  | 61 => ⟨S2x64x64, .f32⟩
  | 62 => ⟨S2x64x64, .f32⟩
  | 63 => ⟨S_, .f32⟩
  | 64 => ⟨S2x64x64, .f32⟩
  | 65 => ⟨S_, .f32⟩
  | 66 => ⟨S_, .f32⟩
  | 67 => ⟨S_, .f32⟩
  | 68 => ⟨S_, .f32⟩
  | 69 => ⟨S_, .f32⟩
  | 70 => ⟨S1x1, .f32⟩
  | _ => ⟨S2x10240x27, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2x10240x27, .f32⟩

abbrev bufTy : (tb : Table) → Fin (tcTables nBuf tb) → BufTy
  | .hbm, ⟨i, _⟩ => hbmTy i
  | _, _ => ⟨S2x10240x27, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_1 : Ref sig .tc := ⟨.hbm, 44, rfl⟩
abbrev main_v37 : Ref sig .tc := ⟨.hbm, 45, rfl⟩
abbrev main_v38 : Ref sig .tc := ⟨.hbm, 46, rfl⟩
abbrev main_cst_2 : Ref sig .tc := ⟨.hbm, 47, rfl⟩
abbrev main_v39 : Ref sig .tc := ⟨.hbm, 48, rfl⟩
abbrev main_v40 : Ref sig .tc := ⟨.hbm, 49, rfl⟩
abbrev main_cst_3 : Ref sig .tc := ⟨.hbm, 50, rfl⟩
abbrev main_v41 : Ref sig .tc := ⟨.hbm, 51, rfl⟩
abbrev main_v42 : Ref sig .tc := ⟨.hbm, 52, rfl⟩
abbrev main_cst_4 : Ref sig .tc := ⟨.hbm, 53, rfl⟩
abbrev main_v43 : Ref sig .tc := ⟨.hbm, 54, rfl⟩
abbrev main_v44 : Ref sig .tc := ⟨.hbm, 55, rfl⟩
abbrev main_cst_5 : Ref sig .tc := ⟨.hbm, 56, rfl⟩
abbrev main_v45 : Ref sig .tc := ⟨.hbm, 57, rfl⟩
abbrev main_v46 : Ref sig .tc := ⟨.hbm, 58, rfl⟩
abbrev main_cst_6 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_cst_7 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_cst_8 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_cst_9 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_cst_10 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_cst_11 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_cst_12 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_cst_13 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩
abbrev main_v171 : Ref sig .tc := ⟨.hbm, 191, rfl⟩
abbrev main_v172 : Ref sig .tc := ⟨.hbm, 192, rfl⟩
abbrev main_cst_14 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_cst_15 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_v196 : Ref sig .tc := ⟨.hbm, 218, rfl⟩
abbrev main_v197 : Ref sig .tc := ⟨.hbm, 219, rfl⟩
abbrev main_v198 : Ref sig .tc := ⟨.hbm, 220, rfl⟩
abbrev main_v199 : Ref sig .tc := ⟨.hbm, 221, rfl⟩
abbrev main_v200 : Ref sig .tc := ⟨.hbm, 222, rfl⟩
abbrev main_v201 : Ref sig .tc := ⟨.hbm, 223, rfl⟩
abbrev main_v202 : Ref sig .tc := ⟨.hbm, 224, rfl⟩
abbrev main_v203 : Ref sig .tc := ⟨.hbm, 225, rfl⟩
abbrev main_v204 : Ref sig .tc := ⟨.hbm, 226, rfl⟩
abbrev main_v205 : Ref sig .tc := ⟨.hbm, 227, rfl⟩
abbrev main_v206 : Ref sig .tc := ⟨.hbm, 228, rfl⟩
abbrev main_v207 : Ref sig .tc := ⟨.hbm, 229, rfl⟩
abbrev main_v208 : Ref sig .tc := ⟨.hbm, 230, rfl⟩
abbrev main_v209 : Ref sig .tc := ⟨.hbm, 231, rfl⟩
abbrev main_v210 : Ref sig .tc := ⟨.hbm, 232, rfl⟩
abbrev main_v211 : Ref sig .tc := ⟨.hbm, 233, rfl⟩
abbrev main_v212 : Ref sig .tc := ⟨.hbm, 234, rfl⟩
abbrev main_cst_16 : Ref sig .tc := ⟨.hbm, 235, rfl⟩
abbrev main_v213 : Ref sig .tc := ⟨.hbm, 236, rfl⟩
abbrev main_v214 : Ref sig .tc := ⟨.hbm, 237, rfl⟩
abbrev main_v215 : Ref sig .tc := ⟨.hbm, 238, rfl⟩
abbrev main_v216 : Ref sig .tc := ⟨.hbm, 239, rfl⟩
abbrev main_v217 : Ref sig .tc := ⟨.hbm, 240, rfl⟩
abbrev main_v218 : Ref sig .tc := ⟨.hbm, 241, rfl⟩
abbrev main_v219 : Ref sig .tc := ⟨.hbm, 242, rfl⟩
abbrev main_cst_17 : Ref sig .tc := ⟨.hbm, 243, rfl⟩
abbrev main_v220 : Ref sig .tc := ⟨.hbm, 244, rfl⟩
abbrev main_v221 : Ref sig .tc := ⟨.hbm, 245, rfl⟩
abbrev main_v222 : Ref sig .tc := ⟨.hbm, 246, rfl⟩
abbrev main_v223 : Ref sig .tc := ⟨.hbm, 247, rfl⟩
abbrev main_v224 : Ref sig .tc := ⟨.hbm, 248, rfl⟩
abbrev main_v225 : Ref sig .tc := ⟨.hbm, 249, rfl⟩
abbrev main_v226 : Ref sig .tc := ⟨.hbm, 250, rfl⟩
abbrev main_cst_18 : Ref sig .tc := ⟨.hbm, 251, rfl⟩
abbrev main_v227 : Ref sig .tc := ⟨.hbm, 252, rfl⟩
abbrev main_v228 : Ref sig .tc := ⟨.hbm, 253, rfl⟩
abbrev main_v229 : Ref sig .tc := ⟨.hbm, 254, rfl⟩
abbrev main_v230 : Ref sig .tc := ⟨.hbm, 255, rfl⟩
abbrev main_v231 : Ref sig .tc := ⟨.hbm, 256, rfl⟩
abbrev main_v232 : Ref sig .tc := ⟨.hbm, 257, rfl⟩
abbrev main_v233 : Ref sig .tc := ⟨.hbm, 258, rfl⟩
abbrev main_v234 : Ref sig .tc := ⟨.hbm, 259, rfl⟩
abbrev main_v235 : Ref sig .tc := ⟨.hbm, 260, rfl⟩
abbrev main_v236 : Ref sig .tc := ⟨.hbm, 261, rfl⟩
abbrev main_v237 : Ref sig .tc := ⟨.hbm, 262, rfl⟩
abbrev main_v238 : Ref sig .tc := ⟨.hbm, 263, rfl⟩
abbrev main_v239 : Ref sig .tc := ⟨.hbm, 264, rfl⟩
abbrev main_v240 : Ref sig .tc := ⟨.hbm, 265, rfl⟩
abbrev main_v241 : Ref sig .tc := ⟨.hbm, 266, rfl⟩
abbrev main_v242 : Ref sig .tc := ⟨.hbm, 267, rfl⟩
abbrev main_v243 : Ref sig .tc := ⟨.hbm, 268, rfl⟩
abbrev main_v244 : Ref sig .tc := ⟨.hbm, 269, rfl⟩
abbrev main_v245 : Ref sig .tc := ⟨.hbm, 270, rfl⟩
abbrev main_v246 : Ref sig .tc := ⟨.hbm, 271, rfl⟩
abbrev main_v247 : Ref sig .tc := ⟨.hbm, 272, rfl⟩
abbrev main_v248 : Ref sig .tc := ⟨.hbm, 273, rfl⟩
abbrev main_v249 : Ref sig .tc := ⟨.hbm, 274, rfl⟩
abbrev main_v250 : Ref sig .tc := ⟨.hbm, 275, rfl⟩
abbrev main_v251 : Ref sig .tc := ⟨.hbm, 276, rfl⟩
abbrev main_v252 : Ref sig .tc := ⟨.hbm, 277, rfl⟩
abbrev main_v253 : Ref sig .tc := ⟨.hbm, 278, rfl⟩
abbrev main_v254 : Ref sig .tc := ⟨.hbm, 279, rfl⟩
abbrev main_v255 : Ref sig .tc := ⟨.hbm, 280, rfl⟩
abbrev main_v256 : Ref sig .tc := ⟨.hbm, 281, rfl⟩
abbrev main_v257 : Ref sig .tc := ⟨.hbm, 282, rfl⟩
abbrev main_v258 : Ref sig .tc := ⟨.hbm, 283, rfl⟩
abbrev main_v259 : Ref sig .tc := ⟨.hbm, 284, rfl⟩
abbrev main_cst_19 : Ref sig .tc := ⟨.hbm, 285, rfl⟩
abbrev main_v260 : Ref sig .tc := ⟨.hbm, 286, rfl⟩
abbrev main_v261 : Ref sig .tc := ⟨.hbm, 287, rfl⟩
abbrev main_v262 : Ref sig .tc := ⟨.hbm, 288, rfl⟩
abbrev main_v263 : Ref sig .tc := ⟨.hbm, 289, rfl⟩
abbrev main_v264 : Ref sig .tc := ⟨.hbm, 290, rfl⟩
abbrev main_v265 : Ref sig .tc := ⟨.hbm, 291, rfl⟩
abbrev main_v266 : Ref sig .tc := ⟨.hbm, 292, rfl⟩
abbrev main_cst_20 : Ref sig .tc := ⟨.hbm, 293, rfl⟩
abbrev main_v267 : Ref sig .tc := ⟨.hbm, 294, rfl⟩
abbrev main_v268 : Ref sig .tc := ⟨.hbm, 295, rfl⟩
abbrev main_v269 : Ref sig .tc := ⟨.hbm, 296, rfl⟩
abbrev main_v270 : Ref sig .tc := ⟨.hbm, 297, rfl⟩
abbrev main_v271 : Ref sig .tc := ⟨.hbm, 298, rfl⟩
abbrev main_v272 : Ref sig .tc := ⟨.hbm, 299, rfl⟩
abbrev main_v273 : Ref sig .tc := ⟨.hbm, 300, rfl⟩
abbrev main_cst_21 : Ref sig .tc := ⟨.hbm, 301, rfl⟩
abbrev main_v274 : Ref sig .tc := ⟨.hbm, 302, rfl⟩
abbrev main_v275 : Ref sig .tc := ⟨.hbm, 303, rfl⟩
abbrev main_v276 : Ref sig .tc := ⟨.hbm, 304, rfl⟩
abbrev main_v277 : Ref sig .tc := ⟨.hbm, 305, rfl⟩
abbrev main_v278 : Ref sig .tc := ⟨.hbm, 306, rfl⟩
abbrev main_v279 : Ref sig .tc := ⟨.hbm, 307, rfl⟩
abbrev main_v280 : Ref sig .tc := ⟨.hbm, 308, rfl⟩
abbrev main_v281 : Ref sig .tc := ⟨.hbm, 309, rfl⟩
abbrev main_v282 : Ref sig .tc := ⟨.hbm, 310, rfl⟩
abbrev main_v283 : Ref sig .tc := ⟨.hbm, 311, rfl⟩
abbrev main_v284 : Ref sig .tc := ⟨.hbm, 312, rfl⟩
abbrev main_v285 : Ref sig .tc := ⟨.hbm, 313, rfl⟩
abbrev main_v286 : Ref sig .tc := ⟨.hbm, 314, rfl⟩
abbrev main_v287 : Ref sig .tc := ⟨.hbm, 315, rfl⟩
abbrev main_v288 : Ref sig .tc := ⟨.hbm, 316, rfl⟩
abbrev main_v289 : Ref sig .tc := ⟨.hbm, 317, rfl⟩
abbrev main_v290 : Ref sig .tc := ⟨.hbm, 318, rfl⟩
abbrev main_v291 : Ref sig .tc := ⟨.hbm, 319, rfl⟩
abbrev main_v292 : Ref sig .tc := ⟨.hbm, 320, rfl⟩
abbrev main_v293 : Ref sig .tc := ⟨.hbm, 321, rfl⟩
abbrev main_v294 : Ref sig .tc := ⟨.hbm, 322, rfl⟩
abbrev main_v295 : Ref sig .tc := ⟨.hbm, 323, rfl⟩
abbrev main_v296 : Ref sig .tc := ⟨.hbm, 324, rfl⟩
abbrev main_v297 : Ref sig .tc := ⟨.hbm, 325, rfl⟩
abbrev main_v298 : Ref sig .tc := ⟨.hbm, 326, rfl⟩
abbrev main_v299 : Ref sig .tc := ⟨.hbm, 327, rfl⟩
abbrev main_v300 : Ref sig .tc := ⟨.hbm, 328, rfl⟩
abbrev main_v301 : Ref sig .tc := ⟨.hbm, 329, rfl⟩
abbrev main_v302 : Ref sig .tc := ⟨.hbm, 330, rfl⟩
abbrev main_v303 : Ref sig .tc := ⟨.hbm, 331, rfl⟩
abbrev main_v304 : Ref sig .tc := ⟨.hbm, 332, rfl⟩
abbrev main_v305 : Ref sig .tc := ⟨.hbm, 333, rfl⟩
abbrev main_v306 : Ref sig .tc := ⟨.hbm, 334, rfl⟩
abbrev main_cst_22 : Ref sig .tc := ⟨.hbm, 335, rfl⟩
abbrev main_v307 : Ref sig .tc := ⟨.hbm, 336, rfl⟩
abbrev main_v308 : Ref sig .tc := ⟨.hbm, 337, rfl⟩
abbrev main_v309 : Ref sig .tc := ⟨.hbm, 338, rfl⟩
abbrev main_v310 : Ref sig .tc := ⟨.hbm, 339, rfl⟩
abbrev main_v311 : Ref sig .tc := ⟨.hbm, 340, rfl⟩
abbrev main_v312 : Ref sig .tc := ⟨.hbm, 341, rfl⟩
abbrev main_v313 : Ref sig .tc := ⟨.hbm, 342, rfl⟩
abbrev main_cst_23 : Ref sig .tc := ⟨.hbm, 343, rfl⟩
abbrev main_v314 : Ref sig .tc := ⟨.hbm, 344, rfl⟩
abbrev main_v315 : Ref sig .tc := ⟨.hbm, 345, rfl⟩
abbrev main_v316 : Ref sig .tc := ⟨.hbm, 346, rfl⟩
abbrev main_v317 : Ref sig .tc := ⟨.hbm, 347, rfl⟩
abbrev main_v318 : Ref sig .tc := ⟨.hbm, 348, rfl⟩
abbrev main_v319 : Ref sig .tc := ⟨.hbm, 349, rfl⟩
abbrev main_v320 : Ref sig .tc := ⟨.hbm, 350, rfl⟩
abbrev main_cst_24 : Ref sig .tc := ⟨.hbm, 351, rfl⟩
abbrev main_v321 : Ref sig .tc := ⟨.hbm, 352, rfl⟩
abbrev main_v322 : Ref sig .tc := ⟨.hbm, 353, rfl⟩
abbrev main_v323 : Ref sig .tc := ⟨.hbm, 354, rfl⟩
abbrev main_v324 : Ref sig .tc := ⟨.hbm, 355, rfl⟩
abbrev main_v325 : Ref sig .tc := ⟨.hbm, 356, rfl⟩
abbrev main_v326 : Ref sig .tc := ⟨.hbm, 357, rfl⟩
abbrev main_v327 : Ref sig .tc := ⟨.hbm, 358, rfl⟩
abbrev main_v328 : Ref sig .tc := ⟨.hbm, 359, rfl⟩
abbrev main_v329 : Ref sig .tc := ⟨.hbm, 360, rfl⟩
abbrev main_v330 : Ref sig .tc := ⟨.hbm, 361, rfl⟩
abbrev main_v331 : Ref sig .tc := ⟨.hbm, 362, rfl⟩
abbrev main_v332 : Ref sig .tc := ⟨.hbm, 363, rfl⟩
abbrev main_v333 : Ref sig .tc := ⟨.hbm, 364, rfl⟩
abbrev main_v334 : Ref sig .tc := ⟨.hbm, 365, rfl⟩
abbrev main_v335 : Ref sig .tc := ⟨.hbm, 366, rfl⟩
abbrev main_v336 : Ref sig .tc := ⟨.hbm, 367, rfl⟩
abbrev main_v337 : Ref sig .tc := ⟨.hbm, 368, rfl⟩
abbrev main_v338 : Ref sig .tc := ⟨.hbm, 369, rfl⟩
abbrev main_v339 : Ref sig .tc := ⟨.hbm, 370, rfl⟩
abbrev main_v340 : Ref sig .tc := ⟨.hbm, 371, rfl⟩
abbrev main_v341 : Ref sig .tc := ⟨.hbm, 372, rfl⟩
abbrev main_v342 : Ref sig .tc := ⟨.hbm, 373, rfl⟩
abbrev main_v343 : Ref sig .tc := ⟨.hbm, 374, rfl⟩
abbrev main_v344 : Ref sig .tc := ⟨.hbm, 375, rfl⟩
abbrev main_v345 : Ref sig .tc := ⟨.hbm, 376, rfl⟩
abbrev main_v346 : Ref sig .tc := ⟨.hbm, 377, rfl⟩
abbrev main_v347 : Ref sig .tc := ⟨.hbm, 378, rfl⟩
abbrev main_v348 : Ref sig .tc := ⟨.hbm, 379, rfl⟩
abbrev main_v349 : Ref sig .tc := ⟨.hbm, 380, rfl⟩
abbrev main_v350 : Ref sig .tc := ⟨.hbm, 381, rfl⟩
abbrev main_v351 : Ref sig .tc := ⟨.hbm, 382, rfl⟩
abbrev main_v352 : Ref sig .tc := ⟨.hbm, 383, rfl⟩
abbrev main_v353 : Ref sig .tc := ⟨.hbm, 384, rfl⟩
abbrev main_v354 : Ref sig .tc := ⟨.hbm, 385, rfl⟩
abbrev main_v355 : Ref sig .tc := ⟨.hbm, 386, rfl⟩
abbrev main_v356 : Ref sig .tc := ⟨.hbm, 387, rfl⟩
abbrev main_v357 : Ref sig .tc := ⟨.hbm, 388, rfl⟩
abbrev main_v358 : Ref sig .tc := ⟨.hbm, 389, rfl⟩
abbrev main_v359 : Ref sig .tc := ⟨.hbm, 390, rfl⟩
abbrev main_v360 : Ref sig .tc := ⟨.hbm, 391, rfl⟩
abbrev main_v361 : Ref sig .tc := ⟨.hbm, 392, rfl⟩
abbrev main_v362 : Ref sig .tc := ⟨.hbm, 393, rfl⟩
abbrev main_v363 : Ref sig .tc := ⟨.hbm, 394, rfl⟩
abbrev main_v364 : Ref sig .tc := ⟨.hbm, 395, rfl⟩
abbrev main_v365 : Ref sig .tc := ⟨.hbm, 396, rfl⟩
abbrev main_v366 : Ref sig .tc := ⟨.hbm, 397, rfl⟩
abbrev main_v367 : Ref sig .tc := ⟨.hbm, 398, rfl⟩
abbrev main_v368 : Ref sig .tc := ⟨.hbm, 399, rfl⟩
abbrev main_v369 : Ref sig .tc := ⟨.hbm, 400, rfl⟩
abbrev main_v370 : Ref sig .tc := ⟨.hbm, 401, rfl⟩
abbrev main_v371 : Ref sig .tc := ⟨.hbm, 402, rfl⟩
abbrev main_v372 : Ref sig .tc := ⟨.hbm, 403, rfl⟩
abbrev main_v373 : Ref sig .tc := ⟨.hbm, 404, rfl⟩
abbrev main_cst_25 : Ref sig .tc := ⟨.hbm, 405, rfl⟩
abbrev main_v374 : Ref sig .tc := ⟨.hbm, 406, rfl⟩
abbrev main_v375 : Ref sig .tc := ⟨.hbm, 407, rfl⟩
abbrev main_v376 : Ref sig .tc := ⟨.hbm, 408, rfl⟩
abbrev main_v377 : Ref sig .tc := ⟨.hbm, 409, rfl⟩
abbrev main_v378 : Ref sig .tc := ⟨.hbm, 410, rfl⟩
abbrev main_v379 : Ref sig .tc := ⟨.hbm, 411, rfl⟩
abbrev main_v380 : Ref sig .tc := ⟨.hbm, 412, rfl⟩
abbrev main_cst_26 : Ref sig .tc := ⟨.hbm, 413, rfl⟩
abbrev main_v381 : Ref sig .tc := ⟨.hbm, 414, rfl⟩
abbrev main_v382 : Ref sig .tc := ⟨.hbm, 415, rfl⟩
abbrev main_v383 : Ref sig .tc := ⟨.hbm, 416, rfl⟩
abbrev main_v384 : Ref sig .tc := ⟨.hbm, 417, rfl⟩
abbrev main_v385 : Ref sig .tc := ⟨.hbm, 418, rfl⟩
abbrev main_v386 : Ref sig .tc := ⟨.hbm, 419, rfl⟩
abbrev main_v387 : Ref sig .tc := ⟨.hbm, 420, rfl⟩
abbrev main_v388 : Ref sig .tc := ⟨.hbm, 421, rfl⟩
abbrev main_cst_27 : Ref sig .tc := ⟨.hbm, 422, rfl⟩
abbrev main_v389 : Ref sig .tc := ⟨.hbm, 423, rfl⟩
abbrev main_v390 : Ref sig .tc := ⟨.hbm, 424, rfl⟩
abbrev main_v391 : Ref sig .tc := ⟨.hbm, 425, rfl⟩
abbrev main_v392 : Ref sig .tc := ⟨.hbm, 426, rfl⟩
abbrev main_c_28 : Ref sig .tc := ⟨.hbm, 427, rfl⟩
abbrev main_v393 : Ref sig .tc := ⟨.hbm, 428, rfl⟩
abbrev main_v394 : Ref sig .tc := ⟨.hbm, 429, rfl⟩
abbrev main_v395 : Ref sig .tc := ⟨.hbm, 430, rfl⟩
abbrev main_v396 : Ref sig .tc := ⟨.hbm, 431, rfl⟩
abbrev main_v397 : Ref sig .tc := ⟨.hbm, 432, rfl⟩
abbrev main_v398 : Ref sig .tc := ⟨.hbm, 433, rfl⟩
abbrev main_v399 : Ref sig .tc := ⟨.hbm, 434, rfl⟩
abbrev main_cst_29 : Ref sig .tc := ⟨.hbm, 435, rfl⟩
abbrev main_v400 : Ref sig .tc := ⟨.hbm, 436, rfl⟩
abbrev main_v401 : Ref sig .tc := ⟨.hbm, 437, rfl⟩
abbrev main_v402 : Ref sig .tc := ⟨.hbm, 438, rfl⟩
abbrev main_cst_30 : Ref sig .tc := ⟨.hbm, 439, rfl⟩
abbrev main_v403 : Ref sig .tc := ⟨.hbm, 440, rfl⟩
abbrev main_v404 : Ref sig .tc := ⟨.hbm, 441, rfl⟩
abbrev main_v405 : Ref sig .tc := ⟨.hbm, 442, rfl⟩
abbrev main_v406 : Ref sig .tc := ⟨.hbm, 443, rfl⟩
abbrev main_v407 : Ref sig .tc := ⟨.hbm, 444, rfl⟩
abbrev main_cst_31 : Ref sig .tc := ⟨.hbm, 445, rfl⟩
abbrev main_v408 : Ref sig .tc := ⟨.hbm, 446, rfl⟩
abbrev main_v409 : Ref sig .tc := ⟨.hbm, 447, rfl⟩
abbrev main_v410 : Ref sig .tc := ⟨.hbm, 448, rfl⟩
abbrev main_cst_32 : Ref sig .tc := ⟨.hbm, 449, rfl⟩
abbrev main_v411 : Ref sig .tc := ⟨.hbm, 450, rfl⟩
abbrev main_v412 : Ref sig .tc := ⟨.hbm, 451, rfl⟩
abbrev main_v413 : Ref sig .tc := ⟨.hbm, 452, rfl⟩
abbrev main_v414 : Ref sig .tc := ⟨.hbm, 453, rfl⟩
abbrev main_v415 : Ref sig .tc := ⟨.hbm, 454, rfl⟩
abbrev main_cst_33 : Ref sig .tc := ⟨.hbm, 455, rfl⟩
abbrev main_v416 : Ref sig .tc := ⟨.hbm, 456, rfl⟩
abbrev main_v417 : Ref sig .tc := ⟨.hbm, 457, rfl⟩
abbrev main_v418 : Ref sig .tc := ⟨.hbm, 458, rfl⟩
abbrev main_cst_34 : Ref sig .tc := ⟨.hbm, 459, rfl⟩
abbrev main_v419 : Ref sig .tc := ⟨.hbm, 460, rfl⟩
abbrev main_v420 : Ref sig .tc := ⟨.hbm, 461, rfl⟩
abbrev main_v421 : Ref sig .tc := ⟨.hbm, 462, rfl⟩
abbrev main_v422 : Ref sig .tc := ⟨.hbm, 463, rfl⟩
abbrev main_v423 : Ref sig .tc := ⟨.hbm, 464, rfl⟩
abbrev main_cst_35 : Ref sig .tc := ⟨.hbm, 465, rfl⟩
abbrev main_v424 : Ref sig .tc := ⟨.hbm, 466, rfl⟩
abbrev main_v425 : Ref sig .tc := ⟨.hbm, 467, rfl⟩
abbrev main_v426 : Ref sig .tc := ⟨.hbm, 468, rfl⟩
abbrev main_cst_36 : Ref sig .tc := ⟨.hbm, 469, rfl⟩
abbrev main_v427 : Ref sig .tc := ⟨.hbm, 470, rfl⟩
abbrev main_v428 : Ref sig .tc := ⟨.hbm, 471, rfl⟩
abbrev main_v429 : Ref sig .tc := ⟨.hbm, 472, rfl⟩
abbrev main_v430 : Ref sig .tc := ⟨.hbm, 473, rfl⟩
abbrev main_v431 : Ref sig .tc := ⟨.hbm, 474, rfl⟩
abbrev main_cst_37 : Ref sig .tc := ⟨.hbm, 475, rfl⟩
abbrev main_v432 : Ref sig .tc := ⟨.hbm, 476, rfl⟩
abbrev main_v433 : Ref sig .tc := ⟨.hbm, 477, rfl⟩
abbrev main_v434 : Ref sig .tc := ⟨.hbm, 478, rfl⟩
abbrev main_cst_38 : Ref sig .tc := ⟨.hbm, 479, rfl⟩
abbrev main_v435 : Ref sig .tc := ⟨.hbm, 480, rfl⟩
abbrev main_v436 : Ref sig .tc := ⟨.hbm, 481, rfl⟩
abbrev main_v437 : Ref sig .tc := ⟨.hbm, 482, rfl⟩
abbrev main_v438 : Ref sig .tc := ⟨.hbm, 483, rfl⟩
abbrev main_v439 : Ref sig .tc := ⟨.hbm, 484, rfl⟩
abbrev main_cst_39 : Ref sig .tc := ⟨.hbm, 485, rfl⟩
abbrev main_v440 : Ref sig .tc := ⟨.hbm, 486, rfl⟩
abbrev main_v441 : Ref sig .tc := ⟨.hbm, 487, rfl⟩
abbrev main_v442 : Ref sig .tc := ⟨.hbm, 488, rfl⟩
abbrev main_cst_40 : Ref sig .tc := ⟨.hbm, 489, rfl⟩
abbrev main_v443 : Ref sig .tc := ⟨.hbm, 490, rfl⟩
abbrev main_v444 : Ref sig .tc := ⟨.hbm, 491, rfl⟩
abbrev main_v445 : Ref sig .tc := ⟨.hbm, 492, rfl⟩
abbrev main_v446 : Ref sig .tc := ⟨.hbm, 493, rfl⟩
abbrev main_v447 : Ref sig .tc := ⟨.hbm, 494, rfl⟩
abbrev main_cst_41 : Ref sig .tc := ⟨.hbm, 495, rfl⟩
abbrev main_v448 : Ref sig .tc := ⟨.hbm, 496, rfl⟩
abbrev main_v449 : Ref sig .tc := ⟨.hbm, 497, rfl⟩
abbrev main_v450 : Ref sig .tc := ⟨.hbm, 498, rfl⟩
abbrev main_cst_42 : Ref sig .tc := ⟨.hbm, 499, rfl⟩
abbrev main_v451 : Ref sig .tc := ⟨.hbm, 500, rfl⟩
abbrev main_v452 : Ref sig .tc := ⟨.hbm, 501, rfl⟩
abbrev main_v453 : Ref sig .tc := ⟨.hbm, 502, rfl⟩
abbrev main_v454 : Ref sig .tc := ⟨.hbm, 503, rfl⟩
abbrev main_v455 : Ref sig .tc := ⟨.hbm, 504, rfl⟩
abbrev main_cst_43 : Ref sig .tc := ⟨.hbm, 505, rfl⟩
abbrev main_v456 : Ref sig .tc := ⟨.hbm, 506, rfl⟩
abbrev main_v457 : Ref sig .tc := ⟨.hbm, 507, rfl⟩
abbrev main_v458 : Ref sig .tc := ⟨.hbm, 508, rfl⟩
abbrev main_cst_44 : Ref sig .tc := ⟨.hbm, 509, rfl⟩
abbrev main_v459 : Ref sig .tc := ⟨.hbm, 510, rfl⟩
abbrev main_v460 : Ref sig .tc := ⟨.hbm, 511, rfl⟩
abbrev main_v461 : Ref sig .tc := ⟨.hbm, 512, rfl⟩
abbrev main_v462 : Ref sig .tc := ⟨.hbm, 513, rfl⟩
abbrev main_v463 : Ref sig .tc := ⟨.hbm, 514, rfl⟩
abbrev main_cst_45 : Ref sig .tc := ⟨.hbm, 515, rfl⟩
abbrev main_v464 : Ref sig .tc := ⟨.hbm, 516, rfl⟩
abbrev main_v465 : Ref sig .tc := ⟨.hbm, 517, rfl⟩
abbrev main_v466 : Ref sig .tc := ⟨.hbm, 518, rfl⟩
abbrev main_cst_46 : Ref sig .tc := ⟨.hbm, 519, rfl⟩
abbrev main_v467 : Ref sig .tc := ⟨.hbm, 520, rfl⟩
abbrev main_v468 : Ref sig .tc := ⟨.hbm, 521, rfl⟩
abbrev main_v469 : Ref sig .tc := ⟨.hbm, 522, rfl⟩
abbrev main_v470 : Ref sig .tc := ⟨.hbm, 523, rfl⟩
abbrev main_v471 : Ref sig .tc := ⟨.hbm, 524, rfl⟩
abbrev main_cst_47 : Ref sig .tc := ⟨.hbm, 525, rfl⟩
abbrev main_v472 : Ref sig .tc := ⟨.hbm, 526, rfl⟩
abbrev main_v473 : Ref sig .tc := ⟨.hbm, 527, rfl⟩
abbrev main_v474 : Ref sig .tc := ⟨.hbm, 528, rfl⟩
abbrev main_cst_48 : Ref sig .tc := ⟨.hbm, 529, rfl⟩
abbrev main_v475 : Ref sig .tc := ⟨.hbm, 530, rfl⟩
abbrev main_v476 : Ref sig .tc := ⟨.hbm, 531, rfl⟩
abbrev main_v477 : Ref sig .tc := ⟨.hbm, 532, rfl⟩
abbrev main_v478 : Ref sig .tc := ⟨.hbm, 533, rfl⟩
abbrev main_v479 : Ref sig .tc := ⟨.hbm, 534, rfl⟩
abbrev main_cst_49 : Ref sig .tc := ⟨.hbm, 535, rfl⟩
abbrev main_v480 : Ref sig .tc := ⟨.hbm, 536, rfl⟩
abbrev main_v481 : Ref sig .tc := ⟨.hbm, 537, rfl⟩
abbrev main_v482 : Ref sig .tc := ⟨.hbm, 538, rfl⟩
abbrev main_cst_50 : Ref sig .tc := ⟨.hbm, 539, rfl⟩
abbrev main_v483 : Ref sig .tc := ⟨.hbm, 540, rfl⟩
abbrev main_v484 : Ref sig .tc := ⟨.hbm, 541, rfl⟩
abbrev main_v485 : Ref sig .tc := ⟨.hbm, 542, rfl⟩
abbrev main_v486 : Ref sig .tc := ⟨.hbm, 543, rfl⟩
abbrev main_v487 : Ref sig .tc := ⟨.hbm, 544, rfl⟩
abbrev main_cst_51 : Ref sig .tc := ⟨.hbm, 545, rfl⟩
abbrev main_v488 : Ref sig .tc := ⟨.hbm, 546, rfl⟩
abbrev main_v489 : Ref sig .tc := ⟨.hbm, 547, rfl⟩
abbrev main_v490 : Ref sig .tc := ⟨.hbm, 548, rfl⟩
abbrev main_cst_52 : Ref sig .tc := ⟨.hbm, 549, rfl⟩
abbrev main_v491 : Ref sig .tc := ⟨.hbm, 550, rfl⟩
abbrev main_v492 : Ref sig .tc := ⟨.hbm, 551, rfl⟩
abbrev main_v493 : Ref sig .tc := ⟨.hbm, 552, rfl⟩
abbrev main_v494 : Ref sig .tc := ⟨.hbm, 553, rfl⟩
abbrev main_v495 : Ref sig .tc := ⟨.hbm, 554, rfl⟩
abbrev main_cst_53 : Ref sig .tc := ⟨.hbm, 555, rfl⟩
abbrev main_v496 : Ref sig .tc := ⟨.hbm, 556, rfl⟩
abbrev main_v497 : Ref sig .tc := ⟨.hbm, 557, rfl⟩
abbrev main_v498 : Ref sig .tc := ⟨.hbm, 558, rfl⟩
abbrev main_cst_54 : Ref sig .tc := ⟨.hbm, 559, rfl⟩
abbrev main_v499 : Ref sig .tc := ⟨.hbm, 560, rfl⟩
abbrev main_v500 : Ref sig .tc := ⟨.hbm, 561, rfl⟩
abbrev main_v501 : Ref sig .tc := ⟨.hbm, 562, rfl⟩
abbrev main_v502 : Ref sig .tc := ⟨.hbm, 563, rfl⟩
abbrev main_v503 : Ref sig .tc := ⟨.hbm, 564, rfl⟩
abbrev main_cst_55 : Ref sig .tc := ⟨.hbm, 565, rfl⟩
abbrev main_v504 : Ref sig .tc := ⟨.hbm, 566, rfl⟩
abbrev main_v505 : Ref sig .tc := ⟨.hbm, 567, rfl⟩
abbrev main_v506 : Ref sig .tc := ⟨.hbm, 568, rfl⟩
abbrev main_cst_56 : Ref sig .tc := ⟨.hbm, 569, rfl⟩
abbrev main_v507 : Ref sig .tc := ⟨.hbm, 570, rfl⟩
abbrev main_v508 : Ref sig .tc := ⟨.hbm, 571, rfl⟩
abbrev main_v509 : Ref sig .tc := ⟨.hbm, 572, rfl⟩
abbrev main_v510 : Ref sig .tc := ⟨.hbm, 573, rfl⟩
abbrev main_v511 : Ref sig .tc := ⟨.hbm, 574, rfl⟩
abbrev main_v512 : Ref sig .tc := ⟨.hbm, 575, rfl⟩
abbrev main_v513 : Ref sig .tc := ⟨.hbm, 576, rfl⟩
abbrev main_cst_57 : Ref sig .tc := ⟨.hbm, 577, rfl⟩
abbrev main_v514 : Ref sig .tc := ⟨.hbm, 578, rfl⟩
abbrev main_v515 : Ref sig .tc := ⟨.hbm, 579, rfl⟩
abbrev main_cst_58 : Ref sig .tc := ⟨.hbm, 580, rfl⟩
abbrev main_v516 : Ref sig .tc := ⟨.hbm, 581, rfl⟩
abbrev main_v517 : Ref sig .tc := ⟨.hbm, 582, rfl⟩

abbrev nD : Nat := 1
abbrev τ : Topo := Topo.v7x

variable {F : FTy → Type} [FloatOps F]
-- ==== Proof.Fields.lean ====
/-
  The 27 numbers the kernel writes for one node of the mesh, as functions of single float values: the edge vectors to the
  six neighbours (an absent neighbour's is multiplied by zero), their three sums, and the six distinct entries of the
  inverse of the node's 3 × 3 block. Over any float values, with the operations in the order in which the kernel applies
  them, so that a lane of the kernel's vectors is one of these by definition.
-/
module

public import Idealize.ShloMosaic.Lib.StableHlo.Run

@[expose] public section

noncomputable section

namespace Cert.Proof.Fields

open Idealize.ShloMosaic

variable {F : FTy → Type} [FloatOps F]

/-- One where the bit is set, zero where it is not. -/
def ind (b : BitVec 1) : F .f32 := Scalar.select b (Scalar.ofBits .f32 0x3F800000#32) (Scalar.ofBits .f32 0x00000000#32)

/-- One component of the edge vector from a node at `p` to a neighbour at `q`, kept where the bit is set. -/
def edge (b : BitVec 1) (p q : F .f32) : F .f32 := FloatOps.mulf (ind b) (FloatOps.subf p q)

/-- The six edge vectors of a node: `p` its position, `q` its neighbours' positions, `b` which of them there are. -/
def edges (b : Fin 6 → BitVec 1) (p : Fin 3 → F .f32) (q : Fin 6 → Fin 3 → F .f32) (d : Fin 6) (k : Fin 3) : F .f32 :=
  edge (b d) (p k) (q d k)

/-- Add the squares of components `j` and `k` of the edge vector `v` to `acc`. -/
def addSq (j k : Fin 3) (acc : F .f32) (v : Fin 3 → F .f32) : F .f32 :=
  FloatOps.addf (FloatOps.addf acc (FloatOps.mulf (v j) (v j))) (FloatOps.mulf (v k) (v k))

/-- Take the product of components `j` and `k` of the edge vector `v` from `acc`. -/
def subPr (j k : Fin 3) (acc : F .f32) (v : Fin 3 → F .f32) : F .f32 :=
  FloatOps.subf acc (FloatOps.mulf (v j) (v k))

/-- Run `step` over the six edge vectors in order, from zero. -/
def over (step : F .f32 → (Fin 3 → F .f32) → F .f32) (e : Fin 6 → Fin 3 → F .f32) : F .f32 :=
  step (step (step (step (step (step (Scalar.ofBits .f32 0x00000000#32) (e 0)) (e 1)) (e 2)) (e 3)) (e 4)) (e 5)

/-- The sum of component `k` of the edge vectors. -/
def total (e : Fin 6 → Fin 3 → F .f32) (k : Fin 3) : F .f32 := over (fun acc v => FloatOps.addf acc (v k)) e

/-- The node's block: the sum over its edges `v` of `|v|² − v vᵀ`, its six distinct entries. -/
def c00 (e : Fin 6 → Fin 3 → F .f32) : F .f32 := over (addSq 1 2) e
@[inherit_doc c00] def c01 (e : Fin 6 → Fin 3 → F .f32) : F .f32 := over (subPr 0 1) e
@[inherit_doc c00] def c02 (e : Fin 6 → Fin 3 → F .f32) : F .f32 := over (subPr 0 2) e
@[inherit_doc c00] def c11 (e : Fin 6 → Fin 3 → F .f32) : F .f32 := over (addSq 0 2) e
@[inherit_doc c00] def c12 (e : Fin 6 → Fin 3 → F .f32) : F .f32 := over (subPr 1 2) e
@[inherit_doc c00] def c22 (e : Fin 6 → Fin 3 → F .f32) : F .f32 := over (addSq 0 1) e

/-- `a b − c d`. -/
def minor (a b c d : F .f32) : F .f32 := FloatOps.subf (FloatOps.mulf a b) (FloatOps.mulf c d)

/-- One over the block's determinant, expanded along its first row. -/
def invDet (e : Fin 6 → Fin 3 → F .f32) : F .f32 :=
  FloatOps.divf (Scalar.ofBits .f32 0x3F800000#32)
    (FloatOps.addf
      (FloatOps.subf (FloatOps.mulf (c00 e) (minor (c11 e) (c22 e) (c12 e) (c12 e)))
        (FloatOps.mulf (c01 e) (minor (c01 e) (c22 e) (c12 e) (c02 e))))
      (FloatOps.mulf (c02 e) (minor (c01 e) (c12 e) (c11 e) (c02 e))))

/-- The cofactors, in the order in which the kernel stores the inverse's entries (00, 01, 02, 11, 12, 22). -/
def cof (e : Fin 6 → Fin 3 → F .f32) : Nat → F .f32
  | 0 => minor (c11 e) (c22 e) (c12 e) (c12 e)
  | 1 => minor (c02 e) (c12 e) (c01 e) (c22 e)
  | 2 => minor (c01 e) (c12 e) (c02 e) (c11 e)
  | 3 => minor (c00 e) (c22 e) (c02 e) (c02 e)
  | 4 => minor (c02 e) (c01 e) (c00 e) (c12 e)
  | _ => minor (c00 e) (c11 e) (c01 e) (c01 e)

/-- Field `f` of a node with edge vectors `e`: 0–17 the edge vectors, 18–20 their sums, 21–26 the inverse's entries. -/
def field (e : Fin 6 → Fin 3 → F .f32) (f : Nat) : F .f32 :=
  if h : f < 18 then e ⟨f / 3, by omega⟩ ⟨f % 3, by omega⟩
  else if h : f < 21 then total e ⟨f - 18, by omega⟩
  else FloatOps.mulf (cof e (f - 21)) (invDet e)

/-- The mesh's row of a node, as the kernel divides by 100: by a multiplication and a shift. -/
def rowW (n : BitVec 32) : BitVec 32 := IntOp.shrsi .vector (IntOp.muli n 10486#32) 20#32
/-- The mesh's column of a node. -/
def colW (n : BitVec 32) : BitVec 32 := IntOp.subi n (IntOp.muli (rowW n) 100#32)

/-- Whether node `n` has a neighbour in direction `d`: east, west, south, north, south-west, north-east. -/
def mask (n : BitVec 32) (d : Fin 6) : BitVec 1 :=
  match d with
  | 0 => IntOp.cmpi .sle (colW n) 98#32
  | 1 => IntOp.cmpi .sge (colW n) 1#32
  | 2 => IntOp.cmpi .sle (rowW n) 98#32
  | 3 => IntOp.cmpi .sge (rowW n) 1#32
  | 4 => IntOp.andi (IntOp.cmpi .sle (rowW n) 98#32) (IntOp.cmpi .sge (colW n) 1#32)
  | 5 => IntOp.andi (IntOp.cmpi .sge (rowW n) 1#32) (IntOp.cmpi .sle (colW n) 98#32)

/-- Where the neighbour in direction `d` lies relative to a position that is 100 further on. -/
def ahead (d : Fin 6) : Nat :=
  match d with
  | 0 => 101
  | 1 => 99
  | 2 => 200
  | 3 => 0
  | 4 => 199
  | 5 => 1

end Cert.Proof.Fields

end
-- ==== Proof.Setup.lean ====
/-
  The program as the launch sees it: its call, the resource algebra of the handshakes and the transfers' counters, the
  buffers' locations, and the vector subcore's memrefs.
-/
module

public import proofs.«01_k».proof.Defs
public import proofs.«01_k».proof.Proof.Fields
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.ValueIdx
public import Idealize.ShloMosaic.Lib.ShareLeaves
public import proofs.«01_k».proof.Proof.Gen.KernelIdeal
public import proofs.«01_k».proof.Proof.Gen.KernelIdeal.Skeleton

@[expose] public section

noncomputable section

namespace Cert.Proof.Setup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts where
  start_ne_taskDone := show sc_start ≠ sc_taskDone by decide
  start_unscoped := show (SemLoc.reg sc_start : SemLoc sig).isScoped .scScalar = false by decide
  taskDone_unscoped := show (SemLoc.reg sc_taskDone : SemLoc sig).isScoped .scScalar = false by decide
  go_unscoped := show (SemLoc.reg sc_go : SemLoc sig).isScoped .scVector = false by decide
  done_unscoped := show (SemLoc.reg sc_done : SemLoc sig).isScoped .tc = false by decide
  noTaskShared := show ∀ (b : DevRef τ sig) (c : Fin τ.nSC), b.owner = .sc c → sig.taskShared b.table b.idx = false by decide
  noSeq := fun _ => rfl

/-- The handshakes' rounds. -/
abbrev UH : Type := URounds (GSem nD τ sig) ℕ
/-- The handshakes' rounds beside the transfers' counters. -/
abbrev UU : Type := UH × Counters

abbrev EH : Emb UH (MT nD τ sig (HIx 1) (Elt F) ℕ UU ℕ) := embL

/-- The core and the subcore of a task. -/
abbrev cV (L : grid0.Coords) : Fin τ.nSC := (L 0).castLE hcore0
@[inherit_doc cV] abbrev jV (L : grid0.Coords) : Fin τ.nSub := (L 1).castLE hsub0

/-- The task's number, `0 … 31`. -/
def wid (L : grid0.Coords) : Nat := 2 * (L 1).val + (L 0).val
/-- The first node of the task within its sample. -/
def start (L : grid0.Coords) : Nat := wid L % 16 * 640

/-- The edge vectors of node `n` read out of three windows `g` at lane `l`. -/
def winEdges [FloatOps F] (g : Fin 3 → Fin 848 → F .f32) (n : Nat) (l : Fin 640) : Fin 6 → Fin 3 → F .f32 :=
  Fields.edges (Fields.mask (BitVec.ofNat 32 n)) (fun k => g k ⟨104 + l.val, by have := l.isLt; omega⟩)
    (fun d k => g k ⟨4 + l.val + Fields.ahead d, by
      have := l.isLt; have : Fields.ahead d ≤ 200 := by unfold Fields.ahead; split <;> omega
      omega⟩)

/-- What a task leaves at place `y` of its staging buffer, from its three windows. -/
def want [FloatOps F] (g : Fin 3 → Fin 848 → F .f32) (s : Nat) (y : Nat) : F .f32 :=
  Fields.field (winEdges g (s + y % 640) ⟨y % 640, Nat.mod_lt _ (by omega)⟩) (y / 640)

end Cert.Proof.Setup

end
-- ==== Proof.Trip.lean ====
/-
  One trip of the subcore's loop: sixteen nodes' 27 fields stored in the staging buffer.
-/
module

public import proofs.«01_k».proof.Proof.Setup

@[expose] public section

noncomputable section

namespace Cert.Proof.Trip

open Cert.KernelIdeal Cert.KernelIdeal.Gen Cert.Proof.Setup

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "aV0" => (Memref.whole Cert.KernelIdeal.main_v3_scv : Memref Cert.KernelIdeal.sig Kind.scVector Space.hbm Cert.KernelIdeal.S20896 EltTy.f32)
local notation "aV1" => (Memref.whole Cert.KernelIdeal.main_v7_scv : Memref Cert.KernelIdeal.sig Kind.scVector Space.hbm Cert.KernelIdeal.S20896 EltTy.f32)
local notation "aV2" => (Memref.whole Cert.KernelIdeal.main_v11_scv : Memref Cert.KernelIdeal.sig Kind.scVector Space.hbm Cert.KernelIdeal.S20896 EltTy.f32)
local notation "oV" => (Memref.whole Cert.KernelIdeal.main_v12_scv : Memref Cert.KernelIdeal.sig Kind.scVector Space.hbm Cert.KernelIdeal.S552960 EltTy.f32)
local notation "w0" => (Memref.whole Cert.KernelIdeal.cc0_scratch0 : Memref Cert.KernelIdeal.sig Kind.scVector Space.vmem Cert.KernelIdeal.S848 EltTy.f32)
local notation "w1" => (Memref.whole Cert.KernelIdeal.cc0_scratch1 : Memref Cert.KernelIdeal.sig Kind.scVector Space.vmem Cert.KernelIdeal.S848 EltTy.f32)
local notation "w2" => (Memref.whole Cert.KernelIdeal.cc0_scratch2 : Memref Cert.KernelIdeal.sig Kind.scVector Space.vmem Cert.KernelIdeal.S848 EltTy.f32)
local notation "stg" => (Memref.whole Cert.KernelIdeal.cc0_scratch3 : Memref Cert.KernelIdeal.sig Kind.scVector Space.vmem Cert.KernelIdeal.S17280 EltTy.f32)

variable (d : Dev nD) (L : grid0.Coords)

/-- Sixteen words of window `j` from `off` on. -/
def ldWin (j : Fin 3) (off : Fin 1 → Nat) (h : ∀ a, off a + S16.size a ≤ S848.size a)
    (g0 : Buf (Elt F) ((V d (cV L) (jV L)).loc cc0_scratch0)) (g1 : Buf (Elt F) ((V d (cV L) (jV L)).loc cc0_scratch1))
    (g2 : Buf (Elt F) ((V d (cV L) (jV L)).loc cc0_scratch2)) : FVec F S16 .f32 :=
  match j with
  | 0 => View.readAt (Elt F) (w0).view (Rect.unit (s := S848) off S16.size h).toLoadRect g0
  | 1 => View.readAt (Elt F) (w1).view (Rect.unit (s := S848) off S16.size h).toLoadRect g1
  | 2 => View.readAt (Elt F) (w2).view (Rect.unit (s := S848) off S16.size h).toLoadRect g2

/-- The edge vectors of lane `x` of trip `k`, read as the trip reads them. -/
def laneEdges (v4 : BitVec 32) (k : Fin k0_t1_loop.trips)
    (g0 : Buf (Elt F) ((V d (cV L) (jV L)).loc cc0_scratch0)) (g1 : Buf (Elt F) ((V d (cV L) (jV L)).loc cc0_scratch1))
    (g2 : Buf (Elt F) ((V d (cV L) (jV L)).loc cc0_scratch2)) (x : S16.Idx) : Fin 6 → Fin 3 → F .f32 :=
  Fields.edges (Fields.mask (k0_pay1 v4 0#32 1#32 k x))
    (fun j => ldWin d L j (k0_off2 k) (k0_off2_inb k) g0 g1 g2 (Shape.reshapeEquiv shapeCasts_S16_S16 x))
    (fun r j => ldWin d L j (k0_off3 k (k0_off3_at r)) (k0_off3_inb k r) g0 g1 g2 (Shape.reshapeEquiv shapeCasts_S16_S16 x))

/-- The three windows as functions of a position. -/
def wins (g0 : Buf (Elt F) ((V d (cV L) (jV L)).loc cc0_scratch0)) (g1 : Buf (Elt F) ((V d (cV L) (jV L)).loc cc0_scratch1))
    (g2 : Buf (Elt F) ((V d (cV L) (jV L)).loc cc0_scratch2)) (j : Fin 3) (i : Fin 848) : F .f32 :=
  match j with
  | 0 => g0 (ValueIdx.ix1 i)
  | 1 => g1 (ValueIdx.ix1 i)
  | 2 => g2 (ValueIdx.ix1 i)

/-- The offsets of a trip's neighbour loads, all in one closed form. -/
theorem off3_eq : ∀ (k : Fin k0_t1_loop.trips) (r : Fin 6), k0_off3 k (k0_off3_at r) = ![4 + 16 * k.val + Fields.ahead r] := by
  decide +kernel

theorem ldWin_eq (g0 : Buf (Elt F) ((V d (cV L) (jV L)).loc cc0_scratch0)) (g1 : Buf (Elt F) ((V d (cV L) (jV L)).loc cc0_scratch1))
    (g2 : Buf (Elt F) ((V d (cV L) (jV L)).loc cc0_scratch2)) (j : Fin 3) (off : Fin 1 → Nat) (o : Nat) (ho : off = ![o])
    (h : ∀ a, off a + S16.size a ≤ S848.size a) (x : S16.Idx) (hx : o + (x 0).val < 848) :
    ldWin d L j off h g0 g1 g2 x = wins d L g0 g1 g2 j ⟨o + (x 0).val, hx⟩ := by
  subst ho
  have e : (Rect.unit (s := S848) ![o] S16.size h).emb x = ValueIdx.ix1 ⟨o + (x 0).val, hx⟩ := by
    funext a; match a with | ⟨0, _⟩ => exact Fin.ext (by rw [Rect.emb_apply]; show o + 1 * (x 0).val = _; simp [ValueIdx.ix1])
  match j with
  | 0 => show g0 _ = g0 _; exact congrArg g0 e
  | 1 => show g1 _ = g1 _; exact congrArg g1 e
  | 2 => show g2 _ = g2 _; exact congrArg g2 e

/-- A lane's node number. -/
theorem pay1_eq (s : Nat) (k : Fin k0_t1_loop.trips) (x : S16.Idx) :
    k0_pay1 (BitVec.ofNat 32 s) 0#32 1#32 k x = BitVec.ofNat 32 (s + (16 * k.val + (x 0).val)) := by
  show BitVec.ofNat 32 s + (0#32 + BitVec.ofNat 32 k.val * 1#32) * 16#32 + BitVec.ofNat 32 (0 * 16 + (x 0).val) = _
  apply BitVec.eq_of_toNat_eq
  simp only [BitVec.toNat_add, BitVec.toNat_mul, BitVec.toNat_ofNat]
  omega

theorem trips_eq : k0_t1_loop.trips = 40 := by decide

theorem laneEdges_eq (s : Nat) (k : Fin k0_t1_loop.trips) (g0 : Buf (Elt F) ((V d (cV L) (jV L)).loc cc0_scratch0))
    (g1 : Buf (Elt F) ((V d (cV L) (jV L)).loc cc0_scratch1)) (g2 : Buf (Elt F) ((V d (cV L) (jV L)).loc cc0_scratch2)) (x : S16.Idx)
    (hl : 16 * k.val + (x 0).val < 640) :
    laneEdges d L (BitVec.ofNat 32 s) k g0 g1 g2 x
      = winEdges (wins d L g0 g1 g2) (s + (16 * k.val + (x 0).val)) ⟨16 * k.val + (x 0).val, hl⟩ := by
  have ha : ∀ r, Fields.ahead r ≤ 200 := by decide
  unfold laneEdges winEdges
  rw [pay1_eq, Shape.reshapeEquiv_self]
  congr 1
  · funext j
    rw [ldWin_eq d L g0 g1 g2 j _ _ (k0_off2_eq k) _ x (by omega)]
    congr 2; show 16 * k.val + 104 + _ = 104 + (16 * k.val + _); omega
  · funext r j
    have := ha r
    rw [ldWin_eq d L g0 g1 g2 j _ _ (off3_eq k r) _ x (by omega)]
    congr 2; show 4 + 16 * k.val + Fields.ahead r + _ = 4 + (16 * k.val + _) + Fields.ahead r; omega

/-- What a trip stores in the staging buffer: the first `n` fields of its sixteen nodes, the last one first. -/
def pieces (v4 : BitVec 32) (k : Fin k0_t1_loop.trips) (g0 : Buf (Elt F) ((V d (cV L) (jV L)).loc cc0_scratch0))
    (g1 : Buf (Elt F) ((V d (cV L) (jV L)).loc cc0_scratch1)) (g2 : Buf (Elt F) ((V d (cV L) (jV L)).loc cc0_scratch2)) :
    (n : Nat) → n ≤ 27 → List (View.Piece (Elt F) S17280 .f32)
  | 0, _ => []
  | n + 1, h => ⟨Rect.unit (s := S17280) (k0_off4 k (BitVec.ofNat 32 (640 * n))) S16.size (k0_off4_inb k ⟨n, h⟩),
      fun x => Fields.field (laneEdges d L v4 k g0 g1 g2 (Shape.reshapeEquiv shapeCasts_S16_S16 x)) n⟩
        :: pieces v4 k g0 g1 g2 n (by omega)

theorem pieces_read (s : Nat) (k : Fin k0_t1_loop.trips) (g0 : Buf (Elt F) ((V d (cV L) (jV L)).loc cc0_scratch0))
    (g1 : Buf (Elt F) ((V d (cV L) (jV L)).loc cc0_scratch1)) (g2 : Buf (Elt F) ((V d (cV L) (jV L)).loc cc0_scratch2))
    (g3 : Buf (Elt F) ((V d (cV L) (jV L)).loc cc0_scratch3)) (y : S17280.Idx) : (n : Nat) → (h : n ≤ 27) →
    (stg).view.read (Elt F) ((stg).view.writes (Elt F) g3 (pieces d L (BitVec.ofNat 32 s) k g0 g1 g2 n h)) y
      = if (y 0).val / 640 < n ∧ 16 * k.val ≤ (y 0).val % 640 ∧ (y 0).val % 640 < 16 * k.val + 16
        then want (wins d L g0 g1 g2) s (y 0).val else g3 y
  | 0, _ => by rw [if_neg (by omega)]; rfl
  | n + 1, h => by
    have hk : k.val < 40 := by have := k.isLt; have := trips_eq; omega
    unfold pieces
    by_cases hy : (y 0).val / 640 = n ∧ 16 * k.val ≤ (y 0).val % 640 ∧ (y 0).val % 640 < 16 * k.val + 16
    · rw [if_pos (by omega)]
      have hx : (y 0).val % 640 - 16 * k.val < 16 := by omega
      rw [View.read_writes_cons_hit_of_coords _ _ _ _ _ (ValueIdx.ix1 ⟨(y 0).val % 640 - 16 * k.val, hx⟩ : S16.Idx)]
      · rw [Shape.reshapeEquiv_self, laneEdges_eq d L s k g0 g1 g2 _ (by show 16 * k.val + ((y 0).val % 640 - 16 * k.val) < 640; omega)]
        unfold want
        have e : 16 * k.val + ((y 0).val % 640 - 16 * k.val) = (y 0).val % 640 := by omega
        show Fields.field (winEdges _ (s + (16 * k.val + ((y 0).val % 640 - 16 * k.val))) ⟨16 * k.val + ((y 0).val % 640 - 16 * k.val), _⟩) n = _
        simp only [e, hy.1]
      · intro a
        match a with
        | ⟨0, _⟩ =>
          have e0 : k0_off4 k (BitVec.ofNat 32 (640 * n)) 0 = 640 * n + 16 * k.val := congrFun (k0_off4_eq k ⟨n, h⟩) 0
          show (y 0).val = k0_off4 k (BitVec.ofNat 32 (640 * n)) 0 + 1 * ((y 0).val % 640 - 16 * k.val)
          omega
    · rw [View.read_writes_cons_miss _ _ _ _ _ (by
        rw [Rect.mem_set_unit]
        intro hm
        have hm0 := hm 0
        rw [k0_off4_eq k ⟨n, h⟩] at hm0
        have h1 : 640 * n + 16 * k.val ≤ (y 0).val := hm0.1
        have h2 : (y 0).val < 640 * n + 16 * k.val + 16 := hm0.2
        omega), pieces_read s k g0 g1 g2 g3 y n (by omega)]
      by_cases hc : (y 0).val / 640 < n ∧ 16 * k.val ≤ (y 0).val % 640 ∧ (y 0).val % 640 < 16 * k.val + 16
      · rw [if_pos hc, if_pos (by omega)]
      · rw [if_neg hc, if_neg (by omega)]

set_option maxHeartbeats 4000000 in
/-- One trip: the windows are kept, and of the staging buffer the sixteen nodes' places hold their fields and the others are kept. -/
theorem trip (s : Nat) (v4 : BitVec 32) (hv : v4 = BitVec.ofNat 32 s) (k : Fin k0_t1_loop.trips) (g0 : Buf (Elt F) ((V d (cV L) (jV L)).loc cc0_scratch0))
    (g1 : Buf (Elt F) ((V d (cV L) (jV L)).loc cc0_scratch1))
    (g2 : Buf (Elt F) ((V d (cV L) (jV L)).loc cc0_scratch2))
    (g3 : Buf (Elt F) ((V d (cV L) (jV L)).loc cc0_scratch3)) :
    iprop(((w0).view.loc (V d (cV L) (jV L)) ↦{fullShare} g0) ∗ ((w1).view.loc (V d (cV L) (jV L)) ↦{fullShare} g1)
      ∗ ((w2).view.loc (V d (cV L) (jV L)) ↦{fullShare} g2) ∗ ((stg).view.loc (V d (cV L) (jV L)) ↦{fullShare} g3))
    ⊢ wp frame (wpE (defs₀ (F := F)) 𝒱₀ (V d (cV L) (jV L)) none) Set.univ
        (k0_t1_body L aV0 (Memref.isWhole_whole _) aV1 (Memref.isWhole_whole _) aV2 (Memref.isWhole_whole _) oV (Memref.isWhole_whole _)
          w0 (Memref.isWhole_whole _) w1 (Memref.isWhole_whole _) w2 (Memref.isWhole_whole _) stg (Memref.isWhole_whole _)
          cc0_scoped0 cc0_scoped1 cc0_scoped2 cc0_scoped3 v4 k ⟨⟩)
        fun _ => (iprop(((w0).view.loc (V d (cV L) (jV L)) ↦{fullShare} g0) ∗ ((w1).view.loc (V d (cV L) (jV L)) ↦{fullShare} g1)
          ∗ ((w2).view.loc (V d (cV L) (jV L)) ↦{fullShare} g2) ∗ ∃ g, ((stg).view.loc (V d (cV L) (jV L)) ↦{fullShare} g)
            ∗ ⌜∀ y : S17280.Idx, g y = if 16 * k.val ≤ (y 0).val % 640 ∧ (y 0).val % 640 < 16 * k.val + 16
                then want (wins d L g0 g1 g2) s (y 0).val else g3 y⌝) : sProp 𝕄) := by
  unfold k0_t1_body
  iintro ⟨H0, H1, H2, H3⟩
  sl_exec
  sl_step
  isplitl [H0]; · iexact H0
  isplitl [H1]; · iexact H1
  isplitl [H2]; · iexact H2
  iexists _; isplitl [H3]; · iexact H3
  ipureintro
  intro y
  have hy : (y 0).val / 640 < 27 := by have : (y 0).val < 17280 := (y 0).isLt; omega
  subst hv
  refine Eq.trans (b := (stg).view.read (Elt F) ((stg).view.writes (Elt F) g3 (pieces d L (BitVec.ofNat 32 s) k g0 g1 g2 27 (Nat.le_refl _))) y) rfl
    ((pieces_read d L s k g0 g1 g2 g3 y 27 _).trans ?_)
  simp only [hy, true_and]

end Cert.Proof.Trip

end
-- ==== Proof.Tile.lean ====
/-
  One task of the kernel: the three windows fetched, the forty trips over the staging buffer, the staging buffer written to
  the task's block of the result.
-/
module

public import proofs.«01_k».proof.Proof.Trip

@[expose] public section

noncomputable section

namespace Cert.Proof.Tile

open Cert.KernelIdeal Cert.KernelIdeal.Gen Cert.Proof.Setup Cert.Proof.Trip

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "aV0" => (Memref.whole Cert.KernelIdeal.main_v3_scv : Memref Cert.KernelIdeal.sig Kind.scVector Space.hbm Cert.KernelIdeal.S20896 EltTy.f32)
local notation "aV1" => (Memref.whole Cert.KernelIdeal.main_v7_scv : Memref Cert.KernelIdeal.sig Kind.scVector Space.hbm Cert.KernelIdeal.S20896 EltTy.f32)
local notation "aV2" => (Memref.whole Cert.KernelIdeal.main_v11_scv : Memref Cert.KernelIdeal.sig Kind.scVector Space.hbm Cert.KernelIdeal.S20896 EltTy.f32)
local notation "oV" => (Memref.whole Cert.KernelIdeal.main_v12_scv : Memref Cert.KernelIdeal.sig Kind.scVector Space.hbm Cert.KernelIdeal.S552960 EltTy.f32)
local notation "w0" => (Memref.whole Cert.KernelIdeal.cc0_scratch0 : Memref Cert.KernelIdeal.sig Kind.scVector Space.vmem Cert.KernelIdeal.S848 EltTy.f32)
local notation "w1" => (Memref.whole Cert.KernelIdeal.cc0_scratch1 : Memref Cert.KernelIdeal.sig Kind.scVector Space.vmem Cert.KernelIdeal.S848 EltTy.f32)
local notation "w2" => (Memref.whole Cert.KernelIdeal.cc0_scratch2 : Memref Cert.KernelIdeal.sig Kind.scVector Space.vmem Cert.KernelIdeal.S848 EltTy.f32)
local notation "stg" => (Memref.whole Cert.KernelIdeal.cc0_scratch3 : Memref Cert.KernelIdeal.sig Kind.scVector Space.vmem Cert.KernelIdeal.S17280 EltTy.f32)

variable (d : Dev nD) (L : grid0.Coords)

/-- The three padded component arrays and the call's result, as locations of device `d`. -/
abbrev aLoc0 (d : Dev nD) : Loc nD τ sig := (SparseCore.T d).loc main_v3
@[inherit_doc aLoc0] abbrev aLoc1 (d : Dev nD) : Loc nD τ sig := (SparseCore.T d).loc main_v7
@[inherit_doc aLoc0] abbrev aLoc2 (d : Dev nD) : Loc nD τ sig := (SparseCore.T d).loc main_v11
@[inherit_doc aLoc0] abbrev oLoc (d : Dev nD) : Loc nD τ sig := (SparseCore.T d).loc main_v12

theorem blk_inb (i : Fin 32) : ∀ a, (![17280 * i.val] : Fin 1 → Nat) a + S17280.size a ≤ S552960.size a
  | ⟨0, _⟩ => by show 17280 * i.val + 17280 ≤ 552960; omega
/-- Block `i` of the result: one task's. -/
abbrev blk (i : Fin 32) : Rect S552960 := Rect.unit (s := S552960) ![17280 * i.val] S17280.size (blk_inb i)
abbrev blkSet (i : Fin 32) : Finset S552960.Idx := ((oV).view.slice (blk i)).set

omit [FloatOps F] in
theorem wid_lt (L : grid0.Coords) : wid L < 32 := by
  have h0 : (L 0).val < 2 := (L 0).isLt
  have h1 : (L 1).val < 16 := (L 1).isLt
  unfold wid; omega
abbrev wL (L : grid0.Coords) : Fin 32 := ⟨wid L, wid_lt L⟩

/-- The window of task `w` out of a padded component array. -/
def winOf (A : S20896.Idx → F .f32) (w : Nat) (hw : w < 32) (i : Fin 848) : F .f32 :=
  A (ValueIdx.ix1 ⟨w / 16 * 10448 + w % 16 * 640 + i.val, by have := i.isLt; omega⟩)

/-- One of the three padded arrays. -/
def sel (A0 A1 A2 : S20896.Idx → F .f32) (j : Fin 3) : S20896.Idx → F .f32 := match j with | 0 => A0 | 1 => A1 | 2 => A2

/-- What task `w` leaves at place `r` of its block of the result. -/
def packedAt (A0 A1 A2 : S20896.Idx → F .f32) (w : Nat) (hw : w < 32) (r : Nat) : F .f32 :=
  want (fun j => winOf (sel A0 A1 A2 j) w hw) (w % 16 * 640) r

/-- The call's result, from the three padded component arrays. -/
def packed (A0 A1 A2 : S20896.Idx → F .f32) (y : S552960.Idx) : F .f32 :=
  packedAt A0 A1 A2 ((y 0).val / 17280) (by have : (y 0).val < 552960 := (y 0).isLt; omega) ((y 0).val % 17280)

abbrev oBlk (L : grid0.Coords) : Memref sig .scVector .hbm S17280 .f32 :=
  (oV).slice (Rect.unit (s := S552960) (k0_off5 L) S17280.size (k0_off5_inb L)) (fun _ => rfl)

theorem unit_congr {o o' : Fin 1 → Nat} (h : ∀ a, o a + S17280.size a ≤ S552960.size a) (h' : ∀ a, o' a + S17280.size a ≤ S552960.size a) (e : o = o') :
    Rect.unit (s := S552960) o S17280.size h = Rect.unit (s := S552960) o' S17280.size h' := by subst e; rfl

theorem rect_eq : Rect.unit (s := S552960) (k0_off5 L) S17280.size (k0_off5_inb L) = blk (wL L) :=
  unit_congr _ _ ((k0_off5_eq L).trans (by funext a; match a with | ⟨0, _⟩ => (show 34560 * (L 1).val + 17280 * (L 0).val = 17280 * (2 * (L 1).val + (L 0).val); omega)))

omit [FloatOps F] in
theorem set_oBlk : (oBlk L).view.set = blkSet (wL L) := by
  show ((oV).view.slice (Rect.unit (s := S552960) (k0_off5 L) S17280.size (k0_off5_inb L))).set = ((oV).view.slice (blk (wL L))).set
  exact rect_eq L ▸ rfl

omit [FloatOps F] in
theorem pts_oBlk (f : Buf (Elt F) (oLoc d)) :
    ((oBlk L).view.loc (V d (cV L) (jV L)) ↦[(oBlk L).view.set]{fullShare} f : sProp 𝕄) = oLoc d ↦[blkSet (wL L)]{fullShare} f := by
  rw [set_oBlk]

/-- The subcore's four scoped DMA cells the body names. -/
abbrev cell0 (d : Dev nD) (c : Fin τ.nSC) (i : Fin τ.nSub) : GSem nD τ sig := (V d c i, .dma cc0_scoped0.sem)
@[inherit_doc cell0] abbrev cell1 (d : Dev nD) (c : Fin τ.nSC) (i : Fin τ.nSub) : GSem nD τ sig := (V d c i, .dma cc0_scoped1.sem)
@[inherit_doc cell0] abbrev cell2 (d : Dev nD) (c : Fin τ.nSC) (i : Fin τ.nSub) : GSem nD τ sig := (V d c i, .dma cc0_scoped2.sem)
@[inherit_doc cell0] abbrev cell3 (d : Dev nD) (c : Fin τ.nSC) (i : Fin τ.nSub) : GSem nD τ sig := (V d c i, .dma cc0_scoped3.sem)

omit [FloatOps F] in
theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0 ∗ semVal (cell3 d (cV L) (jV L)) 0
          ∗ bigSep (((((ownCells (V d (cV L) (jV L))).erase (cell0 d (cV L) (jV L))).erase (cell1 d (cV L) (jV L))).erase (cell2 d (cV L) (jV L))).erase
              (cell3 d (cV L) (jV L))) fun g => semVal g 0) := by
  have m0 : cell0 d (cV L) (jV L) ∈ ownCells (V d (cV L) (jV L)) := mem_ownCells.mpr ⟨rfl, show (SemLoc.dma cc0_scoped0.sem : SemLoc sig).isScoped .scVector = true by decide⟩
  have m1 : cell1 d (cV L) (jV L) ∈ ownCells (V d (cV L) (jV L)) := mem_ownCells.mpr ⟨rfl, show (SemLoc.dma cc0_scoped1.sem : SemLoc sig).isScoped .scVector = true by decide⟩
  have m2 : cell2 d (cV L) (jV L) ∈ ownCells (V d (cV L) (jV L)) := mem_ownCells.mpr ⟨rfl, show (SemLoc.dma cc0_scoped2.sem : SemLoc sig).isScoped .scVector = true by decide⟩
  have m3 : cell3 d (cV L) (jV L) ∈ ownCells (V d (cV L) (jV L)) := mem_ownCells.mpr ⟨rfl, show (SemLoc.dma cc0_scoped3.sem : SemLoc sig).isScoped .scVector = true by decide⟩
  have n10 : cell1 d (cV L) (jV L) ≠ cell0 d (cV L) (jV L) := by simp [cell0, cell1]; decide
  have n20 : cell2 d (cV L) (jV L) ≠ cell0 d (cV L) (jV L) := by simp [cell0, cell2]; decide
  have n21 : cell2 d (cV L) (jV L) ≠ cell1 d (cV L) (jV L) := by simp [cell1, cell2]; decide
  have n30 : cell3 d (cV L) (jV L) ≠ cell0 d (cV L) (jV L) := by simp [cell0, cell3]; decide
  have n31 : cell3 d (cV L) (jV L) ≠ cell1 d (cV L) (jV L) := by simp [cell1, cell3]; decide
  have n32 : cell3 d (cV L) (jV L) ≠ cell2 d (cV L) (jV L) := by simp [cell2, cell3]; decide
  unfold SparseCore.Cfg.ownSems0
  rw [SparseCore.bigSep_erase' m0, SparseCore.bigSep_erase' (Finset.mem_erase.mpr ⟨n10, m1⟩),
    SparseCore.bigSep_erase' (Finset.mem_erase.mpr ⟨n21, Finset.mem_erase.mpr ⟨n20, m2⟩⟩),
    SparseCore.bigSep_erase' (Finset.mem_erase.mpr ⟨n32, Finset.mem_erase.mpr ⟨n31, Finset.mem_erase.mpr ⟨n30, m3⟩⟩⟩)]

omit [FloatOps F] in
/-- The subcore's own buffers are the three windows and the staging buffer, each at some contents, together with the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  have mem : ∀ r : Ref sig .scVector, ((Proc.scVector (cV L) (jV L)).devRef r).owner = .proc (.scVector (cV L) (jV L)) →
      (Proc.scVector (cV L) (jV L)).devRef r ∈ ownRefs (τ := τ) (.scVector (cV L) (jV L)) :=
    fun r h => SparseCore.Cfg.mem_ownRefs_of_owner (p := Proc.scVector (cV L) (jV L)) (b := (Proc.scVector (cV L) (jV L)).devRef r) h
  have ne : ∀ r r' : Ref sig .scVector, r ≠ r' → (Proc.scVector (cV L) (jV L)).devRef r ≠ (Proc.scVector (cV L) (jV L)).devRef r' :=
    fun r r' h e => h (Proc.devRef_injective _ e)
  unfold SparseCore.Cfg.ownBufs
  refine (SparseCore.bigSep_erase' (mem cc0_scratch0 rfl)).trans ?_
  rw [SparseCore.bigSep_erase' (Finset.mem_erase.mpr ⟨ne cc0_scratch1 cc0_scratch0 (by decide), mem cc0_scratch1 rfl⟩),
    SparseCore.bigSep_erase' (Finset.mem_erase.mpr ⟨ne cc0_scratch2 cc0_scratch1 (by decide),
      Finset.mem_erase.mpr ⟨ne cc0_scratch2 cc0_scratch0 (by decide), mem cc0_scratch2 rfl⟩⟩),
    SparseCore.bigSep_erase' (Finset.mem_erase.mpr ⟨ne cc0_scratch3 cc0_scratch2 (by decide),
      Finset.mem_erase.mpr ⟨ne cc0_scratch3 cc0_scratch1 (by decide),
        Finset.mem_erase.mpr ⟨ne cc0_scratch3 cc0_scratch0 (by decide), mem cc0_scratch3 rfl⟩⟩⟩)]

/-- A task's window of a padded array, as a buffer's contents. -/
def winBuf (A : S20896.Idx → F .f32) (y : S848.Idx) : F .f32 := winOf A (wid L) (wid_lt L) (y 0)

/-- The loop's invariant: the windows at their contents, and the staging buffer holding the fields of the first `16 k` nodes. -/
def inv (A0 A1 A2 : S20896.Idx → F .f32) (k : Nat) (_ : PUnit) : sProp 𝕄 :=
  iprop(((w0).view.loc (V d (cV L) (jV L)) ↦{fullShare} winBuf L A0) ∗ ((w1).view.loc (V d (cV L) (jV L)) ↦{fullShare} winBuf L A1)
      ∗ ((w2).view.loc (V d (cV L) (jV L)) ↦{fullShare} winBuf L A2) ∗ ∃ g, ((stg).view.loc (V d (cV L) (jV L)) ↦{fullShare} g)
        ∗ ⌜∀ y : S17280.Idx, (y 0).val % 640 < 16 * k →
            g y = want (wins d L (winBuf L A0) (winBuf L A1) (winBuf L A2)) (start L) (y 0).val⌝)

theorem off1_eq : k0_off1 L = ![wid L / 16 * 10448 + wid L % 16 * 640] := by
  have key : ∀ (c : Fin 2) (s : Fin 16),
      (Scalar.addi (Scalar.muli (Scalar.shrsi (Scalar.addi (Scalar.muli (BitVec.ofNat 32 s.val) 2#32) (BitVec.ofNat 32 c.val)) 4#32) 10448#32)
        (Scalar.muli (Scalar.andi (Scalar.addi (Scalar.muli (BitVec.ofNat 32 s.val) 2#32) (BitVec.ofNat 32 c.val)) 15#32) 640#32)).toNat
      = (2 * s.val + c.val) / 16 * 10448 + (2 * s.val + c.val) % 16 * 640 := by decide +kernel
  funext a
  match a with
  | ⟨0, _⟩ => exact key (L 0) (L 1)

/-- Reading a window's slice of a padded array is reading the window. -/
theorem fetched (A : S20896.Idx → F .f32) (h : ∀ a, k0_off1 L a + S848.size a ≤ S20896.size a) (y : S848.Idx) :
    A ((Rect.unit (s := S20896) (k0_off1 L) S848.size h).emb y) = winBuf L A y := by
  unfold winBuf winOf
  congr 1
  funext a
  match a with
  | ⟨0, _⟩ =>
    apply Fin.ext
    rw [Rect.emb_apply]
    have e : k0_off1 L 0 = wid L / 16 * 10448 + wid L % 16 * 640 := congrFun (off1_eq L) 0
    show k0_off1 L 0 + 1 * (y 0).val = wid L / 16 * 10448 + wid L % 16 * 640 + (y 0).val
    omega

theorem wins_eq (A0 A1 A2 : S20896.Idx → F .f32) :
    wins d L (winBuf L A0) (winBuf L A1) (winBuf L A2) = fun j => winOf (sel A0 A1 A2 j) (wid L) (wid_lt L) := by
  funext j
  match j with
  | 0 => rfl
  | 1 => rfl
  | 2 => rfl

/-- The staging buffer's contents, once all forty trips are done, are the task's block of the result. -/
theorem packed_blk (A0 A1 A2 : S20896.Idx → F .f32) (g : S17280.Idx → F .f32)
    (hg : ∀ y : S17280.Idx, g y = want (wins d L (winBuf L A0) (winBuf L A1) (winBuf L A2)) (start L) (y 0).val) (x : S17280.Idx) :
    g x = packed A0 A1 A2 ((oBlk L).view.emb x) := by
  have e0 : k0_off5 L 0 = 17280 * wid L := by
    rw [k0_off5_eq]; show 34560 * (L 1).val + 17280 * (L 0).val = 17280 * (2 * (L 1).val + (L 0).val); omega
  have hx : (x 0).val < 17280 := (x 0).isLt
  have e : (((oBlk L).view.emb x) 0).val = 17280 * wid L + (x 0).val := by
    show k0_off5 L 0 + 1 * (x 0).val = _
    omega
  have hq : (17280 * wid L + (x 0).val) / 17280 = wid L := by omega
  have hr : (17280 * wid L + (x 0).val) % 17280 = (x 0).val := by omega
  have key : ∀ (w r : Nat) (hw : w < 32), w = wid L → r = (x 0).val → g x = packedAt A0 A1 A2 w hw r := by
    rintro w r hw rfl rfl
    rw [hg x]
    unfold packedAt
    rw [wins_eq]; rfl
  exact key _ _ _ (by rw [e]; exact hq) (by rw [e]; exact hr)

/-- The word from which the body counts the task's nodes. -/
theorem start_word : Scalar.muli (Scalar.andi (Scalar.addi (Scalar.muli (BitVec.ofNat 32 (L 1).val) 2#32) (BitVec.ofNat 32 (L 0).val)) 15#32) 640#32
    = BitVec.ofNat 32 (start L) := by
  have key : ∀ (c : Fin 2) (s : Fin 16), Scalar.muli (Scalar.andi (Scalar.addi (Scalar.muli (BitVec.ofNat 32 s.val) 2#32) (BitVec.ofNat 32 c.val)) 15#32) 640#32
      = BitVec.ofNat 32 ((2 * s.val + c.val) % 16 * 640) := by decide +kernel
  exact key (L 0) (L 1)

/-- The three padded arrays at read share `q`. -/
abbrev inPts (q : PosShare TreeShare) (A0 A1 A2 : S20896.Idx → F .f32) : sProp 𝕄 :=
  iprop((aLoc0 d ↦{q} (A0 : Buf (Elt F) (aLoc0 d))) ∗ (aLoc1 d ↦{q} (A1 : Buf (Elt F) (aLoc1 d))) ∗ (aLoc2 d ↦{q} (A2 : Buf (Elt F) (aLoc2 d))))
/-- Block `i` of the result at contents `f`. -/
abbrev outPts (i : Fin 32) (f : Buf (Elt F) (oLoc d)) : sProp 𝕄 := oLoc d ↦[blkSet i]{fullShare} f

set_option maxHeartbeats 4000000 in
theorem tile_body (hF : (K (F := F)).Facts) (q : PosShare TreeShare) (A0 A1 A2 : S20896.Idx → F .f32) (f0 : Buf (Elt F) (oLoc d))
    (O : CellTallies nD τ sig (HIx 1)) (W : Waits sig (HIx 1)) (hO : ∀ g, O g none = 0) :
    iprop(levAts (K (F := F)).L (K (F := F)).lev ∗ emp
        ∗ (inPts d q A0 A1 A2 ∗ outPts d (wL L) f0)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__evpack_sc_body L aV0 (Memref.isWhole_whole _) aV1 (Memref.isWhole_whole _) aV2 (Memref.isWhole_whole _) oV (Memref.isWhole_whole _)
            w0 (Memref.isWhole_whole _) w1 (Memref.isWhole_whole _) w2 (Memref.isWhole_whole _) stg (Memref.isWhole_whole _)
            cc0_scoped0 cc0_scoped1 cc0_scoped2 cc0_scoped3)
          fun _ => iprop((inPts d q A0 A1 A2 ∗ outPts d (wL L) (packed A0 A1 A2))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc0__evpack_sc_body_eq_skeleton]; unfold cc0__evpack_sc_body_skel
  rw [(K (F := F)).scopedBufs_V hF d (cV L) (jV L), SparseCore.Cfg.scopedSems0_V (Val := Elt F) d (cV L) (jV L), ownSems0_V, ownBufs_V]
  iintro ⟨#Hlv, -, ⟨⟨Ha0, Ha1, Ha2⟩, Ho⟩, ⟨⟨%f1, Hw0⟩, ⟨%f2, Hw1⟩, ⟨%f3, Hw2⟩, ⟨%f4, Hst⟩, Hbufs⟩, ⟨Hs0, Hs1, Hs2, Hs3, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ho' := (Entails.of_eq (pts_oBlk (F := F) d L _).symm) $$ Ho
  ihave Ha0' := (show (aLoc0 d ↦{q} (A0 : Buf (Elt F) (aLoc0 d)) : sProp 𝕄) ⊢ ((aV0).view.loc (V d (cV L) (jV L)) ↦{q} A0) from Entails.rfl) $$ Ha0
  ihave Ha1' := (show (aLoc1 d ↦{q} (A1 : Buf (Elt F) (aLoc1 d)) : sProp 𝕄) ⊢ ((aV1).view.loc (V d (cV L) (jV L)) ↦{q} A1) from Entails.rfl) $$ Ha1
  ihave Ha2' := (show (aLoc2 d ↦{q} (A2 : Buf (Elt F) (aLoc2 d)) : sProp 𝕄) ⊢ ((aV2).view.loc (V d (cV L) (jV L)) ↦{q} A2) from Entails.rfl) $$ Ha2
  ihave Hw0' := (show ((V d (cV L) (jV L)).loc cc0_scratch0 ↦{fullShare} f1 : sProp 𝕄) ⊢ ((w0).view.loc (V d (cV L) (jV L)) ↦{fullShare} f1) from Entails.rfl) $$ Hw0
  ihave Hw1' := (show ((V d (cV L) (jV L)).loc cc0_scratch1 ↦{fullShare} f2 : sProp 𝕄) ⊢ ((w1).view.loc (V d (cV L) (jV L)) ↦{fullShare} f2) from Entails.rfl) $$ Hw1
  ihave Hw2' := (show ((V d (cV L) (jV L)).loc cc0_scratch2 ↦{fullShare} f3 : sProp 𝕄) ⊢ ((w2).view.loc (V d (cV L) (jV L)) ↦{fullShare} f3) from Entails.rfl) $$ Hw2
  ihave Hst' := (show ((V d (cV L) (jV L)).loc cc0_scratch3 ↦{fullShare} f4 : sProp 𝕄) ⊢ ((stg).view.loc (V d (cV L) (jV L)) ↦{fullShare} f4) from Entails.rfl) $$ Hst
  sl_exec (disch := exact View.amount_pos _ _ (show 0 < S848.numel by decide))
  have hv4 : tile_body.sl.v4 L = BitVec.ofNat 32 (start L) := start_word L
  rw [hv4]
  have e0 : View.write (Elt F) (w0).view f1 (tile_body.sl.dma0 L A0) Finset.univ = winBuf L A0 := by
    exact (View.write_whole_univ cc0_scratch0 f1 _).trans (funext fun y => fetched L A0 _ y)
  have e1 : View.write (Elt F) (w1).view f2 (tile_body.sl.dma0_1 L A1) Finset.univ = winBuf L A1 := by
    exact (View.write_whole_univ cc0_scratch1 f2 _).trans (funext fun y => fetched L A1 _ y)
  have e2 : View.write (Elt F) (w2).view f3 (tile_body.sl.dma0_2 L A2) Finset.univ = winBuf L A2 := by
    exact (View.write_whole_univ cc0_scratch2 f3 _).trans (funext fun y => fetched L A2 _ y)
  rw [e0, e1, e2]
  sl_for (inv d L A0 A1 A2) $$ [Hw0' Hw1' Hw2' Hst']
  case region =>
    intro k _
    unfold inv
    iintro ⟨H0, H1, H2, %g, H3, %hg⟩
    iapply (wp_wand_r Idealize.ShloMosaic.frame (wpE (defs₀ (F := F)) 𝒱₀ (V d (cV L) (jV L)) none) Set.univ)
    isplitl [H0 H1 H2 H3]
    · iapply (trip d L (start L) _ rfl k (winBuf L A0) (winBuf L A1) (winBuf L A2) g)
      isplitl [H0]; · iexact H0
      isplitl [H1]; · iexact H1
      isplitl [H2]; · iexact H2
      iexact H3
    iintro %_ ⟨H0, H1, H2, %g', H3, %hg'⟩
    isplitl [H0]; · iexact H0
    isplitl [H1]; · iexact H1
    isplitl [H2]; · iexact H2
    iexists g'; isplitl [H3]; · iexact H3
    ipureintro
    intro y hy
    rw [hg' y]
    by_cases hc : 16 * k.val ≤ (y 0).val % 640 ∧ (y 0).val % 640 < 16 * k.val + 16
    · rw [if_pos hc]
    · rw [if_neg hc]; exact hg y (by omega)
  · unfold inv
    isplitl [Hw0']; · iexact Hw0'
    isplitl [Hw1']; · iexact Hw1'
    isplitl [Hw2']; · iexact Hw2'
    iexists f4; isplitl [Hst']; · iexact Hst'
    ipureintro; intro y hy; omega
  iintro %_ HI
  unfold inv
  icases HI with ⟨Hw0', Hw1', Hw2', %g, Hst', %hg⟩
  sl_exec (disch := exact View.amount_pos _ _ (show 0 < S17280.numel by decide))
  have hout : ∀ y ∈ (oBlk L).view.set,
      (oBlk L).view.writes (Elt F) f0 [⟨Rect.whole S17280, tile_body.sl.dma0_3 d L g⟩] y = packed A0 A1 A2 y := by
    intro y hy
    obtain ⟨x, -, rfl⟩ := Finset.mem_map.mp hy
    have h := congrFun (View.read_writes_whole (Val := Elt F) (oBlk L).view f0 (tile_body.sl.dma0_3 d L g)) x
    rw [View.read_apply, cast_eq] at h
    refine h.trans ?_
    refine Eq.trans (b := g x) rfl ?_
    exact packed_blk d L A0 A1 A2 g (fun y => hg y (by
      have : Scf.trips k0_t1_loop.lb k0_t1_loop.ub k0_t1_loop.st = 40 := trips_eq
      rw [this]; omega)) x
  ihave Ho := (Entails.of_eq (pointsTo_congr hout)) $$ Ho'
  sl_step
  isplitl [Ha0' Ha1' Ha2' Ho]
  · isplitl [Ha0' Ha1' Ha2']
    · isplitl [Ha0']; · iexact Ha0'
      isplitl [Ha1']; · iexact Ha1'
      iexact Ha2'
    iapply (Entails.of_eq (pts_oBlk (F := F) d L _)); iexact Ho
  isplitl [Hw0' Hw1' Hw2' Hst' Hbufs]
  · isplitl [Hw0']; · iexists _; iexact Hw0'
    isplitl [Hw1']; · iexists _; iexact Hw1'
    isplitl [Hw2']; · iexists _; iexact Hw2'
    isplitl [Hst']; · iexists _; iexact Hst'
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexists _; isplitr
  swap; · iexact HO
  ipureintro; intro p _
  rcases p.2 with _ | q
  · exact .inr (.inl rfl)
  · exact .inr (.inr (congrArg some (Subsingleton.elim q 0)))

end Cert.Proof.Tile

end
-- ==== Proof.Call.lean ====
/-
  The SparseCore call: what each core and each task is handed and hands back, for any three component arrays. The arrays go
  out as read shares, the result as its thirty-two blocks.
-/
module

public import proofs.«01_k».proof.Proof.Tile

@[expose] public section

noncomputable section

namespace Cert.Proof.Call

open Cert.KernelIdeal Cert.KernelIdeal.Gen Cert.Proof.Setup Cert.Proof.Tile

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)

variable {F : FTy → Type} [FloatOps F]

local notation "𝕄" => MT nD τ sig (HIx 1) (Elt F) ℕ UU ℕ

/-- The three component arrays of every device. -/
abbrev Arrs (F : FTy → Type) : Type := Dev nD → S20896.Idx → F .f32

variable (A0 A1 A2 : Arrs F) (o0 : (d : Dev nD) → Buf (Elt F) (oLoc d))

/-! ## The blocks of the result -/

/-- The number of the task on core `c` and subcore `i`. -/
abbrev task (p : Fin 2 × Fin 16) : Fin 32 := ⟨2 * p.2.val + p.1.val, by have := p.1.isLt; have := p.2.isLt; omega⟩

omit [FloatOps F] in
theorem mem_blkSet (i : Fin 32) (y : S552960.Idx) : y ∈ blkSet i ↔ 17280 * i.val ≤ (y 0).val ∧ (y 0).val < 17280 * i.val + 17280 := by
  have h : blkSet i = (blk i).set := by
    show ((View.whole (main_v12_scv : Ref sig .scVector)).slice (blk i)).set = _
    rw [View.set_slice]; exact Finset.map_refl
  rw [h, Rect.mem_set_unit]
  constructor
  · intro h; exact h 0
  · intro h a
    match a with
    | ⟨0, _⟩ => exact h

omit [FloatOps F] in
theorem blks_disjoint : ∀ p ∈ (Finset.univ : Finset (Fin 2 × Fin 16)), ∀ p' ∈ (Finset.univ : Finset (Fin 2 × Fin 16)), p ≠ p' →
    Disjoint (blkSet (task p)) (blkSet (task p')) := by
  intro p _ p' _ h
  rw [Finset.disjoint_left]
  intro y hy hy'
  rw [mem_blkSet] at hy hy'
  have h1 := p.1.isLt; have h2 := p'.1.isLt
  refine h (Prod.ext (Fin.ext ?_) (Fin.ext ?_)) <;> simp only at hy hy' <;> omega

omit [FloatOps F] in
theorem blks_cover : (Finset.univ : Finset (Fin 2 × Fin 16)).biUnion (fun p => blkSet (task p)) = Finset.univ := by
  ext y
  have hy : (y 0).val < 552960 := (y 0).isLt
  simp only [Finset.mem_biUnion, Finset.mem_univ, true_and, iff_true]
  refine ⟨(⟨(y 0).val / 17280 % 2, by omega⟩, ⟨(y 0).val / 17280 / 2, by omega⟩), ?_⟩
  rw [mem_blkSet]; simp only; omega

/-- The result whole is its blocks, core by core. -/
theorem out_blks (d : Dev nD) (f : Buf (Elt F) (oLoc d)) :
    (oLoc d ↦{fullShare} f : sProp 𝕄) = bigSep Finset.univ fun c : Fin 2 => bigSep Finset.univ fun i : Fin 16 => outPts d (task (c, i)) f := by
  rw [← bigSep_univ_prod (fun p : Fin 2 × Fin 16 => (outPts d (task p) f : sProp 𝕄))]
  unfold outPts
  rw [← pointsTo_biUnion Finset.univ (ℓ := oLoc d) (fun p => blkSet (task p)) blks_disjoint, blks_cover]

/-- The arrays at a share are the arrays at its leaves. -/
theorem in_leaves (d : Dev nD) (n : ℕ) (q : PosShare TreeShare) (B0 B1 B2 : S20896.Idx → F .f32) :
    (inPts d q B0 B1 B2 : sProp 𝕄) = bigSep Finset.univ fun i : Fin (2 ^ n) => inPts d (leaf n q i) B0 B1 B2 := by
  unfold inPts
  rw [bigSep_sep', bigSep_sep', pointsTo_leaves _ _ n q, pointsTo_leaves _ _ n q, pointsTo_leaves _ _ n q]

/-! ## What the call moves -/

/-- What core `c` is handed, and hands back at contents `f` of the result. -/
def corePts (d : Dev nD) (c : Fin 2) (f : Buf (Elt F) (oLoc d)) : sProp 𝕄 :=
  iprop(inPts d (leaf 1 fullShare c) (A0 d) (A1 d) (A2 d) ∗ bigSep Finset.univ fun i : Fin 16 => outPts d (task (c, i)) f)

/-- What task `i` of core `c` is handed, and hands back. -/
def taskPts (d : Dev nD) (c : Fin 2) (i : Fin 16) (f : Buf (Elt F) (oLoc d)) : sProp 𝕄 :=
  iprop(inPts d (leaf 4 (leaf 1 fullShare c) i) (A0 d) (A1 d) (A2 d) ∗ outPts d (task (c, i)) f)

instance inPts_storable (d : Dev nD) (q : PosShare TreeShare) (B0 B1 B2 : S20896.Idx → F .f32) :
    BI.Storable (upEmb : UEmb _ 𝕄) (inPts d q B0 B1 B2 : sProp 𝕄) := by unfold inPts; infer_instance
instance outPts_storable (d : Dev nD) (i : Fin 32) (f : Buf (Elt F) (oLoc d)) :
    BI.Storable (upEmb : UEmb _ 𝕄) (outPts d i f : sProp 𝕄) := by unfold outPts; infer_instance
instance corePts_storable (d : Dev nD) (c : Fin 2) (f : Buf (Elt F) (oLoc d)) :
    BI.Storable (upEmb : UEmb _ 𝕄) (corePts A0 A1 A2 d c f) := by unfold corePts; infer_instance
instance taskPts_storable (d : Dev nD) (c : Fin 2) (i : Fin 16) (f : Buf (Elt F) (oLoc d)) :
    BI.Storable (upEmb : UEmb _ 𝕄) (taskPts A0 A1 A2 d c i f) := by unfold taskPts; infer_instance

/-- A core's pieces are its tasks'. -/
theorem core_tasks (d : Dev nD) (c : Fin 2) (f : Buf (Elt F) (oLoc d)) :
    corePts A0 A1 A2 d c f = bigSep Finset.univ fun i : Fin 16 => taskPts A0 A1 A2 d c i f := by
  unfold corePts taskPts
  rw [bigSep_sep']
  exact congrArg (fun X => iprop(X ∗ _)) (in_leaves d 4 _ _ _ _)

/-- The call's arrays whole are the cores' pieces. -/
theorem whole_cores (d : Dev nD) (f : Buf (Elt F) (oLoc d)) :
    (iprop(inPts d fullShare (A0 d) (A1 d) (A2 d) ∗ oLoc d ↦{fullShare} f) : sProp 𝕄) = bigSep Finset.univ fun c : Fin 2 => corePts A0 A1 A2 d c f := by
  unfold corePts
  rw [bigSep_sep', out_blks]
  exact congrArg (fun X => iprop(X ∗ _)) (in_leaves d 1 _ _ _ _)

/-- What the tasks leave in the result. -/
abbrev out (d : Dev nD) : Buf (Elt F) (oLoc d) := packed (A0 d) (A1 d) (A2 d)

/-- The call's pieces. -/
def P : (K (F := F)).Pay (nD := nD) (Val := Elt F) (Name := ℕ) (U := UU) where
  st := fun q d c => match q with | 0 => corePts A0 A1 A2 d (Fin.cast nCore_zero c) (o0 d)
  dn := fun q d c => match q with | 0 => corePts A0 A1 A2 d (Fin.cast nCore_zero c) (out A0 A1 A2 d)
  go := fun q d c i => match q with | 0 => taskPts A0 A1 A2 d (Fin.cast nCore_zero c) (Fin.cast nSub_zero i) (o0 d)
  td := fun q d c i => match q with | 0 => taskPts A0 A1 A2 d (Fin.cast nCore_zero c) (Fin.cast nSub_zero i) (out A0 A1 A2 d)
  x := fun _ _ => iprop(emp)

instance P_storable : (P (F := F) A0 A1 A2 o0).IsStorable where
  st q d c := match q with | 0 => corePts_storable A0 A1 A2 d (Fin.cast nCore_zero c) (o0 d)
  dn q d c := match q with | 0 => corePts_storable A0 A1 A2 d (Fin.cast nCore_zero c) (out A0 A1 A2 d)
  go q d c i := match q with | 0 => taskPts_storable A0 A1 A2 d (Fin.cast nCore_zero c) (Fin.cast nSub_zero i) (o0 d)
  td q d c i := match q with | 0 => taskPts_storable A0 A1 A2 d (Fin.cast nCore_zero c) (Fin.cast nSub_zero i) (out A0 A1 A2 d)

/-! ## The task's obligation -/

/-- A task's coordinates. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__evpack_sc_body (coordsV c s)
          (.whole main_v3_scv) (Memref.isWhole_whole _) (.whole main_v7_scv) (Memref.isWhole_whole _) (.whole main_v11_scv) (Memref.isWhole_whole _)
          (.whole main_v12_scv) (Memref.isWhole_whole _) (.whole cc0_scratch0) (Memref.isWhole_whole _) (.whole cc0_scratch1) (Memref.isWhole_whole _)
          (.whole cc0_scratch2) (Memref.isWhole_whole _) (.whole cc0_scratch3) (Memref.isWhole_whole _) cc0_scoped0 cc0_scoped1 cc0_scoped2 cc0_scoped3) ⟨⟩ c s := rfl

theorem tileObl (hF : (K (F := F)).Facts) : (K (F := F)).TileObl (D (F := F)) 𝒱 (P A0 A1 A2 o0) v₀ 0 := by
  intro d c i O W hO _ _
  simp only [show (P A0 A1 A2 o0).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) hF (leaf 4 (leaf 1 fullShare (Fin.cast nCore_zero c)) (Fin.cast nSub_zero i)) (A0 d) (A1 d) (A2 d) (o0 d) O W hO

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P A0 A1 A2 o0) 0 := by
  intro d c
  show corePts A0 A1 A2 d (Fin.cast nCore_zero c) (o0 d) ⊢ |={Set.univ}=> iprop(
      (bigSep Finset.univ fun i : Fin ((K (F := F)).nSub 0) => taskPts A0 A1 A2 d (Fin.cast nCore_zero c) (Fin.cast nSub_zero i) (o0 d))
      ∗ ((bigSep Finset.univ fun i : Fin ((K (F := F)).nSub 0) => taskPts A0 A1 A2 d (Fin.cast nCore_zero c) (Fin.cast nSub_zero i) (out A0 A1 A2 d))
          -∗ corePts A0 A1 A2 d (Fin.cast nCore_zero c) (out A0 A1 A2 d)))
  rw [bigSep_tasks (F := F) (fun i => taskPts A0 A1 A2 d (Fin.cast nCore_zero c) i (o0 d)),
    bigSep_tasks (F := F) (fun i => taskPts A0 A1 A2 d (Fin.cast nCore_zero c) i (out A0 A1 A2 d)), ← core_tasks, ← core_tasks]
  iintro H; imodintro
  isplitl [H]; · iexact H
  iintro H; iexact H

/-! ## The launch's element -/

def u₀ : UU := (initOf (K (F := F)).hsCells (K (F := F)).hsToks, 1)

omit [FloatOps F] in
theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A0 A1 A2 o0).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun thr : Thread nD τ => bigSep Finset.univ fun q : Fin 1 => (P (F := F) A0 A1 A2 o0).x q thr) = bigSep Finset.univ fun _ => iprop(emp) from
    bigSep_congr fun _ _ => bigSep_univ_of_subsingleton (0 : Fin 1), bigSep_none]
  iempintro

/-- What the call takes from the TensorCore, and what it brings back. -/
theorem st0_eq (d : Dev nD) : (bigSep Finset.univ fun c : Fin ((K (F := F)).nCore 0) => (P A0 A1 A2 o0).st 0 d c)
    = iprop(inPts d fullShare (A0 d) (A1 d) (A2 d) ∗ oLoc d ↦{fullShare} o0 d) :=
  (bigSep_cores (F := F) (fun c => corePts A0 A1 A2 d c (o0 d))).trans (whole_cores A0 A1 A2 d _).symm
@[inherit_doc st0_eq] theorem dn0_eq (d : Dev nD) : (bigSep Finset.univ fun c : Fin ((K (F := F)).nCore 0) => (P A0 A1 A2 o0).dn 0 d c)
    = iprop(inPts d fullShare (A0 d) (A1 d) (A2 d) ∗ oLoc d ↦{fullShare} out A0 A1 A2 d) :=
  (bigSep_cores (F := F) (fun c => corePts A0 A1 A2 d c (out A0 A1 A2 d))).trans (whole_cores A0 A1 A2 d _).symm

end Cert.Proof.Call

end
-- ==== Proof.Launch.lean ====
/-
  The program's run: the host operations before the SparseCore call, the call, and the host operations after it, with the
  result's value.
-/
module

public import proofs.«01_k».proof.Proof.Call
public import Idealize.ShloMosaic.Lib.Pipeline.Frame

@[expose] public section

noncomputable section

namespace Cert.Proof.Launch

open Cert.KernelIdeal Cert.KernelIdeal.Gen Cert.Proof.Setup Cert.Proof.Tile Cert.Proof.Call

open Idealize.ShloMosaic Idealize.ShloMosaic.TcCoe
open Idealize.ShloMosaic.SparseCore (S V T)
open Idealize.ShloMosaic.SparseCore.Cfg (HIx Pay)
open Idealize.ShloMosaic.StableHlo
open Idealize.ShloMosaic.Pipeline (ucRefs sub_ucRefs unscopedBufs_held)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The host operations -/

/-- One component of `x`, padded, as one line of operations. -/
abbrev opsBefore : List (HloOp τ sig (Elt F)) :=
  [ unary main_arg0 main_v0 ((extractStridedSlice S2x10000x1 ![0, 0, 0] · slices_S2x10000x3_S2x10000x1_0_0_0) : (⟨S2x10000x3, .f32⟩ : BufTy).Contents (Elt F) → (⟨S2x10000x1, .f32⟩ : BufTy).Contents (Elt F)),
    StableHlo.reshape main_v0 main_v1 (rfl : (.f32 : EltTy) = .f32) shapeCasts_S2x10000x1_S2x10000,
    nullary main_c (constantI S_ 32 0#32),
    TRef.unary (TRef.of (T := ⟨S_, .i32⟩) main_c) (TRef.of (T := ⟨S_, .f32⟩) main_call0_v0) (sitofp .f32),
    TRef.binary (TRef.of (T := ⟨S2x10000, .f32⟩) main_v1) (TRef.of (T := ⟨S_, .f32⟩) main_call0_v0) (TRef.of (T := ⟨S2x10448, .f32⟩) main_v2) (fun x v => pad S2x10448 ![0, 104] ![0, 344] ![0, 0] x v pads_S2x10000_S2x10448_000_1043440 h_S_),
    StableHlo.reshape main_v2 main_v3 (rfl : (.f32 : EltTy) = .f32) shapeCasts_S2x10448_S20896,
    unary main_arg0 main_v4 ((extractStridedSlice S2x10000x1 ![0, 0, 1] · slices_S2x10000x3_S2x10000x1_0_0_1) : (⟨S2x10000x3, .f32⟩ : BufTy).Contents (Elt F) → (⟨S2x10000x1, .f32⟩ : BufTy).Contents (Elt F)),
    StableHlo.reshape main_v4 main_v5 (rfl : (.f32 : EltTy) = .f32) shapeCasts_S2x10000x1_S2x10000,
    nullary main_c_0 (constantI S_ 32 0#32),
    TRef.unary (TRef.of (T := ⟨S_, .i32⟩) main_c_0) (TRef.of (T := ⟨S_, .f32⟩) main_call1_v0) (sitofp .f32),
    TRef.binary (TRef.of (T := ⟨S2x10000, .f32⟩) main_v5) (TRef.of (T := ⟨S_, .f32⟩) main_call1_v0) (TRef.of (T := ⟨S2x10448, .f32⟩) main_v6) (fun x v => pad S2x10448 ![0, 104] ![0, 344] ![0, 0] x v pads_S2x10000_S2x10448_000_1043440 h_S_),
    StableHlo.reshape main_v6 main_v7 (rfl : (.f32 : EltTy) = .f32) shapeCasts_S2x10448_S20896,
    unary main_arg0 main_v8 ((extractStridedSlice S2x10000x1 ![0, 0, 2] · slices_S2x10000x3_S2x10000x1_0_0_2) : (⟨S2x10000x3, .f32⟩ : BufTy).Contents (Elt F) → (⟨S2x10000x1, .f32⟩ : BufTy).Contents (Elt F)),
    StableHlo.reshape main_v8 main_v9 (rfl : (.f32 : EltTy) = .f32) shapeCasts_S2x10000x1_S2x10000,
    nullary main_c_1 (constantI S_ 32 0#32),
    TRef.unary (TRef.of (T := ⟨S_, .i32⟩) main_c_1) (TRef.of (T := ⟨S_, .f32⟩) main_call2_v0) (sitofp .f32),
    TRef.binary (TRef.of (T := ⟨S2x10000, .f32⟩) main_v9) (TRef.of (T := ⟨S_, .f32⟩) main_call2_v0) (TRef.of (T := ⟨S2x10448, .f32⟩) main_v10) (fun x v => pad S2x10448 ![0, 104] ![0, 344] ![0, 0] x v pads_S2x10000_S2x10448_000_1043440 h_S_),
    StableHlo.reshape main_v10 main_v11 (rfl : (.f32 : EltTy) = .f32) shapeCasts_S2x10448_S20896 ]

/-- The operations after the call: the blocks brought into node order. -/
abbrev opsAfter : List (HloOp τ sig (Elt F)) :=
  [ StableHlo.reshape main_v12 main_v13 (rfl : (.f32 : EltTy) = .f32) shapeCasts_S552960_S2x16x27x640,
    unary main_v13 main_v14 ((transpose S2x16x640x27 [0, 1, 3, 2] · transposes_S2x16x27x640_S2x16x640x27_0_1_3_2) : (⟨S2x16x27x640, .f32⟩ : BufTy).Contents (Elt F) → (⟨S2x16x640x27, .f32⟩ : BufTy).Contents (Elt F)),
    StableHlo.reshape main_v14 main_v15 (rfl : (.f32 : EltTy) = .f32) shapeCasts_S2x16x640x27_S2x10240x27,
    unary main_v15 main_v16 ((extractStridedSlice S2x10000x27 ![0, 0, 0] · slices_S2x10240x27_S2x10000x27_0_0_0) : (⟨S2x10240x27, .f32⟩ : BufTy).Contents (Elt F) → (⟨S2x10000x27, .f32⟩ : BufTy).Contents (Elt F)) ]

set_option maxRecDepth 8192 in
theorem main_eq (d : Dev nD) : main (F := F) d = (seq opsBefore >>= fun _ => sc.run d 0 >>= fun _ => seq opsAfter >>= fun _ => pure ⟨⟩) := by
  simp only [main, fn_pad.body, seq, bind_assoc, pure_bind]

set_option maxRecDepth 8192 in
theorem before_sub : (opsBefore : List (HloOp τ sig (Elt F))).Forall fun op => op.bufs ⊆ tcRefs τ sig := by
  simp only [List.Forall]
  exact ⟨unary_bufs_sub _ _ _ _ _, reshape_bufs_sub _ _ _ _ _ _, nullary_bufs_sub _ _ _, unary_bufs_sub _ _ _ _ _, binary_bufs_sub _ _ _ _ _ _ _, reshape_bufs_sub _ _ _ _ _ _,
    unary_bufs_sub _ _ _ _ _, reshape_bufs_sub _ _ _ _ _ _, nullary_bufs_sub _ _ _, unary_bufs_sub _ _ _ _ _, binary_bufs_sub _ _ _ _ _ _ _, reshape_bufs_sub _ _ _ _ _ _,
    unary_bufs_sub _ _ _ _ _, reshape_bufs_sub _ _ _ _ _ _, nullary_bufs_sub _ _ _, unary_bufs_sub _ _ _ _ _, binary_bufs_sub _ _ _ _ _ _ _, reshape_bufs_sub _ _ _ _ _ _⟩
theorem after_sub : (opsAfter : List (HloOp τ sig (Elt F))).Forall fun op => op.bufs ⊆ tcRefs τ sig := by
  simp only [List.Forall]
  exact ⟨reshape_bufs_sub _ _ _ _ _ _, unary_bufs_sub _ _ _ _ _, reshape_bufs_sub _ _ _ _ _ _, unary_bufs_sub _ _ _ _ _⟩

/-! ## The values -/

variable (m : (ℓ : Loc nD τ sig) → Buf (Elt F) ℓ) (ρ : Dev nD → PrngReg)

/-- Component `j` of `x`, padded, as the call's operand. -/
abbrev comp0 (x : FVec F S2x10000x3 .f32) : FVec F S20896 .f32 :=
  shapeCast S20896 (pad S2x10448 ![0, 104] ![0, 344] ![0, 0] (shapeCast S2x10000 (extractStridedSlice S2x10000x1 ![0, 0, 0] x slices_S2x10000x3_S2x10000x1_0_0_0) shapeCasts_S2x10000x1_S2x10000) (sitofp .f32 (constantI S_ 32 0#32)) pads_S2x10000_S2x10448_000_1043440 h_S_) shapeCasts_S2x10448_S20896
@[inherit_doc comp0] abbrev comp1 (x : FVec F S2x10000x3 .f32) : FVec F S20896 .f32 :=
  shapeCast S20896 (pad S2x10448 ![0, 104] ![0, 344] ![0, 0] (shapeCast S2x10000 (extractStridedSlice S2x10000x1 ![0, 0, 1] x slices_S2x10000x3_S2x10000x1_0_0_1) shapeCasts_S2x10000x1_S2x10000) (sitofp .f32 (constantI S_ 32 0#32)) pads_S2x10000_S2x10448_000_1043440 h_S_) shapeCasts_S2x10448_S20896
@[inherit_doc comp0] abbrev comp2 (x : FVec F S2x10000x3 .f32) : FVec F S20896 .f32 :=
  shapeCast S20896 (pad S2x10448 ![0, 104] ![0, 344] ![0, 0] (shapeCast S2x10000 (extractStridedSlice S2x10000x1 ![0, 0, 2] x slices_S2x10000x3_S2x10000x1_0_0_2) shapeCasts_S2x10000x1_S2x10000) (sitofp .f32 (constantI S_ 32 0#32)) pads_S2x10000_S2x10448_000_1043440 h_S_) shapeCasts_S2x10448_S20896

/-- The blocks in node order, cut to the nodes. -/
abbrev ordered (y : FVec F S552960 .f32) : FVec F S2x10000x27 .f32 :=
  extractStridedSlice S2x10000x27 ![0, 0, 0] (shapeCast S2x10240x27 (transpose S2x16x640x27 [0, 1, 3, 2] (shapeCast S2x16x27x640 y shapeCasts_S552960_S2x16x27x640) transposes_S2x16x27x640_S2x16x640x27_0_1_3_2) shapeCasts_S2x16x640x27_S2x10240x27) slices_S2x10240x27_S2x10000x27_0_0_0

abbrev xLoc (d : Dev nD) : Loc nD τ sig := (SparseCore.T d).loc main_arg0
abbrev rLoc (d : Dev nD) : Loc nD τ sig := (SparseCore.T d).loc main_v16

def X (d : Dev nD) : FVec F S2x10000x3 .f32 := m (xLoc d)
def A0 : Arrs F := fun d => comp0 (X m d)
def A1 : Arrs F := fun d => comp1 (X m d)
def A2 : Arrs F := fun d => comp2 (X m d)

/-- The result of the whole program. -/
def R (d : Dev nD) : FVec F S2x10000x27 .f32 := ordered (packed (A0 m d) (A1 m d) (A2 m d))

/-- The buffers at launch, before the call, after it. -/
def W0 (d : Dev nD) : Valuation τ sig (Elt F) := fun b => m (d, b)
def W1 (d : Dev nD) : Valuation τ sig (Elt F) := after opsBefore (W0 m d)
abbrev o' : DevRef τ sig := Proc.devRef .tc (main_v12 : Ref sig .tc)
def W2 (d : Dev nD) : Valuation τ sig (Elt F) := Function.update (W1 m d) o' (packed (A0 m d) (A1 m d) (A2 m d))

set_option maxRecDepth 8192 in
set_option maxHeartbeats 2000000 in
theorem W1_v3 (d : Dev nD) : W1 m d (Proc.devRef .tc main_v3) = A0 m d := by
  unfold W1
  simp only [opsBefore, TRef.binary, TRef.unary, TRef.toBuf, TRef.ofBuf, cast_eq]
  after_results_simp
  rfl
set_option maxRecDepth 8192 in
set_option maxHeartbeats 2000000 in
theorem W1_v7 (d : Dev nD) : W1 m d (Proc.devRef .tc main_v7) = A1 m d := by
  unfold W1
  simp only [opsBefore, TRef.binary, TRef.unary, TRef.toBuf, TRef.ofBuf, cast_eq]
  after_results_simp
  rfl
set_option maxRecDepth 8192 in
set_option maxHeartbeats 2000000 in
theorem W1_v11 (d : Dev nD) : W1 m d (Proc.devRef .tc main_v11) = A2 m d := by
  unfold W1
  simp only [opsBefore, TRef.binary, TRef.unary, TRef.toBuf, TRef.ofBuf, cast_eq]
  after_results_simp
  rfl
set_option maxRecDepth 8192 in
set_option maxHeartbeats 2000000 in
theorem W1_arg0 (d : Dev nD) : W1 m d (Proc.devRef .tc main_arg0) = X m d := by
  unfold W1
  simp only [opsBefore, TRef.binary, TRef.unary, TRef.toBuf, TRef.ofBuf, cast_eq]
  after_results_simp
  rfl

theorem W2_o (d : Dev nD) : W2 m d o' = packed (A0 m d) (A1 m d) (A2 m d) := Function.update_self _ _ _
theorem W2_ne (d : Dev nD) (b : DevRef τ sig) (h : b ≠ o') : W2 m d b = W1 m d b := Function.update_of_ne h _ _

set_option maxRecDepth 8192 in
theorem W3_v16 (d : Dev nD) : after opsAfter (W2 m d) (Proc.devRef .tc main_v16) = R m d := by
  simp only [opsAfter]
  after_results_simp
  rw [W2_o]
  rfl
set_option maxRecDepth 8192 in
theorem W3_arg0 (d : Dev nD) : after opsAfter (W2 m d) (Proc.devRef .tc main_arg0) = X m d := by
  simp only [opsAfter]
  after_results_simp
  rw [W2_ne m d _ (by decide), W1_arg0]

/-! ## @main on the TensorCore -/

/-- The call's buffers. -/
abbrev S4 : Finset (DevRef τ sig) :=
  {Proc.devRef .tc (main_v3 : Ref sig .tc), Proc.devRef .tc (main_v7 : Ref sig .tc), Proc.devRef .tc (main_v11 : Ref sig .tc), o'}
/-- The arrays the claim reads. -/
abbrev S2 : Finset (DevRef τ sig) := {Proc.devRef .tc (main_arg0 : Ref sig .tc), Proc.devRef .tc (main_v16 : Ref sig .tc)}

theorem S4_sub : S4 ⊆ ucRefs τ sig := by decide +kernel
theorem S2_sub : S2 ⊆ ucRefs τ sig := by decide +kernel

omit [FloatOps F] in
theorem sep4_assoc (a b c e : sProp 𝕄) : (iprop(a ∗ b ∗ c ∗ e) : sProp 𝕄) = iprop((a ∗ b ∗ c) ∗ e) := by
  have h1 : (iprop(a ∗ b ∗ c ∗ e) : sProp 𝕄) ⊢ iprop((a ∗ b ∗ c) ∗ e) := by
    iintro ⟨H0, H1, H2, H3⟩
    isplitr [H3]
    · isplitl [H0]; · iexact H0
      isplitl [H1]; · iexact H1
      iexact H2
    iexact H3
  have h2 : (iprop((a ∗ b ∗ c) ∗ e) : sProp 𝕄) ⊢ iprop(a ∗ b ∗ c ∗ e) := by
    iintro ⟨⟨H0, H1, H2⟩, H3⟩
    isplitl [H0]; · iexact H0
    isplitl [H1]; · iexact H1
    isplitl [H2]; · iexact H2
    iexact H3
  exact BI.Entails.antisymm h1 h2

theorem held_S4 (d : Dev nD) (W : Valuation τ sig (Elt F)) (B0 B1 B2 : S20896.Idx → F .f32)
    (h0 : W (Proc.devRef .tc (main_v3 : Ref sig .tc)) = B0) (h1 : W (Proc.devRef .tc (main_v7 : Ref sig .tc)) = B1) (h2 : W (Proc.devRef .tc (main_v11 : Ref sig .tc)) = B2) :
    (held (T d) S4 W : sProp 𝕄) = iprop(inPts d fullShare B0 B1 B2 ∗ oLoc d ↦{fullShare} W o') := by
  subst h0 h1 h2
  unfold held S4 inPts
  rw [SparseCore.bigSep_insert' (by decide), SparseCore.bigSep_insert' (by decide), SparseCore.bigSep_insert' (by decide), bigSep_singleton]
  exact sep4_assoc _ _ _ _

theorem held_S2 (d : Dev nD) (W : Valuation τ sig (Elt F)) :
    (held (T d) S2 W : sProp 𝕄) = iprop((xLoc d ↦{fullShare} W (Proc.devRef .tc (main_arg0 : Ref sig .tc))) ∗ rLoc d ↦{fullShare} W (Proc.devRef .tc (main_v16 : Ref sig .tc))) := by
  unfold held S2
  rw [SparseCore.bigSep_insert' (by decide), bigSep_singleton]

/-- The call's pieces at this program's arrays. -/
abbrev PP : (K (F := F)).Pay (nD := nD) (Val := Elt F) (Name := ℕ) (U := UU) := P (A0 m) (A1 m) (A2 m) (fun d => W1 m d o')

/-- What @main leaves: `x` as it was, the result at its value. -/
abbrev FIN (d : Dev nD) : sProp 𝕄 :=
  iprop((xLoc d ↦{fullShare} (X m d : Buf (Elt F) (xLoc d))) ∗ rLoc d ↦{fullShare} (R m d : Buf (Elt F) (rLoc d)))

theorem hmain (κ : GSem nD τ sig → ℕ) (d : Dev nD) :
    iprop((K (F := F)).ctx EH (PP m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) (ucRefs τ sig) (W0 m d) from unscopedBufs_held d (W0 m d)]
  rw [main_eq]
  iintro ⟨#Hctx, Hst, ⟨Hb, Hheld, Hts, -⟩, -⟩
  iapply (wp_seq 𝒱 none Set.univ d (ucRefs τ sig) _ opsBefore (fun op h => sub_ucRefs op (List.forall_iff_forall_mem.1 before_sub op h))
    (fun op h => List.forall_iff_forall_mem.1 (forall_fresh_of_map (ops := opsBefore) rfl) op h) (W0 m d)) $$ [Hb Hheld]
  · isplitl [Hb] <;> iassumption
  iintro ⟨Hb, Hheld⟩
  ihave Hh := (Entails.of_eq (show (held (d.tc : Thread nD τ) (ucRefs τ sig) (after opsBefore (W0 m d)) : sProp 𝕄)
      = iprop(held (T d) S4 (W1 m d) ∗ held (T d) (ucRefs τ sig \ S4) (W1 m d)) from held_sub_split (T d) S4_sub (W1 m d))) $$ Hheld
  icases Hh with ⟨Hcall, Hrest⟩
  ihave Hcall' := (Entails.of_eq (held_S4 d (W1 m d) _ _ _ (W1_v3 m d) (W1_v7 m d) (W1_v11 m d))) $$ Hcall
  rw [wp_bind]
  iapply ((K (F := F)).wp_run (D (F := F)) 𝒱 (EH := EH) (P := PP m) κ d 0) $$ [Hst Hcall' Hrest Hb Hts]
  isplitr; · iexact Hctx
  isplitl [Hst]; · iexact Hst
  isplitl [Hcall']
  · rw [st0_eq]; iexact Hcall'
  iintro ⟨Hst, Hdn⟩
  ihave Hdn' := (Entails.of_eq (dn0_eq (A0 m) (A1 m) (A2 m) (fun d => W1 m d o') d)) $$ Hdn
  ihave Hcall := (Entails.of_eq (show (iprop(inPts d fullShare (A0 m d) (A1 m d) (A2 m d) ∗ oLoc d ↦{fullShare} out (A0 m) (A1 m) (A2 m) d) : sProp 𝕄) = held (T d) S4 (W2 m d) from by
    rw [held_S4 d (W2 m d) _ _ _ ((W2_ne m d _ (by decide)).trans (W1_v3 m d)) ((W2_ne m d _ (by decide)).trans (W1_v7 m d)) ((W2_ne m d _ (by decide)).trans (W1_v11 m d)), W2_o])) $$ Hdn'
  ihave Hrest' := (Entails.of_eq (held_congr (T d) (V := W1 m d) (V' := W2 m d) (S := ucRefs τ sig \ S4)
    (fun b hb => (W2_ne m d b (fun e => (Finset.mem_sdiff.1 hb).2 (by rw [e]; decide))).symm))) $$ Hrest
  ihave Hheld := (Entails.of_eq (held_sub_split (T d) S4_sub (W2 m d)).symm) $$ [Hcall Hrest']
  · isplitl [Hcall] <;> iassumption
  iapply (wp_seq 𝒱 none Set.univ d (ucRefs τ sig) _ opsAfter (fun op h => sub_ucRefs op (List.forall_iff_forall_mem.1 after_sub op h))
    (fun op h => List.forall_iff_forall_mem.1 (forall_fresh_of_map (ops := opsAfter) rfl) op h) (W2 m d)) $$ [Hb Hheld]
  · isplitl [Hb] <;> iassumption
  iintro ⟨Hb, Hheld⟩
  ihave Hh := (Entails.of_eq (show (held (d.tc : Thread nD τ) (ucRefs τ sig) (after opsAfter (W2 m d)) : sProp 𝕄)
      = iprop(held (T d) S2 (after opsAfter (W2 m d)) ∗ held (T d) (ucRefs τ sig \ S2) (after opsAfter (W2 m d))) from held_sub_split (T d) S2_sub _)) $$ Hheld
  icases Hh with ⟨Hfin, -⟩
  ihave Hfin' := (Entails.of_eq (held_S2 d (after opsAfter (W2 m d)))) $$ Hfin
  rw [W3_v16, W3_arg0, wp_pure]
  imodintro
  isplitl [Hst]; · iexact Hst
  isplitl [Hfin']; · iexact Hfin'
  isplitl [Hb] <;> iassumption

/-! ## The program's run -/

def fq (d : Dev nD) (s' : Phys nD τ sig (Elt F)) : Prop := s'.mem.mem (xLoc d) = X m d ∧ s'.mem.mem (rLoc d) = R m d

theorem hfin (d : Dev nD) (s' : Phys nD τ sig (Elt F)) : iprop(FIN m d ∗ SI s') ⊢ (⌜fq m d s'⌝ : sProp 𝕄) := by
  iintro ⟨⟨Hx, Hr⟩, HSI⟩
  ihave H := (persistent_entails_right (SI_pointsTo_agree (st := s') (ℓ := xLoc d) (I := Finset.univ) (q := fullShare) (f := (X m d : Buf (Elt F) (xLoc d))))) $$ [HSI Hx]
  · isplitl [HSI] <;> iassumption
  icases H with ⟨%hx, HSI, -⟩
  ihave H := (SI_pointsTo_agree (st := s') (ℓ := rLoc d) (I := Finset.univ) (q := fullShare) (f := (R m d : Buf (Elt F) (rLoc d)))) $$ [HSI Hr]
  · isplitl [HSI] <;> iassumption
  icases H with %hr
  ipureintro; exact ⟨funext fun i => hx i (Finset.mem_univ i), funext fun i => hr i (Finset.mem_univ i)⟩

def QC : PUnit × MemSt nD τ sig (Elt F) → Prop := fun r => (∀ c : Dev nD, r.2.mem (xLoc c) = X m c ∧ r.2.mem (rLoc c) = R m c) ∧ r.2.sem = fun _ => 0

theorem run_main [∀ e, Nonempty (Elt F e)] : θ_run (defs (F := F)) (threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl _ _ _ _ facts)
    (fun q _ => match q with | 0 => SparseCore.Cfg.VecSplit.of_plain (vecSplit _ _ _ _))
    m ρ main (fun _ => iprop(emp)) (FIN m) (u₀ (F := F)) (sep_elim_left.trans (hu₀ _ _ _ _)) (hmain m ρ) (fq m) (hfin m) (QC m) (fun _ h hz => ⟨h, hz⟩)

end Cert.Proof.Launch

end
-- ==== Proof.KernelValue.lean ====
/-
  The program's result at a node of the mesh: the field of the node's edge vectors, read from the padded positions.
-/
module

public import proofs.«01_k».proof.Proof.Launch
public import Idealize.ShloMosaic.Lib.Pointwise
public import Idealize.ShloMosaic.Lib.Tactic.IndexArith

@[expose] public section

noncomputable section

namespace Cert.Proof.KernelValue

open Cert.KernelIdeal Cert.KernelIdeal.Gen Cert.Proof.Setup Cert.Proof.Tile Cert.Proof.Launch

open Idealize.ShloMosaic

variable {F : FTy → Type} [FloatOps F]

/-- Component `k` of position `t` of the padded row of nodes: node `t − 104`, or zero where there is none. -/
def padded (x : FVec F S2x10000x3 .f32) (b : Fin 2) (t : Nat) (k : Fin 3) : F .f32 :=
  if h : 104 ≤ t ∧ t - 104 < 10000 then x (ix3 b ⟨t - 104, h.2⟩ k) else FloatOps.sitofp .f32 0#32

/-- Where the blocks' order puts field `f` of node `n` of sample `b`. -/
theorem ordered_at (y : FVec F S552960 .f32) (b : Fin 2) (n : Fin 10000) (f : Fin 27) :
    ordered y (ix3 b n f) = y (ix1 ⟨(b.val * 16 + n.val / 640) * 17280 + f.val * 640 + n.val % 640, by omega⟩) := by
  have h := b.isLt; have h1 := n.isLt; have h2 := f.isLt
  pointwise [ordered]
  refine congrArg y (congrArg ix1 (Fin.ext ?_))
  show b.val * 276480 + n.val / 640 * 17280 + f.val * 640 + n.val % 640 = (b.val * 16 + n.val / 640) * 17280 + f.val * 640 + n.val % 640
  omega

/-- The call's operands, read at a position of a sample. -/
theorem comp0_at (x : FVec F S2x10000x3 .f32) (b : Fin 2) (t : Fin 10448) :
    comp0 x (ix1 ⟨b.val * 10448 + t.val, by omega⟩) = padded x b t.val 0 := by
  pointwise [comp0, padded]
@[inherit_doc comp0_at] theorem comp1_at (x : FVec F S2x10000x3 .f32) (b : Fin 2) (t : Fin 10448) :
    comp1 x (ix1 ⟨b.val * 10448 + t.val, by omega⟩) = padded x b t.val 1 := by
  pointwise [comp1, padded]
@[inherit_doc comp0_at] theorem comp2_at (x : FVec F S2x10000x3 .f32) (b : Fin 2) (t : Fin 10448) :
    comp2 x (ix1 ⟨b.val * 10448 + t.val, by omega⟩) = padded x b t.val 2 := by
  pointwise [comp2, padded]

theorem sel_at (x : FVec F S2x10000x3 .f32) (b : Fin 2) (t : Nat) (ht : t < 10448) (k : Fin 3) (i : Fin 20896) (hi : i.val = b.val * 10448 + t) :
    sel (comp0 x) (comp1 x) (comp2 x) k (ix1 i) = padded x b t k := by
  have e : i = ⟨b.val * 10448 + t, by omega⟩ := Fin.ext hi
  rw [e]
  match k with
  | 0 => exact comp0_at x b ⟨t, ht⟩
  | 1 => exact comp1_at x b ⟨t, ht⟩
  | 2 => exact comp2_at x b ⟨t, ht⟩

/-- The edge vectors of node `n` of sample `b`. -/
def nodeEdges (x : FVec F S2x10000x3 .f32) (b : Fin 2) (n : Nat) : Fin 6 → Fin 3 → F .f32 :=
  Fields.edges (Fields.mask (BitVec.ofNat 32 n)) (fun k => padded x b (104 + n) k) (fun d k => padded x b (4 + n + Fields.ahead d) k)

theorem packedAt_eq (x : FVec F S2x10000x3 .f32) (b : Fin 2) (q l : Nat) (hq : q < 16) (hl : l < 640) (f : Nat) :
    packedAt (comp0 x) (comp1 x) (comp2 x) (b.val * 16 + q) (by omega) (f * 640 + l) = Fields.field (nodeEdges x b (q * 640 + l)) f := by
  have hb := b.isLt
  have e1 : (b.val * 16 + q) % 16 = q := by omega
  have e2 : (b.val * 16 + q) / 16 = b.val := by omega
  have e3 : (f * 640 + l) % 640 = l := by omega
  have e4 : (f * 640 + l) / 640 = f := by omega
  unfold packedAt want
  rw [e4]
  refine congrArg (fun e => Fields.field e f) ?_
  unfold winEdges nodeEdges
  simp only [e1, e3]
  have hw (i : Fin 848) (t : Nat) (ht : i.val + q * 640 = t) (k : Fin 3) :
      winOf (sel (comp0 x) (comp1 x) (comp2 x) k) (b.val * 16 + q) (by omega) i = padded x b t k := by
    unfold winOf
    rw [← ix1_eq_valueIdx]
    refine sel_at x b t (by omega) k _ ?_
    show (b.val * 16 + q) / 16 * 10448 + (b.val * 16 + q) % 16 * 640 + i.val = _
    omega
  have h1 : (fun k => winOf (sel (comp0 x) (comp1 x) (comp2 x) k) (b.val * 16 + q) (by omega) ⟨104 + l, by omega⟩)
      = fun k => padded x b (104 + (q * 640 + l)) k := funext fun k => hw _ _ (by simp only; omega) k
  have ha (d : Fin 6) : Fields.ahead d ≤ 200 := by unfold Fields.ahead; split <;> omega
  have h2 : (fun (d : Fin 6) (k : Fin 3) => winOf (sel (comp0 x) (comp1 x) (comp2 x) k) (b.val * 16 + q) (by omega) ⟨4 + l + Fields.ahead d, by have := ha d; omega⟩)
      = fun d k => padded x b (4 + (q * 640 + l) + Fields.ahead d) k := funext fun d => funext fun k => hw _ _ (by simp only; omega) k
  exact congr (congrArg _ h1) h2

variable (m : (ℓ : Loc nD τ sig) → Buf (Elt F) ℓ)

/-- The program's result at field `f` of node `n` of sample `b`. -/
theorem R_at (d : Dev nD) (b : Fin 2) (n : Fin 10000) (f : Fin 27) :
    R m d (ix3 b n f) = Fields.field (nodeEdges (X m d) b n.val) f.val := by
  have hb := b.isLt; have hn := n.isLt; have hf := f.isLt
  unfold R
  rw [ordered_at]
  unfold packed
  have e1 : ((b.val * 16 + n.val / 640) * 17280 + f.val * 640 + n.val % 640) / 17280 = b.val * 16 + n.val / 640 := by omega
  have e2 : ((b.val * 16 + n.val / 640) * 17280 + f.val * 640 + n.val % 640) % 17280 = f.val * 640 + n.val % 640 := by omega
  show packedAt _ _ _ (((b.val * 16 + n.val / 640) * 17280 + f.val * 640 + n.val % 640) / 17280) _ (((b.val * 16 + n.val / 640) * 17280 + f.val * 640 + n.val % 640) % 17280) = _
  simp only [e1, e2]
  rw [show A0 m d = comp0 (X m d) from rfl, show A1 m d = comp1 (X m d) from rfl, show A2 m d = comp2 (X m d) from rfl,
    packedAt_eq (X m d) b (n.val / 640) (n.val % 640) (by omega) (by omega) f.val]
  rw [show n.val / 640 * 640 + n.val % 640 = n.val by omega]

end Cert.Proof.KernelValue

end
-- ==== Proof.Mask.lean ====
/-
  Which neighbours a node of the 100 × 100 mesh has, and that the kernel's bits say so.
-/
module

public import proofs.«01_k».proof.Proof.Fields

@[expose] public section

namespace Cert.Proof.Mesh

open Idealize.ShloMosaic

/-- Whether node `n` has a neighbour in direction `d`: east, west, south, north, south-west, north-east. -/
@[reducible] def has (d : Fin 6) (n : Nat) : Prop :=
  (d = 0 → n % 100 ≤ 98) ∧ (d = 1 → 1 ≤ n % 100) ∧ (d = 2 → n / 100 ≤ 98) ∧ (d = 3 → 1 ≤ n / 100)
    ∧ (d = 4 → n / 100 ≤ 98 ∧ 1 ≤ n % 100) ∧ (d = 5 → 1 ≤ n / 100 ∧ n % 100 ≤ 98)

/-- The kernel's bits say which neighbours there are. -/
theorem mask_eq : ∀ (n : Fin 10000), ∀ d : Fin 6, Fields.mask (BitVec.ofNat 32 n.val) d = if has d n.val then 1#1 else 0#1 := by
  decide +kernel

end Cert.Proof.Mesh

end
-- ==== Proof.Mesh.lean ====
/-
  The edge vectors of the triangle mesh over the extended reals, and that the kernel's are these: a node of the 100 × 100
  mesh is `n = 100 · row + column`, and its edge in a direction is its position minus its neighbour's, or zero where there is
  no neighbour.
-/
module

public import proofs.«01_k».proof.Proof.Mask
public import Idealize.ShloMosaic.Lib.Pointwise
public import Idealize.ShloMosaic.PureOps.Ideal

@[expose] public section

noncomputable section

namespace Cert.Proof.Mesh

open Idealize.ShloMosaic

/-- The neighbour's number, a hundred further on. -/
theorem next_lt {d : Fin 6} {n : Nat} (hn : n < 10000) (h : has d n) : 100 ≤ n + Fields.ahead d ∧ n + Fields.ahead d - 100 < 10000 := by
  obtain ⟨h0, h1, h2, h3, h4, h5⟩ := h
  match d with
  | 0 => simp only [Fields.ahead]; have := h0 rfl; omega
  | 1 => simp only [Fields.ahead]; have := h1 rfl; omega
  | 2 => simp only [Fields.ahead]; have := h2 rfl; omega
  | 3 => simp only [Fields.ahead]; have := h3 rfl; omega
  | 4 => simp only [Fields.ahead]; have := h4 rfl; omega
  | 5 => simp only [Fields.ahead]; have := h5 rfl; omega

/-- Component `k` of node `n`'s edge vector in direction `d`. -/
def edge (x : FVec Ideal ⟨3, ![2, 10000, 3]⟩ .f32) (b : Fin 2) (n : Fin 10000) (d : Fin 6) (k : Fin 3) : EReal :=
  if h : has d n.val then x (ix3 b n k) - x (ix3 b ⟨n.val + Fields.ahead d - 100, (next_lt n.isLt h).2⟩ k) else 0

/-- The bit's number is one or zero. -/
theorem ind_one : (Fields.ind 1#1 : Ideal .f32) = (1 : EReal) := by
  pointwise [Fields.ind]
theorem ind_zero : (Fields.ind 0#1 : Ideal .f32) = (0 : EReal) := by
  pointwise [Fields.ind]

/-- The kernel's edge vectors, from its positions, are the mesh's. -/
theorem edges_eq (x : FVec Ideal ⟨3, ![2, 10000, 3]⟩ .f32) (b : Fin 2) (n : Fin 10000) (q : Fin 6 → Fin 3 → EReal)
    (hq : ∀ d k, ∀ h : has d n.val, q d k = x (ix3 b ⟨n.val + Fields.ahead d - 100, (next_lt n.isLt h).2⟩ k)) :
    Fields.edges (F := Ideal) (Fields.mask (BitVec.ofNat 32 n.val)) (fun k => x (ix3 b n k)) q = edge x b n := by
  funext d k
  unfold Fields.edges Fields.edge edge
  rw [mask_eq]
  by_cases h : has d n.val
  · rw [if_pos h, dif_pos h, ind_one, hq d k h]
    exact one_mul _
  · rw [if_neg h, dif_neg h, ind_zero]
    exact zero_mul _

/-! ## Over the reals -/

/-- The six edge vectors' block `Σ |v|² − v vᵀ`. -/
def block (v : Fin 6 → Fin 3 → ℝ) (i j : Fin 3) : ℝ :=
  ∑ d, ((∑ k, v d k * v d k) * (if i = j then 1 else 0) - v d i * v d j)

/-- The edge vectors of real positions are real. -/
theorem edge_real (x : FVec Ideal ⟨3, ![2, 10000, 3]⟩ .f32) (hx : ∀ i, x i ≠ (⊤ : EReal) ∧ x i ≠ (⊥ : EReal)) (b : Fin 2) (n : Fin 10000) :
    ∃ v : Fin 6 → Fin 3 → ℝ, edge x b n = fun d k => ((v d k : ℝ) : EReal) := by
  have hy (i) : ∃ r : ℝ, x i = ((r : ℝ) : EReal) := ⟨(x i : EReal).toReal, (EReal.coe_toReal (hx i).1 (hx i).2).symm⟩
  choose y hy using hy
  refine ⟨fun d k => if h : has d n.val then y (ix3 b n k) - y (ix3 b ⟨n.val + Fields.ahead d - 100, (next_lt n.isLt h).2⟩ k) else 0, ?_⟩
  funext d k
  unfold edge
  by_cases h : has d n.val
  · show _ = ((dite _ _ _ : ℝ) : EReal)
    rw [dif_pos h, dif_pos h, hy, hy, EReal.coe_sub]
  · show _ = ((dite _ _ _ : ℝ) : EReal)
    rw [dif_neg h, dif_neg h, EReal.coe_zero]

section real
variable (v : Fin 6 → Fin 3 → ℝ)

/-- Real edge vectors among the extended reals. -/
abbrev up : Fin 6 → Fin 3 → Ideal .f32 := fun d k => ((v d k : ℝ) : EReal)

theorem over_real (step : Ideal .f32 → (Fin 3 → Ideal .f32) → Ideal .f32) (s : (Fin 3 → ℝ) → ℝ)
    (h : ∀ (a : ℝ) (w : Fin 3 → ℝ), step (a : EReal) (fun k => ((w k : ℝ) : EReal)) = ((a + s w : ℝ) : EReal)) :
    Fields.over step (up v) = ((∑ d, s (v d) : ℝ) : EReal) := by
  have z : (Scalar.ofBits .f32 0x00000000#32 : Ideal .f32) = ((0 : ℝ) : EReal) := by pointwise; exact EReal.coe_zero.symm
  unfold Fields.over
  rw [z]
  simp only [up, h, Fin.sum_univ_six, zero_add]

theorem addSq_real (j k : Fin 3) (a : ℝ) (w : Fin 3 → ℝ) :
    Fields.addSq (F := Ideal) j k (a : EReal) (fun k => ((w k : ℝ) : EReal)) = ((a + (w j * w j + w k * w k) : ℝ) : EReal) := by
  show (a : EReal) + (w j : EReal) * (w j : EReal) + (w k : EReal) * (w k : EReal) = _
  norm_cast
  rw [add_assoc]

theorem subPr_real (j k : Fin 3) (a : ℝ) (w : Fin 3 → ℝ) :
    Fields.subPr (F := Ideal) j k (a : EReal) (fun k => ((w k : ℝ) : EReal)) = ((a + -(w j * w k) : ℝ) : EReal) := by
  show (a : EReal) - (w j : EReal) * (w k : EReal) = _
  norm_cast

theorem c00_real : Fields.c00 (F := Ideal) (up v) = ((block v 0 0 : ℝ) : EReal) := by
  rw [Fields.c00, over_real v _ _ (addSq_real 1 2)]
  refine congrArg _ (Finset.sum_congr rfl fun d _ => ?_)
  simp [Fin.sum_univ_three]; ring
theorem c11_real : Fields.c11 (F := Ideal) (up v) = ((block v 1 1 : ℝ) : EReal) := by
  rw [Fields.c11, over_real v _ _ (addSq_real 0 2)]
  refine congrArg _ (Finset.sum_congr rfl fun d _ => ?_)
  simp [Fin.sum_univ_three]; ring
theorem c22_real : Fields.c22 (F := Ideal) (up v) = ((block v 2 2 : ℝ) : EReal) := by
  rw [Fields.c22, over_real v _ _ (addSq_real 0 1)]
  refine congrArg _ (Finset.sum_congr rfl fun d _ => ?_)
  simp [Fin.sum_univ_three]
theorem c01_real : Fields.c01 (F := Ideal) (up v) = ((block v 0 1 : ℝ) : EReal) := by
  rw [Fields.c01, over_real v _ _ (subPr_real 0 1)]
  refine congrArg _ (Finset.sum_congr rfl fun d _ => ?_)
  simp
theorem c02_real : Fields.c02 (F := Ideal) (up v) = ((block v 0 2 : ℝ) : EReal) := by
  rw [Fields.c02, over_real v _ _ (subPr_real 0 2)]
  refine congrArg _ (Finset.sum_congr rfl fun d _ => ?_)
  simp
theorem c12_real : Fields.c12 (F := Ideal) (up v) = ((block v 1 2 : ℝ) : EReal) := by
  rw [Fields.c12, over_real v _ _ (subPr_real 1 2)]
  refine congrArg _ (Finset.sum_congr rfl fun d _ => ?_)
  simp

theorem block_symm (i j : Fin 3) : block v i j = block v j i := by
  unfold block
  refine Finset.sum_congr rfl fun d _ => ?_
  rw [mul_comm (v d i) (v d j)]
  simp only [eq_comm]

theorem minor_real (a b c d : ℝ) : Fields.minor (F := Ideal) (a : EReal) (b : EReal) (c : EReal) (d : EReal) = ((a * b - c * d : ℝ) : EReal) := by
  show (a : EReal) * (b : EReal) - (c : EReal) * (d : EReal) = _
  norm_cast

/-- The block's cofactor at `(i, j)`: the rows and columns after `i` and `j`, in turn. -/
def cofactor (i j : Fin 3) : ℝ := block v (i + 1) (j + 1) * block v (i + 2) (j + 2) - block v (i + 1) (j + 2) * block v (i + 2) (j + 1)

/-- The block's determinant, along its first row. -/
def det : ℝ := ∑ j, block v 0 j * cofactor v 0 j

theorem invDet_real : Fields.invDet (F := Ideal) (up v) = Ideal.div 1 ((det v : ℝ) : EReal) := by
  unfold Fields.invDet
  rw [c00_real, c01_real, c02_real, c11_real, c12_real, c22_real, minor_real, minor_real, minor_real]
  have o : (Scalar.ofBits .f32 0x3F800000#32 : Ideal .f32) = (1 : EReal) := by pointwise
  rw [o]
  show Ideal.div 1 ((block v 0 0 : EReal) * _ - (block v 0 1 : EReal) * _ + (block v 0 2 : EReal) * _) = _
  refine congrArg (Ideal.div 1) ?_
  norm_cast
  simp only [det, cofactor, Fin.sum_univ_three]
  have h1 := block_symm v 1 0
  have h2 := block_symm v 2 0
  have h3 := block_symm v 2 1
  simp only [show (0 : Fin 3) + 1 = 1 from rfl, show (0 : Fin 3) + 2 = 2 from rfl, show (1 : Fin 3) + 1 = 2 from rfl, show (1 : Fin 3) + 2 = 0 from rfl,
    show (2 : Fin 3) + 1 = 0 from rfl, show (2 : Fin 3) + 2 = 1 from rfl, h1, h2, h3]
  ring

/-- The place of the inverse's entry that the kernel stores at `t`. -/
def place : Nat → Fin 3 × Fin 3
  | 0 => (0, 0)
  | 1 => (0, 1)
  | 2 => (0, 2)
  | 3 => (1, 1)
  | 4 => (1, 2)
  | _ => (2, 2)

theorem cof_real (t : Nat) : Fields.cof (F := Ideal) (up v) t = ((cofactor v (place t).2 (place t).1 : ℝ) : EReal) := by
  have h1 := block_symm v 1 0
  have h2 := block_symm v 2 0
  have h3 := block_symm v 2 1
  match t with
  | 0 | 1 | 2 | 3 | 4 | _ + 5 =>
    simp only [Fields.cof, place, cofactor, c00_real, c01_real, c02_real, c11_real, c12_real, c22_real, minor_real,
      show (0 : Fin 3) + 1 = 1 from rfl, show (0 : Fin 3) + 2 = 2 from rfl, show (1 : Fin 3) + 1 = 2 from rfl, show (1 : Fin 3) + 2 = 0 from rfl,
      show (2 : Fin 3) + 1 = 0 from rfl, show (2 : Fin 3) + 2 = 1 from rfl, h1, h2, h3] <;>
    exact congrArg _ (by ring)
end real

end Cert.Proof.Mesh

end
-- ==== Proof.RefEdges.lean ====
/-
  The reference's edge vectors at a node of the mesh.
-/
module

public import proofs.«01_k».proof.Defs
public import proofs.«01_k».proof.Proof.Gen.ReferenceIdeal
public import proofs.«01_k».proof.Proof.Gen.ReferenceIdeal.Run
public import proofs.«01_k».proof.Proof.Mesh
public import Idealize.ShloMosaic.Lib.Pointwise
public import Idealize.ShloMosaic.Lib.KernelVsHost
public import Idealize.ShloMosaic.Lib.Tactic.CleanTypes

@[expose] public section

noncomputable section

namespace Cert.Proof.RefValue

open Cert.ReferenceIdeal Cert.ReferenceIdeal.Gen Cert.ReferenceIdeal.Value Cert.Proof.Mesh

open Idealize.ShloMosaic

variable (V : Valuation τ sig (Elt Ideal))

/-- The positions. -/
abbrev pos : FVec Ideal S2x10000x3 .f32 := V (Proc.devRef .tc main_arg0)
/-- The reference's edge vectors. -/
abbrev ev : FVec Ideal S2x10000x6x3 .f32 := res_main_v41 V
theorem zero_word : (FloatOps.sitofp .f32 0#32 : Ideal .f32) = (0 : EReal) := sitofp_zero

/-- A one or a zero times a difference from `y` or from zero is an edge or zero. -/
theorem edge_of {p q : Prop} [Decidable p] [Decidable q] (hpq : q ↔ p) (a : EReal) (z : q → EReal) (y : p → EReal) (hy : ∀ h, z h = y (hpq.1 h)) :
    (if _h : q then (1 : EReal) else (FloatOps.sitofp .f32 0#32 : Ideal .f32)) * (a - if h : q then z h else (FloatOps.sitofp .f32 0#32 : Ideal .f32))
      = if h : p then a - y h else 0 := by
  by_cases h : q
  · rw [dif_pos h, dif_pos h, dif_pos (hpq.1 h), one_mul, hy]
  · rw [dif_neg h, dif_neg (fun c => h (hpq.2 c)), zero_word, zero_mul]

theorem ev_at (b : Fin 2) (n : Fin 10000) (d : Fin 6) (k : Fin 3) : ev V (ix4 b n d k) = edge (pos V) b n d k := by
  have hn := n.isLt
  match d with
  | 0 | 1 | 2 | 3 | 4 | 5 =>
    unfold ev res_main_v41 res_main_v3 res_main_v1 res_main_v0
    clean_types
    pointwise
    unfold edge
    refine edge_of (by simp [has]; omega) _ _ _ fun h => congrArg (pos V) (congrArg (fun t => ix3 b t k) (Fin.ext ?_))
    simp only [Fields.ahead]
    omega

end Cert.Proof.RefValue

end
-- ==== Proof.RefValue.lean ====
/-
  The reference's result at a node of the mesh: its named intermediate arrays, read there, are the mesh's block, its
  cofactors and its inverse.
-/
module

public import proofs.«01_k».proof.Defs
public import proofs.«01_k».proof.Proof.Gen.ReferenceIdeal
public import proofs.«01_k».proof.Proof.Gen.ReferenceIdeal.Run
public import proofs.«01_k».proof.Proof.RefEdges
public import Idealize.ShloMosaic.Lib.Pointwise
public import Idealize.ShloMosaic.Lib.ReduceAll
public import Idealize.ShloMosaic.Lib.Tactic.CleanTypes

@[expose] public section

noncomputable section

namespace Cert.Proof.RefValue

open Cert.ReferenceIdeal Cert.ReferenceIdeal.Gen Cert.ReferenceIdeal.Value Cert.Proof.Mesh

open Idealize.ShloMosaic

variable (V : Valuation τ sig (Elt Ideal))

/-- The reference's blocks, cofactors and inverses. -/
abbrev bl : FVec Ideal S2x10000x3x3 .f32 := res_main_v61 V
@[inherit_doc bl] abbrev cf : FVec Ideal S2x10000x3x3 .f32 := res_main_v72 V
@[inherit_doc bl] abbrev iv : FVec Ideal S2x10000x3x3 .f32 := res_main_v84 V

/-- A sum of reals among the extended reals. -/
theorem sum_real {ι : Type} [Fintype ι] (f : ι → ℝ) : ((∑ i, f i : ℝ) : EReal) = ∑ i, ((f i : ℝ) : EReal) := by
  classical
  refine Finset.induction_on (Finset.univ : Finset ι) ?_ ?_
  · rw [Finset.sum_empty, Finset.sum_empty, EReal.coe_zero]
  · intro a s ha h
    rw [Finset.sum_insert ha, Finset.sum_insert ha, EReal.coe_add, h]

theorem bl_at (b : Fin 2) (n : Fin 10000) (v : Fin 6 → Fin 3 → ℝ) (hv : edge (pos V) b n = fun d k => ((v d k : ℝ) : EReal)) (i j : Fin 3) :
    bl V (ix4 b n i j) = ((block v i j : ℝ) : EReal) := by
  have he (d : Fin 6) (k : Fin 3) : res_main_v41 V (ix4 b n d k) = ((v d k : ℝ) : EReal) := (ev_at V b n d k).trans (congrFun (congrFun hv d) k)
  have hd : (FloatOps.uitofp .f32 (IntOp.cmpi .eq (IntOp.addi (BitVec.ofNat 32 i.val) 0#32) (BitVec.ofNat 32 j.val)) : Ideal .f32)
      = ((if i = j then 1 else 0 : ℝ) : EReal) := by
    show (((BitVec.toNat _ : ℕ) : ℝ) : EReal) = _
    refine congrArg _ ?_
    match i, j with
    | 0, 0 | 0, 1 | 0, 2 | 1, 0 | 1, 1 | 1, 2 | 2, 0 | 2, 1 | 2, 2 => simp [IntOp.cmpi, IntOp.addi]
  unfold bl res_main_v61
  clean_types
  pointwise
  simp only [he, hd]
  unfold block
  rw [sum_real]
  refine Finset.sum_congr rfl fun d _ => ?_
  rw [EReal.coe_sub, EReal.coe_mul, EReal.coe_mul, sum_real]
  simp only [EReal.coe_mul]

theorem cf_at (b : Fin 2) (n : Fin 10000) (i j : Fin 3) :
    cf V (ix4 b n i j) = bl V (ix4 b n (i + 1) (j + 1)) * bl V (ix4 b n (i + 2) (j + 2)) - bl V (ix4 b n (i + 1) (j + 2)) * bl V (ix4 b n (i + 2) (j + 1)) := by
  unfold cf res_main_v72 res_main_v65 res_main_v63
  clean_types
  match i, j with
  | 0, 0 | 0, 1 | 0, 2 | 1, 0 | 1, 1 | 1, 2 | 2, 0 | 2, 1 | 2, 2 =>
    pointwise <;> rfl

theorem cofactor_at (b : Fin 2) (n : Fin 10000) (v : Fin 6 → Fin 3 → ℝ) (hv : edge (pos V) b n = fun d k => ((v d k : ℝ) : EReal)) (i j : Fin 3) :
    cf V (ix4 b n i j) = ((cofactor v i j : ℝ) : EReal) := by
  rw [cf_at, bl_at V b n v hv, bl_at V b n v hv, bl_at V b n v hv, bl_at V b n v hv]
  unfold cofactor
  rw [EReal.coe_sub, EReal.coe_mul, EReal.coe_mul]

theorem iv_at (b : Fin 2) (n : Fin 10000) (i j : Fin 3) :
    iv V (ix4 b n i j) = cf V (ix4 b n j i) * Ideal.div 1 (∑ x, bl V (ix4 b n 0 x) * cf V (ix4 b n 0 x)) := by
  unfold iv res_main_v84
  clean_types
  pointwise

/-- The reference's result. -/
abbrev out : FVec Ideal S2x10000x27 .f32 := concatenate S2x10000x27 2 [⟨S2x10000x18, ((shapeCast _ (res_main_v41 V) shapeCasts_S2x10000x6x3_S2x10000x18) : (⟨S2x10000x18, .f32⟩ : BufTy).Contents (Elt Ideal))⟩, ⟨S2x10000x3, ((Host.reduceAdd (res_main_v41 V) (constant S_ .f32 0x00000000#32) reducesTo_S2x10000x6x3_S2x10000x3_d2 h_S_) : (⟨S2x10000x3, .f32⟩ : BufTy).Contents (Elt Ideal))⟩, ⟨S2x10000x3, ((shapeCast _ (extractStridedSlice S2x10000x1x3 ![0, 0, 0, 0] (res_main_v84 V) slices_S2x10000x3x3_S2x10000x1x3_0_0_0_0) shapeCasts_S2x10000x1x3_S2x10000x3) : (⟨S2x10000x3, .f32⟩ : BufTy).Contents (Elt Ideal))⟩, ⟨S2x10000x2, ((shapeCast _ (extractStridedSlice S2x10000x1x2 ![0, 0, 1, 1] (res_main_v84 V) slices_S2x10000x3x3_S2x10000x1x2_0_0_1_1) shapeCasts_S2x10000x1x2_S2x10000x2) : (⟨S2x10000x2, .f32⟩ : BufTy).Contents (Elt Ideal))⟩, ⟨S2x10000x1, ((shapeCast _ (extractStridedSlice S2x10000x1x1 ![0, 0, 2, 2] (res_main_v84 V) slices_S2x10000x3x3_S2x10000x1x1_0_0_2_2) shapeCasts_S2x10000x1x1_S2x10000x1) : (⟨S2x10000x1, .f32⟩ : BufTy).Contents (Elt Ideal))⟩] concatenates_S2x10000x18_S2x10000x3_S2x10000x3_S2x10000x2_S2x10000x1_S2x10000x27_d2

theorem det_at (b : Fin 2) (n : Fin 10000) (v : Fin 6 → Fin 3 → ℝ) (hv : edge (pos V) b n = fun d k => ((v d k : ℝ) : EReal)) :
    (∑ x, bl V (ix4 b n 0 x) * cf V (ix4 b n 0 x)) = ((det v : ℝ) : EReal) := by
  unfold det
  rw [sum_real]
  refine Finset.sum_congr rfl fun j _ => ?_
  rw [EReal.coe_mul, ← cofactor_at V b n v hv, bl_at V b n v hv]

/-- The reference's inverse's entry that the kernel stores at `t`. -/
theorem inverse_at (b : Fin 2) (n : Fin 10000) (v : Fin 6 → Fin 3 → ℝ) (hv : edge (pos V) b n = fun d k => ((v d k : ℝ) : EReal)) (t : Nat) :
    iv V (ix4 b n (place t).1 (place t).2) = Fields.field (F := Ideal) (edge (pos V) b n) (21 + t) := by
  have e1 : Fields.field (F := Ideal) (edge (pos V) b n) (21 + t) = FloatOps.mulf (Fields.cof (F := Ideal) (edge (pos V) b n) t) (Fields.invDet (F := Ideal) (edge (pos V) b n)) := by
    unfold Fields.field
    rw [dif_neg (by omega), dif_neg (by omega), show 21 + t - 21 = t by omega]
  rw [e1, hv, cof_real v t, invDet_real v, iv_at, det_at V b n v hv, cofactor_at V b n v hv]
  rfl

theorem total_at (e : Fin 6 → Fin 3 → EReal) (k : Fin 3) : Fields.total (F := Ideal) e k = ∑ d, e d k := by
  have z : (Scalar.ofBits .f32 0x00000000#32 : Ideal .f32) = (0 : EReal) := by pointwise
  unfold Fields.total Fields.over
  rw [z, Fin.sum_univ_six]
  show (0 : EReal) + e 0 k + e 1 k + e 2 k + e 3 k + e 4 k + e 5 k = _
  rw [zero_add]

/-- The reference's result at a node is the kernel's field of the mesh's edge vectors, where these are real. -/
theorem out_at (b : Fin 2) (n : Fin 10000) (v : Fin 6 → Fin 3 → ℝ) (hv : edge (pos V) b n = fun d k => ((v d k : ℝ) : EReal)) (f : Fin 27) :
    out V (ix3 b n f) = Fields.field (F := Ideal) (edge (pos V) b n) f.val := by
  have hf := f.isLt
  have hi (t : Nat) (i j : Fin 3) (hp : place t = (i, j)) (h : f.val = 21 + t) (j' : Fin 3) (hj : j' = j) :
      res_main_v84 V (ix4 b n i j') = Fields.field (F := Ideal) (edge (pos V) b n) f.val := by
    have e := inverse_at V b n v hv t
    rw [hp] at e
    rw [h, hj]
    exact e
  clean_types
  pointwise
  by_cases h0 : f.val < 18
  · rw [dif_pos h0]
    unfold Fields.field
    rw [dif_pos h0]
    exact ev_at V b n _ _
  rw [dif_neg h0]
  by_cases h1 : f.val - 18 < 3
  · rw [dif_pos h1]
    unfold Fields.field
    rw [dif_neg h0, dif_pos (by omega), total_at]
    exact Finset.sum_congr rfl fun d _ => ev_at V b n d _
  rw [dif_neg h1]
  by_cases h2 : f.val - 18 - 3 < 3
  · rw [dif_pos h2]
    obtain h | h | h : f.val = 21 + 0 ∨ f.val = 21 + 1 ∨ f.val = 21 + 2 := by omega
    · exact hi 0 0 0 rfl h _ (Fin.ext (by simp only [h]; rfl))
    · exact hi 1 0 1 rfl h _ (Fin.ext (by simp only [h]; rfl))
    · exact hi 2 0 2 rfl h _ (Fin.ext (by simp only [h]; rfl))
  rw [dif_neg h2]
  by_cases h3 : f.val - 18 - 3 - 3 < 2
  · rw [dif_pos h3]
    obtain h | h : f.val = 21 + 3 ∨ f.val = 21 + 4 := by omega
    · exact hi 3 1 1 rfl h _ (Fin.ext (by simp only [h]; rfl))
    · exact hi 4 1 2 rfl h _ (Fin.ext (by simp only [h]; rfl))
  rw [dif_neg h3]
  exact hi 5 2 2 rfl (by omega) _ rfl

end Cert.Proof.RefValue

end
-- ==== Proof.Equation.lean ====
/-
  The kernel's result and the reference's are the same fields of the mesh's edge vectors, where the positions are finite.
-/
module

public import proofs.«01_k».proof.Defs
public import proofs.«01_k».proof.Proof.KernelValue
public import proofs.«01_k».proof.Proof.RefValue
public import proofs.«01_k».proof.Proof.Gen.Pre_finite
public import Idealize.ShloMosaic.Lib.ReduceAll

@[expose] public section

noncomputable section

namespace Cert.Proof.Equation

open Idealize.ShloMosaic Cert.Proof.Mesh Cert.Proof.KernelValue

/-- The kernel's edge vectors are the mesh's. -/
theorem nodeEdges_eq (x : FVec Ideal ⟨3, ![2, 10000, 3]⟩ .f32) (b : Fin 2) (n : Fin 10000) : nodeEdges x b n.val = edge x b n := by
  have hn := n.isLt
  have hp : (fun k => padded x b (104 + n.val) k) = fun k => x (ix3 b n k) := funext fun k => by
    unfold padded
    rw [dif_pos (by omega)]
    exact congrArg x (congrArg (fun t => ix3 b t k) (Fin.ext (by show 104 + n.val - 104 = n.val; omega)))
  unfold nodeEdges
  rw [hp]
  refine edges_eq x b n _ fun d k h => ?_
  have hl := next_lt hn h
  unfold padded
  rw [dif_pos (by omega)]
  exact congrArg x (congrArg (fun t => ix3 b t k) (Fin.ext (by show 4 + n.val + Fields.ahead d - 104 = n.val + Fields.ahead d - 100; omega)))

/-- The precondition: no position is infinite. -/
theorem finite_pos (x : FVec Ideal ⟨3, ![2, 10000, 3]⟩ .f32) (h : Cert.Pre_finite.fn (F := Ideal) x = fun _ => 1#1) (i : (⟨3, ![2, 10000, 3]⟩ : Shape).Idx) :
    x i ≠ (⊤ : EReal) ∧ x i ≠ (⊥ : EReal) := by
  unfold Cert.Pre_finite.fn at h
  have : Subsingleton Cert.Pre_finite.S_.Idx := ⟨fun a b => funext fun k => k.elim0⟩
  have e := Host.reduce_andi_all _ _ _ _ _ (congrFun h (fun k => k.elim0)) i
  have t : (FloatOps.ofBits .f32 0x7F800000#32 : Ideal .f32) = (⊤ : EReal) := by simp [Ideal.ofBits, Ideal.ieee]
  have e' : Ideal.cmp .olt (max (x i : EReal) (-(x i : EReal))) (FloatOps.ofBits .f32 0x7F800000#32 : Ideal .f32) = 1#1 := e
  rw [t] at e'
  constructor
  · intro c
    rw [c] at e'
    simp [Ideal.cmp] at e'
  · intro c
    rw [c] at e'
    simp [Ideal.cmp] at e'

/-- The two results. -/
theorem results (V : Valuation Cert.ReferenceIdeal.τ Cert.ReferenceIdeal.sig (Elt Ideal)) (m : (ℓ : Loc Cert.KernelIdeal.nD Cert.KernelIdeal.τ Cert.KernelIdeal.sig) → Buf (Elt Ideal) ℓ) (c : Dev Cert.KernelIdeal.nD)
    (hV : RefValue.pos V = Launch.X m c) (hf : Cert.Pre_finite.fn (F := Ideal) (Launch.X m c) = fun _ => 1#1) :
    (RefValue.out V : FVec Ideal ⟨3, ![2, 10000, 27]⟩ .f32) = Launch.R m c := by
  have hx := finite_pos _ hf
  funext i
  obtain ⟨b, n, f, rfl⟩ : ∃ (b : Fin 2) (n : Fin 10000) (f : Fin 27), i = ix3 b n f := ⟨i 0, i 1, i 2, by funext k; match k with | 0 | 1 | 2 => rfl⟩
  obtain ⟨v, hv⟩ := edge_real (RefValue.pos V) (hV ▸ hx) b n
  rw [RefValue.out_at V b n v hv, hV, ← nodeEdges_eq, R_at]

end Cert.Proof.Equation

end
-- ==== Proof.PadBody.lean ====
module

public import proofs.«01_k».proof.Proof.Gen.AssemblyIdeal.Skeleton
public import proofs.«01_k».proof.Proof.Gen.AssemblyIdeal.Points
public import proofs.«01_k».proof.Proof.Gen.AssemblyIdeal.Regions
public import Idealize.ShloMosaic.Lib.Pipeline.Regions
public import Idealize.ShloMosaic.Lib.Tactic

@[expose] public section

noncomputable section

namespace Cert.Asm

open Cert.AssemblyIdeal Cert.AssemblyIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU : Type := UR sig nD τ
local notation "𝕄" => MT nD τ sig Unit (Elt F) ℕ UU ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

theorem coords0_1 : ∀ t : Fin grid0.N, ((grid0.coords t) 1).val = t.val % 10 := by decide +kernel
theorem coords0_0 : ∀ t : Fin grid0.N, ((grid0.coords t) 0).val = t.val / 10 := by decide +kernel

def padFirst (c : Dev nD) (i : grid0.Coords) (hi : Scalar.cmpi .ne (Scalar.extui (Scalar.cmpi .eq (BitVec.ofNat 32 (i 1).val) 0#32) : BitVec 32) 0#32 = 1#1)
    (M0 : Memref sig .tc .vmem S1x1000x192 .f32) (h0 : M0.IsWhole) (M1 : Memref sig .tc .vmem S1x10208x192 .bf16) (h1 : M1.IsWhole)
    (f0 : Bf (F := F) c M0) (f1 : Bf (F := F) c M1) :
    { W : Bf (F := F) c M1 // ∀ (E : Set ℕ) (Q : PUnit → sProp 𝕄),
        iprop(pt c M0 f0 ∗ pt c M1 f1 ∗ (iprop(pt c M0 f0 ∗ pt c M1 W) -∗ Q ⟨⟩))
          ⊢ wp frame (wpE (defs₀ (F := F)) Variants.none c none) E (cc0__pad_cast_body i M0 h0 M1 h1) Q } := by
  refine ⟨?_, fun E Q => ?run⟩
  case run =>
    simp only [cc0__pad_cast_body_eq_skeleton]; unfold cc0__pad_cast_body_skel
    iintro ⟨H0, H1, Hk⟩
    sl_exec!
    sl_step
    iapply Hk
    isplitl [H0]; · iexact H0
    iexact H1

def padLater (c : Dev nD) (i : grid0.Coords) (hi : ¬ Scalar.cmpi .ne (Scalar.extui (Scalar.cmpi .eq (BitVec.ofNat 32 (i 1).val) 0#32) : BitVec 32) 0#32 = 1#1)
    (M0 : Memref sig .tc .vmem S1x1000x192 .f32) (h0 : M0.IsWhole) (M1 : Memref sig .tc .vmem S1x10208x192 .bf16) (h1 : M1.IsWhole)
    (f0 : Bf (F := F) c M0) (f1 : Bf (F := F) c M1) :
    { W : Bf (F := F) c M1 // ∀ (E : Set ℕ) (Q : PUnit → sProp 𝕄),
        iprop(pt c M0 f0 ∗ pt c M1 f1 ∗ (iprop(pt c M0 f0 ∗ pt c M1 W) -∗ Q ⟨⟩))
          ⊢ wp frame (wpE (defs₀ (F := F)) Variants.none c none) E (cc0__pad_cast_body i M0 h0 M1 h1) Q } := by
  refine ⟨?_, fun E Q => ?run⟩
  case run =>
    simp only [cc0__pad_cast_body_eq_skeleton]; unfold cc0__pad_cast_body_skel
    iintro ⟨H0, H1, Hk⟩
    sl_exec!
    sl_step
    iapply Hk
    isplitl [H0]; · iexact H0
    iexact H1

end Cert.Asm

end
-- ==== Proof.AsmBody.lean ====
module

public import proofs.«01_k».proof.Proof.PadBody

@[expose] public section

noncomputable section

namespace Cert.Asm

open Cert.AssemblyIdeal Cert.AssemblyIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

def asmFirst (c : Dev nD) (i : grid1.Coords) (p1 : k1_cond1 i = 1#1) (p2 : ¬ k1_cond2 i = 1#1) (p3 : ¬ k1_cond3 i = 1#1)
    (M0 : Memref sig .tc .vmem S1x1000x27 .f32) (h0 : M0.IsWhole) (M1 : Memref sig .tc .vmem S1x10208x192 .bf16) (h1 : M1.IsWhole)
    (M2 : Memref sig .tc .vmem S1x1000x1208 .bf16) (h2 : M2.IsWhole) (M3 : Memref sig .tc .vmem S2x64x64 .f32) (h3 : M3.IsWhole)
    (M4 : Memref sig .tc .vmem S1x1 .f32) (h4 : M4.IsWhole)
    (f0 : Bf (F := F) c M0) (f1 : Bf (F := F) c M1) (f2 : Bf (F := F) c M2) (f3 : Bf (F := F) c M3) (f4 : Bf (F := F) c M4) :
    { W : Bf (F := F) c M3 × Bf (F := F) c M4 // ∀ (E : Set ℕ) (Q : PUnit → sProp 𝕄),
        iprop(pt c M0 f0 ∗ pt c M1 f1 ∗ pt c M2 f2 ∗ pt c M3 f3 ∗ pt c M4 f4
            ∗ (iprop(pt c M0 f0 ∗ pt c M1 f1 ∗ pt c M2 f2 ∗ pt c M3 W.1 ∗ pt c M4 W.2) -∗ Q ⟨⟩))
          ⊢ wp frame (wpE (defs₀ (F := F)) Variants.none c none) E (cc1__assembly_body i M0 h0 M1 h1 M2 h2 M3 h3 M4 h4) Q } := by
  refine ⟨(?_, ?_), fun E Q => ?run⟩
  case run =>
    simp only [cc1__assembly_body_eq_skeleton]; unfold cc1__assembly_body_skel
    simp only [k1_part1_eq_skeleton, k1_part2_eq_skeleton, k1_part3_eq_skeleton, k1_part4_eq_skeleton, k1_part5_eq_skeleton, k1_part6_eq_skeleton, k1_part7_eq_skeleton]
    iintro ⟨H0, H1, H2, H3, H4, Hk⟩
    sl_exec!
    sl_step
    iapply Hk
    isplitl [H0]; · iexact H0
    isplitl [H1]; · iexact H1
    isplitl [H2]; · iexact H2
    isplitl [H3]; · iexact H3
    iexact H4

def asmLater (c : Dev nD) (i : grid1.Coords) (p1 : ¬ k1_cond1 i = 1#1) (p2 : k1_cond2 i = 1#1) (p3 : ¬ k1_cond3 i = 1#1)
    (M0 : Memref sig .tc .vmem S1x1000x27 .f32) (h0 : M0.IsWhole) (M1 : Memref sig .tc .vmem S1x10208x192 .bf16) (h1 : M1.IsWhole)
    (M2 : Memref sig .tc .vmem S1x1000x1208 .bf16) (h2 : M2.IsWhole) (M3 : Memref sig .tc .vmem S2x64x64 .f32) (h3 : M3.IsWhole)
    (M4 : Memref sig .tc .vmem S1x1 .f32) (h4 : M4.IsWhole)
    (f0 : Bf (F := F) c M0) (f1 : Bf (F := F) c M1) (f2 : Bf (F := F) c M2) (f3 : Bf (F := F) c M3) (f4 : Bf (F := F) c M4) :
    { W : Bf (F := F) c M3 × Bf (F := F) c M4 // ∀ (E : Set ℕ) (Q : PUnit → sProp 𝕄),
        iprop(pt c M0 f0 ∗ pt c M1 f1 ∗ pt c M2 f2 ∗ pt c M3 f3 ∗ pt c M4 f4
            ∗ (iprop(pt c M0 f0 ∗ pt c M1 f1 ∗ pt c M2 f2 ∗ pt c M3 W.1 ∗ pt c M4 W.2) -∗ Q ⟨⟩))
          ⊢ wp frame (wpE (defs₀ (F := F)) Variants.none c none) E (cc1__assembly_body i M0 h0 M1 h1 M2 h2 M3 h3 M4 h4) Q } := by
  refine ⟨(?_, ?_), fun E Q => ?run⟩
  case run =>
    simp only [cc1__assembly_body_eq_skeleton]; unfold cc1__assembly_body_skel
    simp only [k1_part1_eq_skeleton, k1_part2_eq_skeleton, k1_part3_eq_skeleton, k1_part4_eq_skeleton, k1_part5_eq_skeleton, k1_part6_eq_skeleton, k1_part7_eq_skeleton]
    iintro ⟨H0, H1, H2, H3, H4, Hk⟩
    sl_exec!
    sl_step
    iapply Hk
    isplitl [H0]; · iexact H0
    isplitl [H1]; · iexact H1
    isplitl [H2]; · iexact H2
    isplitl [H3]; · iexact H3
    iexact H4

def asmLast (c : Dev nD) (i : grid1.Coords) (p1 : ¬ k1_cond1 i = 1#1) (p2 : k1_cond2 i = 1#1) (p3 : k1_cond3 i = 1#1)
    (M0 : Memref sig .tc .vmem S1x1000x27 .f32) (h0 : M0.IsWhole) (M1 : Memref sig .tc .vmem S1x10208x192 .bf16) (h1 : M1.IsWhole)
    (M2 : Memref sig .tc .vmem S1x1000x1208 .bf16) (h2 : M2.IsWhole) (M3 : Memref sig .tc .vmem S2x64x64 .f32) (h3 : M3.IsWhole)
    (M4 : Memref sig .tc .vmem S1x1 .f32) (h4 : M4.IsWhole)
    (f0 : Bf (F := F) c M0) (f1 : Bf (F := F) c M1) (f2 : Bf (F := F) c M2) (f3 : Bf (F := F) c M3) (f4 : Bf (F := F) c M4) :
    { W : Bf (F := F) c M3 × Bf (F := F) c M4 // ∀ (E : Set ℕ) (Q : PUnit → sProp 𝕄),
        iprop(pt c M0 f0 ∗ pt c M1 f1 ∗ pt c M2 f2 ∗ pt c M3 f3 ∗ pt c M4 f4
            ∗ (iprop(pt c M0 f0 ∗ pt c M1 f1 ∗ pt c M2 f2 ∗ pt c M3 W.1 ∗ pt c M4 W.2) -∗ Q ⟨⟩))
          ⊢ wp frame (wpE (defs₀ (F := F)) Variants.none c none) E (cc1__assembly_body i M0 h0 M1 h1 M2 h2 M3 h3 M4 h4) Q } := by
  refine ⟨(?_, ?_), fun E Q => ?run⟩
  case run =>
    simp only [cc1__assembly_body_eq_skeleton]; unfold cc1__assembly_body_skel
    simp only [k1_part1_eq_skeleton, k1_part2_eq_skeleton, k1_part3_eq_skeleton, k1_part4_eq_skeleton, k1_part5_eq_skeleton, k1_part6_eq_skeleton, k1_part7_eq_skeleton]
    iintro ⟨H0, H1, H2, H3, H4, Hk⟩
    sl_exec!
    sl_step
    iapply Hk
    isplitl [H0]; · iexact H0
    isplitl [H1]; · iexact H1
    isplitl [H2]; · iexact H2
    isplitl [H3]; · iexact H3
    iexact H4

end Cert.Asm

end
-- ==== Proof.AsmTrace.lean ====
module
public import proofs.«01_k».proof.Proof.Gen.AssemblyIdeal.Skeleton
public import Idealize.ShloMosaic.Lib.Pointwise
public import Idealize.ShloMosaic.Lib.Tactic.CleanTypes

/-!
# The mean trace

The last grid point lays the two matrices as the diagonal blocks of one 128 × 128 matrix and iterates on it. Each iterate is
again block diagonal, with the iterates of the two matrices as its blocks; so its trace is the sum of theirs. This holds at
all extended reals, for zero times anything is zero.
-/

@[expose] public section
noncomputable section
namespace Cert.Asm
open Cert.AssemblyIdeal Cert.AssemblyIdeal.Gen
open Idealize.ShloMosaic Idealize.ShloMosaic.TcCoe

/-! ## The iteration on two matrices -/

abbrev Two := Fin 2 → Fin 64 → Fin 64 → EReal

abbrev w15 : EReal := FloatOps.ofBits (F := Ideal) .f32 0x3FC00000#32
abbrev w05 : EReal := FloatOps.ofBits (F := Ideal) .f32 0x3F000000#32
abbrev w2 : EReal := FloatOps.ofBits (F := Ideal) .f32 0x40000000#32

def mul2 (f g : Two) : Two := fun b i j => ∑ k, f b i k * g b k j
def one2 : Two := fun _ i j => if i = j then 1 else 0
def factor (y z : Two) : Two := fun b i j => w15 * one2 b i j - w05 * mul2 z y b i j
def step2 (p : Two × Two) : Two × Two := (mul2 p.1 (factor p.1 p.2), mul2 (factor p.1 p.2) p.2)

/-- A step, over and over. -/
def times {α : Type} (f : α → α) : ℕ → α → α
  | 0, a => a
  | n + 1, a => f (times f n a)

def norm2 (M : Two) : EReal := Ideal.sqrt (∑ b, ∑ i, ∑ j, M b i j * M b i j)
def over2 (M : Two) : Two := fun b i j => Ideal.div (M b i j) (norm2 M)
def trace2 (y : Two) : EReal := ∑ b, ∑ i, ∑ j, y b i j * one2 b i j

/-- The mean trace after fourteen steps. -/
def mean (M : Two) : EReal := Ideal.div (Ideal.sqrt (norm2 M) * trace2 (times step2 14 (over2 M, one2)).1) w2

/-! ## Block diagonal matrices -/

/-- The two matrices as the diagonal blocks. -/
def big (f : Two) : FVec Ideal S128x128 .f32 := fun i =>
  if (i 0).val / 64 = (i 1).val / 64 then
    f ⟨(i 0).val / 64, by have : (i 0).val < 128 := (i 0).isLt; omega⟩ ⟨(i 0).val % 64, Nat.mod_lt _ (by decide)⟩ ⟨(i 1).val % 64, Nat.mod_lt _ (by decide)⟩
  else 0

/-- A row of the big matrix, by its block and its row there. -/
def at2 (b : Fin 2) (i : Fin 64) : Fin 128 := ⟨64 * b.val + i.val, by have := b.isLt; have := i.isLt; omega⟩

theorem big_at (f : Two) (a b : Fin 2) (i j : Fin 64) : big f (ix2 (at2 a i) (at2 b j)) = if a = b then f a i j else 0 := by
  have ha := a.isLt; have hb := b.isLt; have hi := i.isLt; have hj := j.isLt
  have e1 : (64 * a.val + i.val) / 64 = a.val := by omega
  have e2 : (64 * b.val + j.val) / 64 = b.val := by omega
  have e3 : (64 * a.val + i.val) % 64 = i.val := by omega
  have e4 : (64 * b.val + j.val) % 64 = j.val := by omega
  show (if (64 * a.val + i.val) / 64 = (64 * b.val + j.val) / 64 then _ else _) = _
  rw [e1, e2]
  by_cases h : a = b
  · rw [if_pos h, if_pos (congrArg Fin.val h)]
    exact congr (congrArg₂ f (Fin.ext e1) (Fin.ext e3)) (Fin.ext e4)
  · rw [if_neg h, if_neg fun c => h (Fin.ext c)]

/-- Every index of the big matrix is that of a block's row and a block's column. -/
theorem idx_big (i : S128x128.Idx) : ∃ (a b : Fin 2) (p q : Fin 64), i = ix2 (at2 a p) (at2 b q) := by
  have h0 : (i 0).val < 128 := (i 0).isLt
  have h1 : (i 1).val < 128 := (i 1).isLt
  refine ⟨⟨(i 0).val / 64, by omega⟩, ⟨(i 1).val / 64, by omega⟩, ⟨(i 0).val % 64, Nat.mod_lt _ (by decide)⟩, ⟨(i 1).val % 64, Nat.mod_lt _ (by decide)⟩, ?_⟩
  funext k
  match k with
  | 0 => exact Fin.ext (by show (i 0).val = 64 * ((i 0).val / 64) + (i 0).val % 64; omega)
  | 1 => exact Fin.ext (by show (i 1).val = 64 * ((i 1).val / 64) + (i 1).val % 64; omega)

theorem ext_big {X Y : FVec Ideal S128x128 .f32} (h : ∀ a b p q, X (ix2 (at2 a p) (at2 b q)) = Y (ix2 (at2 a p) (at2 b q))) : X = Y := by
  funext i
  obtain ⟨a, b, p, q, rfl⟩ := idx_big i
  exact h a b p q

/-- A sum over the rows, block by block. -/
theorem sum_big (f : Fin 128 → EReal) : ∑ r, f r = ∑ b, ∑ i, f (at2 b i) := by
  rw [← Fintype.sum_prod_type']
  exact (Fintype.sum_equiv (finProdFinEquiv : Fin 2 × Fin 64 ≃ Fin (2 * 64)) _ f fun x =>
    congrArg f (Fin.ext (by show 64 * x.1.val + x.2.val = x.2.val + 64 * x.1.val; omega))).symm

/-- The sum of all entries of a block diagonal matrix. -/
theorem sum_blocks2 (f : Two) : ∑ r, ∑ s, big f (ix2 r s) = ∑ b, ∑ i, ∑ j, f b i j := by
  rw [sum_big]
  refine Finset.sum_congr rfl fun a _ => Finset.sum_congr rfl fun i _ => ?_
  rw [sum_big]
  simp only [big_at]
  rw [Finset.sum_eq_single a (fun b _ h => by simp only [if_neg (Ne.symm h), Finset.sum_const_zero]) (fun h => absurd (Finset.mem_univ a) h)]
  simp only [if_true]

/-! ## The last point's values -/

section Steps
variable {F : FTy → Type} [FloatOps F]

def bigMul (x y : FVec F S128x128 .f32) : FVec F S128x128 .f32 :=
  matmul dot_S128x128_S128x128_S128x128_1_0_0_1_n_n (some .fp32) x y (constant S128x128 .f32 0x00000000#32)

def bigFactor (y z : FVec F S128x128 .f32) : FVec F S128x128 .f32 :=
  subf (mulf (broadcast S128x128 (Scalar.ofBits .f32 0x3FC00000#32)) (k1_pay5 (F := F))) (mulf (broadcast S128x128 (Scalar.ofBits .f32 0x3F000000#32)) (bigMul z y))

def bigStep (p : FVec F S128x128 .f32 × FVec F S128x128 .f32) : FVec F S128x128 .f32 × FVec F S128x128 .f32 :=
  (bigMul p.1 (bigFactor p.1 p.2), bigMul (bigFactor p.1 p.2) p.2)

def bigSum (x : FVec F S128x128 .f32) : F .f32 :=
  extractAt ![0, 0, 0] (shapeCast S1x1x1 (multiReduction .add [1, 2] S1 (shapeCast S1x128x128 x shapeCasts_S128x128_S1x128x128) 0x00000000#32 reduces_S1x128x128_S1 (.inl rfl) rfl) shapeCasts_S1_S1x1x1) inpos_S1x1x1_p0_0_0

/-- What the last point stores, of the two matrices that it loads. -/
def stored (v w : Vec F S1x64x64 .f32) : FVec F S1x1 .f32 :=
  let y2 := k1_pay13 v w
  let z2 := k1_pay14 v w
  let e := k1_pay5 (F := F)
  let z6 := k1_pay27 e y2 z2 k1_pay15
  let t6 := k1_pay28 e y2 z2 k1_pay15
  let y7 := k1_pay29 e y2 z2 k1_pay15
  k1_pay4 e (k1_pay7 v w) (k1_pay41 e z6 t6 y7) (k1_pay42 e z6 t6 y7) (k1_pay43 e) (k1_pay44 e z6 t6 y7) (Scalar.ofBits .f32 0x3F000000#32)

variable (v w : Vec F S1x64x64 .f32)

theorem two_steps : (k1_pay13 v w, k1_pay14 v w) = times bigStep 2 (k1_pay8 v w, k1_pay5 (F := F)) :=
  congrArg bigStep (rfl : (k1_pay10 v w, k1_pay11 v w) = bigStep (k1_pay8 v w, k1_pay5 (F := F)))

theorem seven_steps (y z : FVec F S128x128 .f32) :
    (k1_pay29 k1_pay5 y z k1_pay15, k1_pay30 (k1_pay27 k1_pay5 y z k1_pay15) (k1_pay28 k1_pay5 y z k1_pay15)) = times bigStep 5 (y, z) :=
  congrArg bigStep (show (k1_pay26 k1_pay5 y z k1_pay15, k1_pay27 k1_pay5 y z k1_pay15) = times bigStep 4 (y, z) from
  congrArg bigStep (show (k1_pay23 k1_pay5 y z k1_pay15, k1_pay24 k1_pay5 y z k1_pay15) = times bigStep 3 (y, z) from
  congrArg bigStep (show (k1_pay20 k1_pay5 y z k1_pay15, k1_pay21 k1_pay5 y z k1_pay15) = times bigStep 2 (y, z) from
  congrArg bigStep (show (k1_pay17 y z k1_pay15, k1_pay18 y z k1_pay15) = bigStep (y, z) from rfl))))

theorem eleven_steps (z6 t6 y7 : FVec F S128x128 .f32) :
    (k1_pay41 k1_pay5 z6 t6 y7, k1_pay42 k1_pay5 z6 t6 y7) = times bigStep 4 (y7, k1_pay30 z6 t6) :=
  congrArg bigStep (show (k1_pay38 k1_pay5 z6 t6 y7, k1_pay39 k1_pay5 z6 t6 y7) = times bigStep 3 (y7, k1_pay30 z6 t6) from
  congrArg bigStep (show (k1_pay35 k1_pay5 z6 t6 y7, k1_pay36 k1_pay5 z6 t6 y7) = times bigStep 2 (y7, k1_pay30 z6 t6) from
  congrArg bigStep (show (k1_pay32 k1_pay5 z6 t6 y7, k1_pay33 k1_pay5 z6 t6 y7) = bigStep (y7, k1_pay30 z6 t6) from rfl)))

theorem last_steps (c : F .f32) (z6 t6 y7 : FVec F S128x128 .f32) :
    k1_pay4 k1_pay5 c (k1_pay41 k1_pay5 z6 t6 y7) (k1_pay42 k1_pay5 z6 t6 y7) (k1_pay43 k1_pay5) (k1_pay44 k1_pay5 z6 t6 y7) (Scalar.ofBits .f32 0x3F000000#32)
      = broadcast S1x1 (Scalar.divf (Scalar.mulf (Scalar.sqrt c) (bigSum (mulf (times bigStep 3 (k1_pay41 k1_pay5 z6 t6 y7, k1_pay42 k1_pay5 z6 t6 y7)).1 k1_pay5)))
          (Scalar.ofBits .f32 0x40000000#32)) := rfl

theorem times_times {α : Type} (f : α → α) (m n : ℕ) (a : α) : times f m (times f n a) = times f (m + n) a := by
  induction m with
  | zero => rw [Nat.zero_add]; rfl
  | succ m ih => rw [Nat.succ_add]; exact congrArg f ih

theorem stored_eq : stored v w
    = broadcast S1x1 (Scalar.divf (Scalar.mulf (Scalar.sqrt (k1_pay7 v w)) (bigSum (mulf (times bigStep 14 (k1_pay8 v w, k1_pay5)).1 k1_pay5)))
        (Scalar.ofBits .f32 0x40000000#32)) := by
  refine (last_steps _ _ _ _).trans ?_
  rw [eleven_steps, seven_steps, two_steps, times_times, times_times, times_times]

end Steps

/-! ## Their readings over the extended reals -/

theorem at2_inj (a b : Fin 2) (i j : Fin 64) : at2 a i = at2 b j ↔ a = b ∧ i = j := by
  have := a.isLt; have := b.isLt; have hi := i.isLt; have := j.isLt
  constructor
  · intro h
    have e : 64 * a.val + i.val = 64 * b.val + j.val := congrArg Fin.val h
    exact ⟨Fin.ext (by omega), Fin.ext (by omega)⟩
  · rintro ⟨rfl, rfl⟩; rfl

theorem one_big : k1_pay5 (F := Ideal) = big one2 := by
  refine ext_big fun a b p q => ?_
  rw [big_at]
  pointwise [k1_pay5]
  have e : IntOp.cmpi CmpIPredicate.eq (BitVec.ofNat 32 (at2 a p).val) (BitVec.ofNat 32 (at2 b q).val) = if a = b ∧ p = q then 1#1 else 0#1 := by
    simp only [← at2_inj]
    have ha := (at2 a p).isLt
    have hb := (at2 b q).isLt
    by_cases h : at2 a p = at2 b q
    · rw [if_pos h, h]
      simp [IntOp.cmpi]
    · rw [if_neg h]
      have hn : ¬ BitVec.ofNat 32 (at2 a p).val = BitVec.ofNat 32 (at2 b q).val := fun c => h (Fin.ext (by
        have c' := congrArg BitVec.toNat c
        simp only [BitVec.toNat_ofNat] at c'
        omega))
      show BitVec.ofBool (BitVec.ofNat 32 (at2 a p).val == BitVec.ofNat 32 (at2 b q).val) = 0#1
      rw [beq_eq_false_iff_ne.mpr hn]
      rfl
  rw [e]
  unfold one2
  by_cases h : a = b
  · by_cases h' : p = q
    · rw [if_pos ⟨h, h'⟩, if_pos h, if_pos h']
      show (((BitVec.setWidth 32 1#1).toInt : ℝ) : EReal) = 1
      simp
    · rw [if_neg fun c => h' c.2, if_pos h, if_neg h']
      show (((BitVec.setWidth 32 0#1).toInt : ℝ) : EReal) = 0
      simp
  · rw [if_neg fun c => h c.1, if_neg h]
    show (((BitVec.setWidth 32 0#1).toInt : ℝ) : EReal) = 0
    simp

theorem mul_big (f g : Two) : bigMul (F := Ideal) (big f) (big g) = big (mul2 f g) := by
  refine ext_big fun a b p q => ?_
  rw [big_at]
  pointwise [bigMul]
  rw [sum_big]
  simp only [big_at]
  rw [Finset.sum_eq_single a (fun c _ h => by simp only [if_neg (Ne.symm h), zero_mul, Finset.sum_const_zero]) (fun h => absurd (Finset.mem_univ a) h)]
  by_cases h : a = b
  · subst h
    simp only [if_true]
    rfl
  · simp only [if_neg h, mul_zero, Finset.sum_const_zero]

theorem factor_big (y z : Two) : bigFactor (F := Ideal) (big y) (big z) = big (factor y z) := by
  unfold bigFactor
  rw [mul_big, one_big]
  refine ext_big fun a b p q => ?_
  rw [big_at]
  pointwise
  rw [big_at, big_at]
  by_cases h : a = b
  · rw [if_pos h, if_pos h, if_pos h]
    rfl
  · rw [if_neg h, if_neg h, if_neg h, mul_zero, mul_zero, sub_zero]

theorem steps_big (n : ℕ) (p : Two × Two) : times (bigStep (F := Ideal)) n (big p.1, big p.2) = (big (times step2 n p).1, big (times step2 n p).2) := by
  induction n with
  | zero => rfl
  | succ n ih =>
    show bigStep (times bigStep n _) = _
    rw [ih]
    unfold bigStep
    rw [factor_big, mul_big, mul_big]
    rfl

theorem times_big (f g : Two) : (mulf (big f) (big g) : FVec Ideal S128x128 .f32) = big (fun b i j => f b i j * g b i j) := by
  refine ext_big fun a b p q => ?_
  rw [big_at]
  pointwise
  rw [big_at, big_at]
  split
  · rfl
  · exact mul_zero _

theorem sum_of_big (f : Two) : bigSum (F := Ideal) (big f) = ∑ b, ∑ i, ∑ j, f b i j := by
  rw [← sum_blocks2]
  unfold bigSum
  pointwise

/-- The two matrices, from the two blocks loaded. -/
def pair (v w : Vec Ideal S1x64x64 .f32) : Two := fun b i j => if b = 0 then v (ix3 0 i j) else w (ix3 0 i j)

theorem joined (v w : Vec Ideal S1x64x64 .f32) : k1_pay6 (F := Ideal) v w = big (pair v w) := by
  refine ext_big fun a b p q => ?_
  rw [big_at]
  pointwise [k1_pay6]
  have hp := p.isLt
  have hq := q.isLt
  have l0 : ∀ i : Fin 64, (at2 0 i).val < 64 := fun i => by have := i.isLt; show 64 * 0 + i.val < 64; omega
  have l1 : ∀ i : Fin 64, ¬ (at2 1 i).val < 64 := fun i => by have := i.isLt; show ¬ 64 * 1 + i.val < 64; omega
  have v0 : ∀ i : Fin 64, (⟨(at2 0 i).val, l0 i⟩ : Fin 64) = i := fun i => Fin.ext (by show 64 * 0 + i.val = i.val; omega)
  have v1 : ∀ i : Fin 64, ∀ h, (⟨(at2 1 i).val - 64, h⟩ : Fin 64) = i := fun i h => Fin.ext (by show 64 * 1 + i.val - 64 = i.val; omega)
  match a, b with
  | 0, 0 => exact (dif_pos (l0 p)).trans ((dif_pos (l0 q)).trans (congrArg₂ (fun i j => v (ix3 0 i j)) (v0 p) (v0 q)))
  | 0, 1 => exact (dif_pos (l0 p)).trans (dif_neg (l1 q))
  | 1, 0 => exact (dif_neg (l1 p)).trans (dif_pos (l0 q))
  | 1, 1 => exact (dif_neg (l1 p)).trans ((dif_neg (l1 q)).trans (congrArg₂ (fun i j => w (ix3 0 i j)) (v1 p _) (v1 q _)))

theorem norm_big (v w : Vec Ideal S1x64x64 .f32) : k1_pay7 (F := Ideal) v w = norm2 (pair v w) := by
  show Ideal.sqrt (bigSum (mulf (k1_pay6 (F := Ideal) v w) (k1_pay6 (F := Ideal) v w))) = _
  rw [joined, times_big, sum_of_big]
  rfl

theorem over_big (v w : Vec Ideal S1x64x64 .f32) (h : norm2 (pair v w) ≠ 0) : k1_pay8 (F := Ideal) v w = big (over2 (pair v w)) := by
  show (divf (k1_pay6 (F := Ideal) v w) (broadcast S128x128 (k1_pay7 (F := Ideal) v w)) : FVec Ideal S128x128 .f32) = _
  rw [joined, norm_big]
  refine ext_big fun a b p q => ?_
  rw [big_at]
  show Ideal.div (big (pair v w) (ix2 (at2 a p) (at2 b q))) (norm2 (pair v w)) = _
  rw [big_at]
  split
  · rfl
  · unfold Ideal.div
    rw [if_neg h, zero_mul]

theorem root_zero : Ideal.sqrt 0 = 0 := by
  show (if (0 : ℝ) < 0 then (⊥ : EReal) else ((Real.sqrt 0 : ℝ) : EReal)) = 0
  rw [if_neg (lt_irrefl _), Real.sqrt_zero, EReal.coe_zero]

/-- What the last point stores is the mean trace. -/
theorem stored_mean (v w : Vec Ideal S1x64x64 .f32) : stored (F := Ideal) v w = fun _ => mean (pair v w) := by
  rw [stored_eq, norm_big]
  funext i
  show Ideal.div (Ideal.sqrt (norm2 (pair v w)) * _) _ = _
  unfold mean
  by_cases h : norm2 (pair v w) = 0
  · rw [h, root_zero, zero_mul, zero_mul]
  · rw [over_big v w h, one_big, show ((big (over2 (pair v w)), big one2) : _ × _) = (big (over2 (pair v w), one2).1, big (over2 (pair v w), one2).2) from rfl, steps_big, times_big, sum_of_big]
    rfl

end Cert.Asm
end
-- ==== Proof.PadRegion.lean ====
module

public import proofs.«01_k».proof.Proof.PadBody
public import Idealize.ShloMosaic.Lib.Writes
public import Idealize.ShloMosaic.Lib.Pointwise.Index
public import Idealize.ShloMosaic.Lib.VecWindow
public import Idealize.ShloMosaic.Lib.Pipeline.ArrRel
public import Idealize.ShloMosaic.Lib.Pipeline.FrameBody

@[expose] public section

noncomputable section

namespace Cert.Asm

open Cert.AssemblyIdeal Cert.AssemblyIdeal.Gen
open Idealize.ShloMosaic Idealize.ShloMosaic.TcCoe Idealize.ShloMosaic.Tactic

open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- A whole memref owned at `X` is its buffer held at some contents that read `X`. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns pt
  rw [h.set_eq_univ]

/-- What one point of the padding leaves in its block, from the block `Y` and the rows `X` it fetched. -/
def padStep (n : ℕ) (X : S1x1000x192.Idx → Elt F .f32) (Y : S1x10208x192.Idx → Elt F .bf16) : S1x10208x192.Idx → Elt F .bf16 := fun y =>
  if h : 104 + 1000 * n ≤ (y 1).val ∧ (y 1).val < 104 + 1000 * n + 1000 then
    k0_pay1 X (ix3 0 ⟨(y 1).val - (104 + 1000 * n), by omega⟩ (y 2))
  else if n = 0 ∧ ((y 1).val < 104 ∨ 10104 ≤ (y 1).val) then Scalar.ofBits .bf16 0x0000#16 else Y y

theorem k0_off1_eq (i : grid0.Coords) : k0_off1 i = ![0, 104 + 1000 * (i 1).val, 0] := by
  have h : ∀ j : Fin 10, (Scalar.indexCast (Scalar.addi 104#32 (Scalar.muli (BitVec.ofNat 32 j.val) 1000#32)) : Index).toNat = 104 + 1000 * j.val := by decide +kernel
  unfold k0_off1; dsimp only; rw [h (i 1)]

theorem first_iff : ∀ j : Fin 10, (Scalar.cmpi .ne (Scalar.extui (Scalar.cmpi .eq (BitVec.ofNat 32 j.val) 0#32) : BitVec 32) 0#32 = 1#1) ↔ j.val = 0 := by
  decide +kernel

theorem rows_read (c : Dev nD) (i : grid0.Coords) (M1 : Memref sig .tc .vmem S1x10208x192 .bf16) (f1 : Bf (F := F) c M1)
    (X : S1x1000x192.Idx → Elt F .f32) (inb) (y : S1x10208x192.Idx) :
    M1.view.read (Elt F) (M1.view.writes (Elt F) f1 [⟨Rect.unit (k0_off1 i) ![1, 1000, 192] inb, k0_pay1 X⟩]) y
      = if h : 104 + 1000 * (i 1).val ≤ (y 1).val ∧ (y 1).val < 104 + 1000 * (i 1).val + 1000 then
          k0_pay1 X (ix3 0 ⟨(y 1).val - (104 + 1000 * (i 1).val), by omega⟩ (y 2))
        else M1.view.read (Elt F) f1 y := by
  have e := k0_off1_eq i
  by_cases h : 104 + 1000 * (i 1).val ≤ (y 1).val ∧ (y 1).val < 104 + 1000 * (i 1).val + 1000
  · rw [dif_pos h]
    refine View.read_writes_cons_hit_of_coords M1.view f1 _ _ _ _ y fun a => ?_
    match a with
    | 0 => show (y 0).val = k0_off1 i 0 + 1 * 0; have := (y 0).isLt; have : (y 0).val < 1 := this; rw [e]; show _ = 0 + 1 * 0; omega
    | 1 => show (y 1).val = k0_off1 i 1 + 1 * ((y 1).val - (104 + 1000 * (i 1).val)); rw [e]; show _ = (104 + 1000 * (i 1).val) + 1 * ((y 1).val - (104 + 1000 * (i 1).val)); omega
    | 2 => show (y 2).val = k0_off1 i 2 + 1 * (y 2).val; rw [e]; show _ = 0 + 1 * (y 2).val; omega
  · rw [dif_neg h]
    refine View.read_writes_cons_miss_of_axis M1.view f1 _ _ y 1 (104 + 1000 * (i 1).val) 1000 ?_ rfl rfl (by omega)
    show k0_off1 i 1 = _
    rw [e]; rfl

theorem padFirst_read (c : Dev nD) (i : grid0.Coords) (hi) (M0 : Memref sig .tc .vmem S1x1000x192 .f32) (h0 : M0.IsWhole)
    (M1 : Memref sig .tc .vmem S1x10208x192 .bf16) (h1 : M1.IsWhole) (f0 : Bf (F := F) c M0) (f1 : Bf (F := F) c M1) :
    M1.view.read (Elt F) (padFirst c i hi M0 h0 M1 h1 f0 f1).1 = padStep (i 1).val (M0.view.read (Elt F) f0) (M1.view.read (Elt F) f1) := by
  have hn : (i 1).val = 0 := (first_iff (i 1)).1 hi
  unfold padFirst; dsimp only
  funext y
  have hy : (y 1).val < 10208 := (y 1).isLt
  have hy0 : (y 0).val < 1 := (y 0).isLt
  by_cases hh : 10104 ≤ (y 1).val
  · refine (View.read_writes_cons_hit_of_coords M1.view f1 _ _ _ (ix3 0 ⟨(y 1).val - 10104, by omega⟩ (y 2)) y fun a => ?_).trans ?_
    · match a with
      | 0 => show (y 0).val = 0 + 1 * 0; omega
      | 1 => show (y 1).val = 10104 + 1 * ((y 1).val - 10104); omega
      | 2 => show (y 2).val = 0 + 1 * (y 2).val; omega
    · unfold padStep
      rw [dif_neg (by omega), if_pos ⟨hn, by omega⟩]; rfl
  refine (View.read_writes_cons_miss_of_axis M1.view f1 _ _ y 1 10104 104 rfl rfl rfl (by omega)).trans ?_
  by_cases hl : (y 1).val < 104
  · refine (View.read_writes_cons_hit_of_coords M1.view f1 _ _ _ (ix3 0 ⟨(y 1).val, by omega⟩ (y 2)) y fun a => ?_).trans ?_
    · match a with
      | 0 => show (y 0).val = 0 + 1 * 0; omega
      | 1 => show (y 1).val = 0 + 1 * (y 1).val; omega
      | 2 => show (y 2).val = 0 + 1 * (y 2).val; omega
    · unfold padStep
      rw [dif_neg (by omega), if_pos ⟨hn, by omega⟩]; rfl
  refine (View.read_writes_cons_miss_of_axis M1.view f1 _ _ y 1 0 104 rfl rfl rfl (by omega)).trans ?_
  refine (rows_read c i M1 f1 _ _ y).trans ?_
  unfold padStep
  rw [if_neg (by omega : ¬ ((i 1).val = 0 ∧ ((y 1).val < 104 ∨ 10104 ≤ (y 1).val))), show View.readAt (Elt F) M0.view _ f0 = M0.view.read (Elt F) f0 from View.readAt_full _ _ _]

theorem padLater_read (c : Dev nD) (i : grid0.Coords) (hi) (M0 : Memref sig .tc .vmem S1x1000x192 .f32) (h0 : M0.IsWhole)
    (M1 : Memref sig .tc .vmem S1x10208x192 .bf16) (h1 : M1.IsWhole) (f0 : Bf (F := F) c M0) (f1 : Bf (F := F) c M1) :
    M1.view.read (Elt F) (padLater c i hi M0 h0 M1 h1 f0 f1).1 = padStep (i 1).val (M0.view.read (Elt F) f0) (M1.view.read (Elt F) f1) := by
  have hn : ¬ (i 1).val = 0 := fun h => hi ((first_iff (i 1)).2 h)
  unfold padLater; dsimp only
  funext y
  refine (rows_read c i M1 f1 _ _ y).trans ?_
  unfold padStep
  rw [if_neg (by omega : ¬ ((i 1).val = 0 ∧ ((y 1).val < 104 ∨ 10104 ≤ (y 1).val))), show View.readAt (Elt F) M0.view _ f0 = M0.view.read (Elt F) f0 from View.readAt_full _ _ _]

/-- One point's body, from its two staging buffers. -/
theorem pad_body (c : Dev nD) (i : grid0.Coords) (M0 : Memref sig .tc .vmem S1x1000x192 .f32) (h0 : M0.IsWhole)
    (M1 : Memref sig .tc .vmem S1x10208x192 .bf16) (h1 : M1.IsWhole) (X : S1x1000x192.Idx → Elt F .f32) (Y : S1x10208x192.Idx → Elt F .bf16)
    (E : Set ℕ) (Q : PUnit → sProp 𝕄) :
    iprop(owns (c : Thread nD τ) M0 fullShare X ∗ owns (c : Thread nD τ) M1 fullShare Y
        ∗ (iprop(owns (c : Thread nD τ) M0 fullShare X ∗ owns (c : Thread nD τ) M1 fullShare (padStep (i 1).val X Y)) -∗ Q ⟨⟩))
      ⊢ wp frame (wpE (defs₀ (F := F)) Variants.none c none) E (cc0__pad_cast_body i M0 h0 M1 h1) Q := by
  simp only [owns_pt c M0 h0, owns_pt c M1 h1]
  iintro ⟨⟨%f0, %e0, H0⟩, ⟨%f1, %e1, H1⟩, Hk⟩
  subst e0 e1
  by_cases hi : Scalar.cmpi .ne (Scalar.extui (Scalar.cmpi .eq (BitVec.ofNat 32 (i 1).val) 0#32) : BitVec 32) 0#32 = 1#1
  · iapply ((padFirst c i hi M0 h0 M1 h1 f0 f1).2 E Q)
    isplitl [H0]; · iexact H0
    isplitl [H1]; · iexact H1
    iintro ⟨H0, H1⟩
    iapply Hk
    isplitl [H0]; · iexists f0; isplitr; · ipureintro; rfl
                    iexact H0
    iexists _; isplitr; swap; · iexact H1
    ipureintro; exact padFirst_read c i hi M0 h0 M1 h1 f0 f1
  · iapply ((padLater c i hi M0 h0 M1 h1 f0 f1).2 E Q)
    isplitl [H0]; · iexact H0
    isplitl [H1]; · iexact H1
    iintro ⟨H0, H1⟩
    iapply Hk
    isplitl [H0]; · iexists f0; isplitr; · ipureintro; rfl
                    iexact H0
    iexists _; isplitr; swap; · iexact H1
    ipureintro; exact padLater_read c i hi M0 h0 M1 h1 f0 f1

/-! ## The region's data, entered from any contents -/

variable (V : (c : Dev nD) → (b : Ref sig .tc) → Buf (Elt F) ((c : Thread nD τ).loc b))

/-- The rows the fetch at point `t` stages. -/
abbrev stg0 (c : Dev nD) (t : Fin cfg0.N) : S1x1000x192.Idx → Elt F .f32 := ((cfg0.win 0).blk t).view.read (Elt F) (V c main_v0)

def rdat0 (c : Dev nD) : Pipeline.RDat τ (Elt F) Unit ℕ UU ℕ cfg0 c where
  A w := V c (Pipeline.arrRef spec0 w)
  after w t Y X := match w, Y, X with
    | ⟨0, _⟩, Y, X => X = Y
    | ⟨1, _⟩, Y, X => X = padStep (t.val % 10) (stg0 V c t) Y
  Φ _ := Pipeline.scopedRest (Ix := Unit) (Name := ℕ) (U := UU) (Lvl := ℕ) (Val := Elt F) spec0 c
  q _ := fullShare
  owed _ := 0

theorem row0 (t : Fin cfg0.N) : defs₀ (F := F) .tc cfg0.body (cfg0.bodyArgs t (cfg0.slots t)) = bodyAt0 t := by
  unfold defs₀; rw [Defs.onTc_tc]

theorem found0_0 (c : Dev nD) (t : Fin cfg0.N) (Y) (h : (rdat0 V c).Finds 0 t Y) : Y = stg0 V c t := by
  obtain ⟨d, rfl⟩ := ((rdat0 V c).finds_of_fetch (fetch0_0 t) Y).1 h
  rfl

theorem obligation0 (c : Dev nD) : (rdat0 V c).BodyObligation (defs₀ (F := F)) Variants.none () Set.univ := fun t Y hY => by
  have h0 := found0_0 V c t (Y 0) (hY 0)
  rw [bigSep_W0, bigSep_W0, row0,
    show (rdat0 V c).Φ t.succ = (rdat0 V c).Φ t.castSucc from rfl,
    show (rdat0 V c).owesAt () t.succ = (rdat0 V c).owesAt () t.castSucc from rfl]
  iintro ⟨HΦ, Ho, H0, H1⟩
  iapply (pad_body c (grid0.coords t) _ _ _ _ (Y 0) (Y 1) Set.univ _)
  isplitl [H0]; · iexact H0
  isplitl [H1]; · iexact H1
  iintro ⟨H0, H1⟩
  isplitl [HΦ]; · iexact HΦ
  isplitl [Ho]; · iexact Ho
  isplitl [H0]
  · iexists _; isplitr; swap; · iexact H0
    ipureintro; rfl
  iexists _; isplitr; swap; · iexact H1
  ipureintro
  show padStep _ _ _ = padStep _ _ _
  rw [h0, coords0_1 t]

/-- The padded table the region leaves, row by row. -/
def paddedAt (c : Dev nD) (b : Fin 2) (r : Fin 10208) (k : Fin 192) : Elt F .bf16 :=
  if h : 104 ≤ r.val ∧ r.val < 10104 then
    k0_pay1 (stg0 V c ⟨10 * b.val + (r.val - 104) / 1000, by show _ < 20; omega⟩)
      (ix3 0 ⟨(r.val - 104) % 1000, Nat.mod_lt _ (by decide)⟩ k)
  else Scalar.ofBits .bf16 0x0000#16

def padded (c : Dev nD) : S2x10208x192.Idx → Elt F .bf16 := fun y => paddedAt V c (y 0) (y 1) (y 2)

theorem step_row (c : Dev nD) (t : Fin cfg0.N) (Y : S1x10208x192.Idx → Elt F .bf16) (y : S1x10208x192.Idx)
    (hb : t.val / 10 < 2) (h : 104 + 1000 * (t.val % 10) ≤ (y 1).val ∧ (y 1).val < 104 + 1000 * (t.val % 10) + 1000) :
    padStep (t.val % 10) (stg0 V c t) Y y = paddedAt V c ⟨t.val / 10, hb⟩ (y 1) (y 2) := by
  unfold padStep paddedAt
  rw [dif_pos h, dif_pos (show 104 ≤ (y 1).val ∧ (y 1).val < 10104 by omega)]
  have e : (⟨10 * (t.val / 10) + ((y 1).val - 104) / 1000, by have : t.val < 20 := t.isLt; show _ < 20; omega⟩ : Fin cfg0.N) = t := Fin.ext (by show 10 * (t.val / 10) + ((y 1).val - 104) / 1000 = t.val; omega)
  refine Eq.trans ?_ (congrArg (fun u => k0_pay1 (stg0 V c u) (ix3 0 ⟨((y 1).val - 104) % 1000, Nat.mod_lt _ (by decide)⟩ (y 2))) e.symm)
  exact congrArg (k0_pay1 (stg0 V c t)) (congrArg (fun r => ix3 0 r (y 2)) (Fin.ext (by show (y 1).val - (104 + 1000 * (t.val % 10)) = ((y 1).val - 104) % 1000; omega)))

theorem leaves0_1 (c : Dev nD) : ∀ (n : ℕ) (t : Fin cfg0.N), t.val = n → ∀ X : S1x10208x192.Idx → Elt F .bf16, (rdat0 V c).Leaves 1 t X →
    ∀ y : S1x10208x192.Idx, ((y 1).val < 104 + 1000 * (t.val % 10 + 1) ∨ 10104 ≤ (y 1).val) → ∀ hb : t.val / 10 < 2,
      X y = paddedAt V c ⟨t.val / 10, hb⟩ (y 1) (y 2) := by
  intro n
  induction n with
  | zero =>
    rintro t ht X ⟨Y, -, hX⟩ y hy hb
    have hX : X = padStep (t.val % 10) (stg0 V c t) Y := hX
    rw [hX]
    by_cases hr : 104 + 1000 * (t.val % 10) ≤ (y 1).val ∧ (y 1).val < 104 + 1000 * (t.val % 10) + 1000
    · exact step_row V c t Y y hb hr
    · unfold padStep paddedAt
      rw [dif_neg hr, if_pos (by omega), dif_neg (show ¬ (104 ≤ (y 1).val ∧ (y 1).val < 10104) by omega)]
  | succ n ih =>
    rintro t ht X ⟨Y, hY, hX⟩ y hy hb
    have hX : X = padStep (t.val % 10) (stg0 V c t) Y := hX
    have hlt : t.val < 20 := t.isLt
    rw [hX]
    by_cases hr : 104 + 1000 * (t.val % 10) ≤ (y 1).val ∧ (y 1).val < 104 + 1000 * (t.val % 10) + 1000
    · exact step_row V c t Y y hb hr
    · by_cases hz : t.val % 10 = 0
      · unfold padStep paddedAt
        rw [dif_neg hr, if_pos (by omega), dif_neg (show ¬ (104 ≤ (y 1).val ∧ (y 1).val < 10104) by omega)]
      · have hs : padStep (t.val % 10) (stg0 V c t) Y y = Y y := by
          unfold padStep; rw [dif_neg hr, if_neg (by omega)]
        rw [hs]
        have hf : (cfg0.win 1).fetch t = false := rfl
        rcases ((rdat0 V c).finds_of_pos hf (by omega) Y).1 hY with h | h
        · have := (flush0_1 _).1 h
          have : (t.val - 1) % 10 = 9 := this
          omega
        · have hb' : (t.val - 1) / 10 < 2 := by omega
          have := ih ⟨t.val - 1, by omega⟩ (by show t.val - 1 = n; omega) Y h y (by show _ < 104 + 1000 * ((t.val - 1) % 10 + 1) ∨ _; omega) hb'
          rw [this]
          refine congrArg (fun r => paddedAt V c r (y 1) (y 2)) (Fin.ext ?_)
          show (t.val - 1) / 10 = t.val / 10
          omega

theorem index0_1 : ∀ t : Fin cfg0.N, cc0_transform_1 (grid0.coords t) 0 = t.val / 10 := by decide +kernel

theorem arr0 (c : Dev nD) (G : Buf (Elt F) ((cfg0.win 1).arr.view.loc (c.tc : Thread nD τ))) (hG : (rdat0 V c).ArrAt 1 cfg0.N G) :
    G = padded V c := by
  obtain ⟨X, hX, hA⟩ := hG.exists_exact
  rw [hA (Function.update (fun _ _ _ => Classical.arbitrary _) 1 X) fun u _ _ => by rw [Function.update_self]]
  refine Pipeline.Dat.arrAt_eq_of_covers _ 1 _ (by decide) fun t hf y => ?_
  rw [Pipeline.RDat.withAfter_after, Function.update_self]
  have h9 := (flush0_1 t).1 hf
  have hlt : t.val < 20 := t.isLt
  have hy1 : (((cfg0.win 1).xinj (cfg0.grid.coords t) y) 1 : Fin 10208).val < 10208 := Fin.isLt _
  have hl := leaves0_1 V c t.val t rfl (X t) (hX t t.isLt hf) ((cfg0.win 1).xinj (cfg0.grid.coords t) y) (by rw [h9]; omega) (by omega)
  refine Eq.trans (b := X t ((cfg0.win 1).xinj (cfg0.grid.coords t) y)) rfl (hl.trans ?_)
  have hc := index0_1 t
  have e0 : ((((cfg0.win 1).blk t).view.emb y) 0 : Fin 2).val = cc0_transform_1 (grid0.coords t) 0 * 1 + 1 * (y 0).val := rfl
  have e1 : ((((cfg0.win 1).blk t).view.emb y) 1 : Fin 10208).val = 0 * 10208 + 1 * (y 1).val := rfl
  have e2 : ((((cfg0.win 1).blk t).view.emb y) 2 : Fin 192).val = 0 * 192 + 1 * (y 2).val := rfl
  have hy0 : (y 0).val < 1 := (y 0).isLt
  unfold padded
  have : ∀ (b b' : Fin 2) (r r' : Fin 10208) (k k' : Fin 192), b.val = b'.val → r.val = r'.val → k.val = k'.val → paddedAt V c b r k = paddedAt V c b' r' k' := by
    intro b b' r r' k k' hb hr hk; rw [Fin.ext hb, Fin.ext hr, Fin.ext hk]
  refine this _ _ _ _ _ _ ?_ ?_ ?_
  · rw [e0, hc]; show t.val / 10 = _; omega
  · rw [e1]; show (y 1).val = _; omega
  · rw [e2]; show (y 2).val = _; omega

end Cert.Asm

end
-- ==== Proof.AsmRegion.lean ====
module

public import proofs.«01_k».proof.Proof.AsmBody
public import proofs.«01_k».proof.Proof.AsmTrace
public import proofs.«01_k».proof.Proof.PadRegion

@[expose] public section

noncomputable section

namespace Cert.Asm

open Cert.AssemblyIdeal Cert.AssemblyIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## What one point computes of its three loads -/

def parts {α : Type} (v2 : Vec F S1x1208x192 .bf16) (v4 : Vec F S1x1000x27 .f32) (v198 : Vec F S1x1000x1208 .bf16)
    (k : FVec F S1000x64 .bf16 → FVec F S1000x64 .bf16 → FVec F S1000x64 .bf16 → FVec F S64x64 .f32 → FVec F S1000x1 .bf16 → FVec F S1000x1 .bf16
      → FVec F S1000x1 .bf16 → FVec F S1000x1 .bf16 → FVec F S1000x1 .bf16 → FVec F S1000x1 .bf16 → α) : α :=
  let v3 := k1_pay45 v2
  let v5 := k1_pay46 v4
  let v104 := k1_pay78 v3 v5 (k1_pay53 v2 v4) (k1_pay62 v2 v4) (k1_pay63 v2 v4)
  let v83 := k1_pay70 v3 v5 (k1_pay54 v2 v4) (k1_pay56 v4) (k1_pay58 v4) (k1_pay59 v2) (k1_pay61 v2)
  let v89 := k1_pay71 v3 v5 (k1_pay55 v2 v4) (k1_pay56 v4) (k1_pay57 v4) (k1_pay59 v2) (k1_pay60 v2)
  let v143 := k1_pay87 v3 v5 v89 (k1_pay72 v5) (k1_pay73 v5) (k1_pay75 v3) (k1_pay76 v3)
  let v158 := k1_pay94 v3 v5 v104
  let v164 := k1_pay95 v3 v5 v83 (k1_pay79 v3 v5) (k1_pay80 v3 v5)
  k (k1_pay104 v3 v5 v158) (k1_pay105 v3 v5 v164) (k1_pay106 v3 v5 v143 (k1_pay96 v3 v5) (k1_pay97 v3 v5)) (k1_pay107 v3 v198)
    (k1_pay108 v5) (k1_pay109 v5) (k1_pay110 v5) (k1_pay111 v5) (k1_pay112 v5) (k1_pay113 v5)

/-- The point's contribution. -/
def con (v2 : Vec F S1x1208x192 .bf16) (v4 : Vec F S1x1000x27 .f32) (v198 : Vec F S1x1000x1208 .bf16) : FVec F S64x64 .f32 :=
  parts v2 v4 v198 k1_pay1

/-- The rows of the padded table that a point loads. -/
def rowsOf (n : Fin 10) (J : S1x10208x192.Idx → Elt F .bf16) : Vec F S1x1208x192 .bf16 := fun y =>
  J (ix3 0 ⟨1000 * n.val + (y 1).val, by have : (y 1).val < 1208 := (y 1).isLt; omega⟩ (y 2))

/-- The accumulated block after one point. -/
def asmStep (b : Fin 2) (n : Fin 10) (E : S1x1000x27.Idx → Elt F .f32) (J : S1x10208x192.Idx → Elt F .bf16) (L : S1x1000x1208.Idx → Elt F .bf16)
    (M : S2x64x64.Idx → Elt F .f32) : S2x64x64.Idx → Elt F .f32 := fun y =>
  if (y 0).val = b.val then
    if n.val = 0 then shapeCast S1x64x64 (con (rowsOf n J) E L) shapeCasts_S64x64_S1x64x64 (ix3 0 (y 1) (y 2))
    else addf (shapeCast S1x64x64 (fun z : S1x64x64.Idx => M (ix3 b (z 1) (z 2))) shapeCasts_S1x64x64_S1x64x64) (shapeCast S1x64x64 (con (rowsOf n J) E L) shapeCasts_S64x64_S1x64x64) (ix3 0 (y 1) (y 2))
  else M y

theorem k1_off1_eq (i : grid1.Coords) : k1_off1 i = ![0, 1000 * (i 1).val, 0] := by
  have h : ∀ j : Fin 10, (Scalar.indexCast (Scalar.muli (BitVec.ofNat 32 j.val) 1000#32) : Index).toNat = 1000 * j.val := by decide +kernel
  unfold k1_off1; dsimp only; rw [h (i 1)]

theorem k1_off2_eq (i : grid1.Coords) : k1_off2 i = ![(i 0).val, 0, 0] := by
  have h : ∀ j : Fin 2, (Scalar.indexCast (BitVec.ofNat 32 j.val) : Index).toNat = j.val := by decide +kernel
  unfold k1_off2; dsimp only; rw [h (i 0)]

theorem k1_off3_eq (i : grid1.Coords) : k1_off3 i = ![(i 0).val, 0, 0] := k1_off2_eq i

theorem cond1_iff (i : grid1.Coords) : k1_cond1 i = 1#1 ↔ (i 1).val = 0 := by
  have h : ∀ j : Fin 10, (Scalar.cmpi .ne (Scalar.extui (Scalar.cmpi .eq (BitVec.ofNat 32 j.val) 0#32) : BitVec 32) 0#32 = 1#1) ↔ j.val = 0 := by decide +kernel
  exact h (i 1)

theorem cond2_iff (i : grid1.Coords) : k1_cond2 i = 1#1 ↔ (i 1).val ≠ 0 := by
  have h : ∀ j : Fin 10, (Scalar.cmpi .ne (Scalar.extui (Scalar.cmpi .sgt (BitVec.ofNat 32 j.val) 0#32) : BitVec 32) 0#32 = 1#1) ↔ j.val ≠ 0 := by decide +kernel
  exact h (i 1)

theorem cond3_imp (i : grid1.Coords) (h3 : k1_cond3 i = 1#1) : (i 1).val = 9 := by
  have h : ∀ (k : Fin 2) (j : Fin 10), (Scalar.cmpi .ne (Scalar.extui (Scalar.andi (Scalar.cmpi .eq (BitVec.ofNat 32 k.val) 1#32) (Scalar.cmpi .eq (BitVec.ofNat 32 j.val) 9#32)) : BitVec 32) 0#32 = 1#1) → j.val = 9 := by decide +kernel
  exact h (i 0) (i 1) h3

theorem load_rows (c : Dev nD) (i : grid1.Coords) (M1 : Memref sig .tc .vmem S1x10208x192 .bf16) (f1 : Bf (F := F) c M1)
    (inb : ∀ a : Fin 3, k1_off1 i a + S1x1208x192.size a ≤ S1x10208x192.size a) :
    View.readAt (Elt F) M1.view (Rect.unit (s := S1x10208x192) (k1_off1 i) S1x1208x192.size inb).toLoadRect f1 = rowsOf (i 1) (M1.view.read (Elt F) f1) := by
  funext y
  refine congrArg (M1.view.read (Elt F) f1) (funext fun a => Fin.ext ?_)
  have e := k1_off1_eq i
  have hy : (y 0).val < 1 := (y 0).isLt
  match a with
  | 0 => have e' : k1_off1 i 0 = 0 := congrFun e 0; show k1_off1 i 0 + 1 * (y 0).val = 0; omega
  | 1 => have e' : k1_off1 i 1 = 1000 * (i 1).val := congrFun e 1; show k1_off1 i 1 + 1 * (y 1).val = 1000 * (i 1).val + (y 1).val; omega
  | 2 => have e' : k1_off1 i 2 = 0 := congrFun e 2; show k1_off1 i 2 + 1 * (y 2).val = (y 2).val; omega

theorem load_acc (c : Dev nD) (i : grid1.Coords) (M3 : Memref sig .tc .vmem S2x64x64 .f32) (f3 : Bf (F := F) c M3)
    (inb : ∀ a : Fin 3, k1_off3 i a + S1x64x64.size a ≤ S2x64x64.size a) :
    View.readAt (Elt F) M3.view (Rect.unit (s := S2x64x64) (k1_off3 i) S1x64x64.size inb).toLoadRect f3 = fun z : S1x64x64.Idx => M3.view.read (Elt F) f3 (ix3 (i 0) (z 1) (z 2)) := by
  funext y
  refine congrArg (M3.view.read (Elt F) f3) (funext fun a => Fin.ext ?_)
  have e := k1_off3_eq i
  have hy : (y 0).val < 1 := (y 0).isLt
  match a with
  | 0 => have e' : k1_off3 i 0 = (i 0).val := congrFun e 0; show k1_off3 i 0 + 1 * (y 0).val = (i 0).val; omega
  | 1 => have e' : k1_off3 i 1 = 0 := congrFun e 1; show k1_off3 i 1 + 1 * (y 1).val = (y 1).val; omega
  | 2 => have e' : k1_off3 i 2 = 0 := congrFun e 2; show k1_off3 i 2 + 1 * (y 2).val = (y 2).val; omega

/-- One store of a block of the accumulator, read. -/
theorem acc_read (c : Dev nD) (M3 : Memref sig .tc .vmem S2x64x64 .f32) (f3 : Bf (F := F) c M3) (o : Fin 3 → ℕ) (b : Fin 2)
    (ho : o = ![b.val, 0, 0]) (inb) (w : S1x64x64.Idx → Elt F .f32) (y : S2x64x64.Idx) :
    M3.view.read (Elt F) (M3.view.writes (Elt F) f3 [⟨Rect.unit o ![1, 64, 64] inb, w⟩]) y
      = if (y 0).val = b.val then w (ix3 0 (y 1) (y 2)) else M3.view.read (Elt F) f3 y := by
  subst ho
  by_cases h : (y 0).val = b.val
  · rw [if_pos h]
    refine View.read_writes_cons_hit_of_coords M3.view f3 _ _ _ _ y fun a => ?_
    match a with
    | 0 => show (y 0).val = b.val + 1 * 0; omega
    | 1 => show (y 1).val = 0 + 1 * (y 1).val; omega
    | 2 => show (y 2).val = 0 + 1 * (y 2).val; omega
  · rw [if_neg h]
    refine View.read_writes_cons_miss_of_axis M3.view f3 _ _ y 0 b.val 1 rfl rfl rfl (by omega)

theorem asmFirst_read (c : Dev nD) (i : grid1.Coords) (p1) (p2) (p3)
    (M0 : Memref sig .tc .vmem S1x1000x27 .f32) (h0 : M0.IsWhole) (M1 : Memref sig .tc .vmem S1x10208x192 .bf16) (h1 : M1.IsWhole)
    (M2 : Memref sig .tc .vmem S1x1000x1208 .bf16) (h2 : M2.IsWhole) (M3 : Memref sig .tc .vmem S2x64x64 .f32) (h3 : M3.IsWhole)
    (M4 : Memref sig .tc .vmem S1x1 .f32) (h4 : M4.IsWhole)
    (f0 : Bf (F := F) c M0) (f1 : Bf (F := F) c M1) (f2 : Bf (F := F) c M2) (f3 : Bf (F := F) c M3) (f4 : Bf (F := F) c M4) :
    M3.view.read (Elt F) (asmFirst c i p1 p2 p3 M0 h0 M1 h1 M2 h2 M3 h3 M4 h4 f0 f1 f2 f3 f4).1.1
      = asmStep (i 0) (i 1) (M0.view.read (Elt F) f0) (M1.view.read (Elt F) f1) (M2.view.read (Elt F) f2) (M3.view.read (Elt F) f3) := by
  funext y
  have hn := (cond1_iff i).1 p1
  have hr := load_rows c i M1 f1 (k1_off1_inb i)
  have h0 := View.readAt_full M0.view f0 (off := ![0, 0, 0]) inb_S1x1000x27_S1x1000x27_0_0_0
  have h2 := View.readAt_full M2.view f2 (off := ![0, 0, 0]) inb_S1x1000x1208_S1x1000x1208_0_0_0
  unfold asmStep
  rw [if_pos hn, ← hr, ← h0, ← h2]
  exact acc_read c M3 f3 (k1_off2 i) (i 0) (k1_off2_eq i) (k1_off2_inb i p1) _ y

theorem asmLater_read (c : Dev nD) (i : grid1.Coords) (p1) (p2) (p3)
    (M0 : Memref sig .tc .vmem S1x1000x27 .f32) (h0 : M0.IsWhole) (M1 : Memref sig .tc .vmem S1x10208x192 .bf16) (h1 : M1.IsWhole)
    (M2 : Memref sig .tc .vmem S1x1000x1208 .bf16) (h2 : M2.IsWhole) (M3 : Memref sig .tc .vmem S2x64x64 .f32) (h3 : M3.IsWhole)
    (M4 : Memref sig .tc .vmem S1x1 .f32) (h4 : M4.IsWhole)
    (f0 : Bf (F := F) c M0) (f1 : Bf (F := F) c M1) (f2 : Bf (F := F) c M2) (f3 : Bf (F := F) c M3) (f4 : Bf (F := F) c M4) :
    M3.view.read (Elt F) (asmLater c i p1 p2 p3 M0 h0 M1 h1 M2 h2 M3 h3 M4 h4 f0 f1 f2 f3 f4).1.1
      = asmStep (i 0) (i 1) (M0.view.read (Elt F) f0) (M1.view.read (Elt F) f1) (M2.view.read (Elt F) f2) (M3.view.read (Elt F) f3) := by
  funext y
  have hn := (cond2_iff i).1 p2
  have hr := load_rows c i M1 f1 (k1_off1_inb i)
  have h0 := View.readAt_full M0.view f0 (off := ![0, 0, 0]) inb_S1x1000x27_S1x1000x27_0_0_0
  have h2 := View.readAt_full M2.view f2 (off := ![0, 0, 0]) inb_S1x1000x1208_S1x1000x1208_0_0_0
  have ha := load_acc c i M3 f3 (k1_off3_inb i p2)
  unfold asmStep
  rw [if_neg hn, ← hr, ← h0, ← h2, ← ha]
  exact acc_read c M3 f3 (k1_off3 i) (i 0) (k1_off3_eq i) (k1_off3_inb i p2) _ y

theorem asmLast_read (c : Dev nD) (i : grid1.Coords) (p1) (p2) (p3)
    (M0 : Memref sig .tc .vmem S1x1000x27 .f32) (h0 : M0.IsWhole) (M1 : Memref sig .tc .vmem S1x10208x192 .bf16) (h1 : M1.IsWhole)
    (M2 : Memref sig .tc .vmem S1x1000x1208 .bf16) (h2 : M2.IsWhole) (M3 : Memref sig .tc .vmem S2x64x64 .f32) (h3 : M3.IsWhole)
    (M4 : Memref sig .tc .vmem S1x1 .f32) (h4 : M4.IsWhole)
    (f0 : Bf (F := F) c M0) (f1 : Bf (F := F) c M1) (f2 : Bf (F := F) c M2) (f3 : Bf (F := F) c M3) (f4 : Bf (F := F) c M4) :
    M3.view.read (Elt F) (asmLast c i p1 p2 p3 M0 h0 M1 h1 M2 h2 M3 h3 M4 h4 f0 f1 f2 f3 f4).1.1
      = asmStep (i 0) (i 1) (M0.view.read (Elt F) f0) (M1.view.read (Elt F) f1) (M2.view.read (Elt F) f2) (M3.view.read (Elt F) f3) := by
  funext y
  have hn := (cond2_iff i).1 p2
  have hr := load_rows c i M1 f1 (k1_off1_inb i)
  have h0 := View.readAt_full M0.view f0 (off := ![0, 0, 0]) inb_S1x1000x27_S1x1000x27_0_0_0
  have h2 := View.readAt_full M2.view f2 (off := ![0, 0, 0]) inb_S1x1000x1208_S1x1000x1208_0_0_0
  have ha := load_acc c i M3 f3 (k1_off3_inb i p2)
  unfold asmStep
  rw [if_neg hn, ← hr, ← h0, ← h2, ← ha]
  exact acc_read c M3 f3 (k1_off3 i) (i 0) (k1_off3_eq i) (k1_off3_inb i p2) _ y

/-- A block of the accumulator. -/
def block (X : S2x64x64.Idx → Elt F .f32) (b : Fin 2) : Vec F S1x64x64 .f32 := fun z => X (ix3 b (z 1) (z 2))

theorem load_block (c : Dev nD) (M3 : Memref sig .tc .vmem S2x64x64 .f32) (f3 : Bf (F := F) c M3) (b : Fin 2) (o : Fin 3 → ℕ) (ho : o = ![b.val, 0, 0])
    (inb : ∀ a : Fin 3, o a + S1x64x64.size a ≤ S2x64x64.size a) :
    View.readAt (Elt F) M3.view (Rect.unit (s := S2x64x64) o S1x64x64.size inb).toLoadRect f3 = block (M3.view.read (Elt F) f3) b := by
  subst ho
  funext y
  refine congrArg (M3.view.read (Elt F) f3) (funext fun a => Fin.ext ?_)
  have hy : (y 0).val < 1 := (y 0).isLt
  match a with
  | 0 => show b.val + 1 * (y 0).val = b.val; omega
  | 1 => show 0 + 1 * (y 1).val = (y 1).val; omega
  | 2 => show 0 + 1 * (y 2).val = (y 2).val; omega

theorem scalar_read (c : Dev nD) (M4 : Memref sig .tc .vmem S1x1 .f32) (f4 : Bf (F := F) c M4) (inb) (w : S1x1.Idx → Elt F .f32) :
    M4.view.read (Elt F) (M4.view.writes (Elt F) f4 [⟨Rect.unit ![0, 0] S1x1.size inb, w⟩]) = w := by
  funext y
  refine View.read_writes_cons_hit_of_coords M4.view f4 _ _ _ _ y fun a => ?_
  match a with
  | 0 => show (y 0).val = 0 + 1 * (y 0).val; omega
  | 1 => show (y 1).val = 0 + 1 * (y 1).val; omega

/-- The last point's scalar, of the accumulator that it leaves. -/
theorem asmLast_scalar (c : Dev nD) (i : grid1.Coords) (p1) (p2) (p3)
    (M0 : Memref sig .tc .vmem S1x1000x27 .f32) (h0 : M0.IsWhole) (M1 : Memref sig .tc .vmem S1x10208x192 .bf16) (h1 : M1.IsWhole)
    (M2 : Memref sig .tc .vmem S1x1000x1208 .bf16) (h2 : M2.IsWhole) (M3 : Memref sig .tc .vmem S2x64x64 .f32) (h3 : M3.IsWhole)
    (M4 : Memref sig .tc .vmem S1x1 .f32) (h4 : M4.IsWhole)
    (f0 : Bf (F := F) c M0) (f1 : Bf (F := F) c M1) (f2 : Bf (F := F) c M2) (f3 : Bf (F := F) c M3) (f4 : Bf (F := F) c M4) :
    M4.view.read (Elt F) (asmLast c i p1 p2 p3 M0 h0 M1 h1 M2 h2 M3 h3 M4 h4 f0 f1 f2 f3 f4).1.2
      = (fun X : S2x64x64.Idx → Elt F .f32 => stored (block X 0) (block X 1))
          (asmStep (i 0) (i 1) (M0.view.read (Elt F) f0) (M1.view.read (Elt F) f1) (M2.view.read (Elt F) f2) (M3.view.read (Elt F) f3)) := by
  rw [← asmLast_read c i p1 p2 p3 M0 h0 M1 h1 M2 h2 M3 h3 M4 h4 f0 f1 f2 f3 f4]
  show _ = stored (block _ 0) (block _ 1)
  rw [← load_block c M3 _ 0 ![0, 0, 0] rfl inb_S2x64x64_S1x64x64_0_0_0, ← load_block c M3 _ 1 ![1, 0, 0] rfl inb_S2x64x64_S1x64x64_1_0_0]
  exact scalar_read c M4 M4.view.junk inb_S1x1_S1x1_0_0 _

theorem coords1_1 : ∀ t : Fin cfg1.N, (grid1.coords t 1).val = t.val % 10 := by decide +kernel

theorem coords1_0 : ∀ t : Fin cfg1.N, (grid1.coords t 0).val = t.val / 10 := by decide +kernel

theorem clip1_0 : ∀ t : Fin cfg1.N, ∀ a, (cfg1.win 0).clip (cfg1.grid.coords t) a = none := by decide +kernel

theorem idx1_0 : ∀ t : Fin cfg1.N, cc1_transform_0 (grid1.coords t) = ![t.val / 10, t.val % 10, 0] := by decide +kernel

theorem idx1_1 : ∀ t : Fin cfg1.N, cc1_transform_1 (grid1.coords t) = ![t.val / 10, 0, 0] := by decide +kernel

/-- The variant of the banded constant that a point takes: the first block, an interior one, the last. -/
def variant (n : ℕ) : Fin 3 := if n % 10 = 0 then 0 else if n % 10 = 9 then 2 else 1

theorem idx1_2 : ∀ t : Fin cfg1.N, cc1_transform_2 (grid1.coords t) = ![(variant t.val).val, 0, 0] := by decide +kernel

/-- One point's body, from its five staging buffers. -/
theorem asm_body (c : Dev nD) (i : grid1.Coords)
    (M0 : Memref sig .tc .vmem S1x1000x27 .f32) (h0 : M0.IsWhole) (M1 : Memref sig .tc .vmem S1x10208x192 .bf16) (h1 : M1.IsWhole)
    (M2 : Memref sig .tc .vmem S1x1000x1208 .bf16) (h2 : M2.IsWhole) (M3 : Memref sig .tc .vmem S2x64x64 .f32) (h3 : M3.IsWhole)
    (M4 : Memref sig .tc .vmem S1x1 .f32) (h4 : M4.IsWhole)
    (X0 : S1x1000x27.Idx → Elt F .f32) (X1 : S1x10208x192.Idx → Elt F .bf16) (X2 : S1x1000x1208.Idx → Elt F .bf16)
    (X3 : S2x64x64.Idx → Elt F .f32) (X4 : S1x1.Idx → Elt F .f32) (E : Set ℕ) (Q : PUnit → sProp 𝕄) :
    iprop(owns (c : Thread nD τ) M0 fullShare X0 ∗ owns (c : Thread nD τ) M1 fullShare X1 ∗ owns (c : Thread nD τ) M2 fullShare X2
        ∗ owns (c : Thread nD τ) M3 fullShare X3 ∗ owns (c : Thread nD τ) M4 fullShare X4
        ∗ (iprop(owns (c : Thread nD τ) M0 fullShare X0 ∗ owns (c : Thread nD τ) M1 fullShare X1 ∗ owns (c : Thread nD τ) M2 fullShare X2
            ∗ owns (c : Thread nD τ) M3 fullShare (asmStep (i 0) (i 1) X0 X1 X2 X3) ∗ (∃ Z, ⌜k1_cond3 i = 1#1 → Z = stored (block (asmStep (i 0) (i 1) X0 X1 X2 X3) 0) (block (asmStep (i 0) (i 1) X0 X1 X2 X3) 1)⌝ ∗ owns (c : Thread nD τ) M4 fullShare Z)) -∗ Q ⟨⟩))
      ⊢ wp frame (wpE (defs₀ (F := F)) Variants.none c none) E (cc1__assembly_body i M0 h0 M1 h1 M2 h2 M3 h3 M4 h4) Q := by
  simp only [owns_pt c M0 h0, owns_pt c M1 h1, owns_pt c M2 h2, owns_pt c M3 h3, owns_pt c M4 h4]
  iintro ⟨⟨%f0, %e0, H0⟩, ⟨%f1, %e1, H1⟩, ⟨%f2, %e2, H2⟩, ⟨%f3, %e3, H3⟩, ⟨%f4, %e4, H4⟩, Hk⟩
  subst e0 e1 e2 e3 e4
  by_cases p1 : k1_cond1 i = 1#1
  · have p2 : ¬ k1_cond2 i = 1#1 := fun h => (cond2_iff i).1 h ((cond1_iff i).1 p1)
    have p3 : ¬ k1_cond3 i = 1#1 := fun h => by have := cond3_imp i h; have := (cond1_iff i).1 p1; omega
    iapply ((asmFirst c i p1 p2 p3 M0 h0 M1 h1 M2 h2 M3 h3 M4 h4 f0 f1 f2 f3 f4).2 E Q)
    isplitl [H0]; · iexact H0
    isplitl [H1]; · iexact H1
    isplitl [H2]; · iexact H2
    isplitl [H3]; · iexact H3
    isplitl [H4]; · iexact H4
    iintro ⟨H0, H1, H2, H3, H4⟩
    iapply Hk
    isplitl [H0]; · iexists f0; isplitr; · ipureintro; rfl
                    iexact H0
    isplitl [H1]; · iexists f1; isplitr; · ipureintro; rfl
                    iexact H1
    isplitl [H2]; · iexists f2; isplitr; · ipureintro; rfl
                    iexact H2
    isplitl [H3]
    · iexists _; isplitr; swap; · iexact H3
      ipureintro; exact asmFirst_read c i p1 p2 p3 M0 h0 M1 h1 M2 h2 M3 h3 M4 h4 f0 f1 f2 f3 f4
    iexists (M4.view.read (Elt F) f4)
    isplitr; · ipureintro; exact fun h => absurd h p3
    iexists _; isplitr; swap; · iexact H4
    ipureintro; rfl
  · have p2 : k1_cond2 i = 1#1 := (cond2_iff i).2 fun h => p1 ((cond1_iff i).2 h)
    by_cases p3 : k1_cond3 i = 1#1
    · iapply ((asmLast c i p1 p2 p3 M0 h0 M1 h1 M2 h2 M3 h3 M4 h4 f0 f1 f2 f3 f4).2 E Q)
      isplitl [H0]; · iexact H0
      isplitl [H1]; · iexact H1
      isplitl [H2]; · iexact H2
      isplitl [H3]; · iexact H3
      isplitl [H4]; · iexact H4
      iintro ⟨H0, H1, H2, H3, H4⟩
      iapply Hk
      isplitl [H0]; · iexists f0; isplitr; · ipureintro; rfl
                      iexact H0
      isplitl [H1]; · iexists f1; isplitr; · ipureintro; rfl
                      iexact H1
      isplitl [H2]; · iexists f2; isplitr; · ipureintro; rfl
                      iexact H2
      isplitl [H3]
      · iexists _; isplitr; swap; · iexact H3
        ipureintro; exact asmLast_read c i p1 p2 p3 M0 h0 M1 h1 M2 h2 M3 h3 M4 h4 f0 f1 f2 f3 f4
      iexists _
      isplitr; · ipureintro; exact fun _ => asmLast_scalar c i p1 p2 p3 M0 h0 M1 h1 M2 h2 M3 h3 M4 h4 f0 f1 f2 f3 f4
      iexists _; isplitr; swap; · iexact H4
      ipureintro; rfl
    · iapply ((asmLater c i p1 p2 p3 M0 h0 M1 h1 M2 h2 M3 h3 M4 h4 f0 f1 f2 f3 f4).2 E Q)
      isplitl [H0]; · iexact H0
      isplitl [H1]; · iexact H1
      isplitl [H2]; · iexact H2
      isplitl [H3]; · iexact H3
      isplitl [H4]; · iexact H4
      iintro ⟨H0, H1, H2, H3, H4⟩
      iapply Hk
      isplitl [H0]; · iexists f0; isplitr; · ipureintro; rfl
                      iexact H0
      isplitl [H1]; · iexists f1; isplitr; · ipureintro; rfl
                      iexact H1
      isplitl [H2]; · iexists f2; isplitr; · ipureintro; rfl
                      iexact H2
      isplitl [H3]
      · iexists _; isplitr; swap; · iexact H3
        ipureintro; exact asmLater_read c i p1 p2 p3 M0 h0 M1 h1 M2 h2 M3 h3 M4 h4 f0 f1 f2 f3 f4
      iexists (M4.view.read (Elt F) f4)
      isplitr; · ipureintro; exact fun h => absurd h p3
      iexists _; isplitr; swap; · iexact H4
      ipureintro; rfl

/-! ## The region's data, entered from any contents -/

variable (V : (c : Dev nD) → (b : Ref sig .tc) → Buf (Elt F) ((c : Thread nD τ).loc b))

/-- What the three input windows hold at point `t`. -/
def stgE (c : Dev nD) (t : ℕ) : S1x1000x27.Idx → Elt F .f32 := fun y =>
  (V c main_arg0 : S2x10240x27.Idx → Elt F .f32) (ix3 ⟨t / 10 % 2, Nat.mod_lt _ (by decide)⟩
    ⟨1000 * (t % 10) + (y 1).val, by have : (y 1).val < 1000 := (y 1).isLt; omega⟩ (y 2))

def stgJ (c : Dev nD) (t : ℕ) : S1x10208x192.Idx → Elt F .bf16 := fun y =>
  (V c main_v1 : S2x10208x192.Idx → Elt F .bf16) (ix3 ⟨t / 10 % 2, Nat.mod_lt _ (by decide)⟩ (y 1) (y 2))

def stgL (c : Dev nD) (t : ℕ) : S1x1000x1208.Idx → Elt F .bf16 := fun y =>
  (V c main_v108 : S3x1000x1208.Idx → Elt F .bf16) (ix3 (variant t) (y 1) (y 2))

/-! ## The accumulated blocks -/

def conAt (c : Dev nD) (t : ℕ) : S64x64.Idx → Elt F .f32 :=
  con (rowsOf ⟨t % 10, Nat.mod_lt _ (by decide)⟩ (stgJ V c t)) (stgE V c t) (stgL V c t)

/-- Block `b` after its points `0 … n`. -/
def accB (c : Dev nD) (b : ℕ) : ℕ → S1x64x64.Idx → Elt F .f32
  | 0 => shapeCast S1x64x64 (conAt V c (10 * b)) shapeCasts_S64x64_S1x64x64
  | n + 1 => addf (shapeCast S1x64x64 (accB c b n) shapeCasts_S1x64x64_S1x64x64) (shapeCast S1x64x64 (conAt V c (10 * b + (n + 1))) shapeCasts_S64x64_S1x64x64)

def mVal (c : Dev nD) : S2x64x64.Idx → Elt F .f32 := fun y => accB V c (y 0).val 9 (ix3 0 (y 1) (y 2))

/-- The scalar. -/
def trVal (c : Dev nD) : S1x1.Idx → Elt F .f32 := stored (block (mVal V c) 0) (block (mVal V c) 1)

def rdat1 (c : Dev nD) : Pipeline.RDat τ (Elt F) Unit ℕ UU ℕ cfg1 c where
  A w := V c (Pipeline.arrRef spec1 w)
  after w t Y X := match w, Y, X with
    | ⟨0, _⟩, Y, X => X = Y
    | ⟨1, _⟩, Y, X => X = Y
    | ⟨2, _⟩, Y, X => X = Y
    | ⟨3, _⟩, Y, X => X = asmStep (grid1.coords t 0) (grid1.coords t 1) (stgE V c t.val) (stgJ V c t.val) (stgL V c t.val) Y
    | ⟨4, _⟩, _, X => k1_cond3 (grid1.coords t) = 1#1 → X = trVal V c
  Φ _ := Pipeline.scopedRest (Ix := Unit) (Name := ℕ) (U := UU) (Lvl := ℕ) (Val := Elt F) spec1 c
  q _ := fullShare
  owed _ := 0

theorem row1 (t : Fin cfg1.N) : defs₀ (F := F) .tc cfg1.body (cfg1.bodyArgs t (cfg1.slots t)) = bodyAt1 t := by
  unfold defs₀; rw [Defs.onTc_tc]

theorem found1_0 (c : Dev nD) (t : Fin cfg1.N) (Y) (h : (rdat1 V c).Finds 0 t Y) : Y = stgE V c t.val := by
  obtain ⟨d, rfl⟩ := ((rdat1 V c).finds_of_fetch (fetch1_0 t) Y).1 h
  funext y
  have hm : (cfg1.win 0).moved (cfg1.grid.coords t) y = true :=
    ((cfg1.win 0).moved_iff _ y).mpr fun a => by have := (y a).isLt; unfold Pipeline.Window.xsize; rw [clip1_0 t a]; exact this
  unfold Pipeline.RDat.fetched Pipeline.Window.fill
  rw [dif_pos hm]
  have hi := idx1_0 t
  have hlt : t.val < 20 := t.isLt
  have hy0 : (y 0).val < 1 := (y 0).isLt
  refine congrArg (V c main_arg0 : S2x10240x27.Idx → Elt F .f32) (funext fun a => Fin.ext ?_)
  match a with
  | 0 => have e : cc1_transform_0 (grid1.coords t) 0 = t.val / 10 := congrFun hi 0
         show cc1_transform_0 (grid1.coords t) 0 * 1 + 1 * (y 0).val = t.val / 10 % 2; omega
  | 1 => have e : cc1_transform_0 (grid1.coords t) 1 = t.val % 10 := congrFun hi 1
         show cc1_transform_0 (grid1.coords t) 1 * 1000 + 1 * (y 1).val = 1000 * (t.val % 10) + (y 1).val; omega
  | 2 => have e : cc1_transform_0 (grid1.coords t) 2 = 0 := congrFun hi 2
         show cc1_transform_0 (grid1.coords t) 2 * 27 + 1 * (y 2).val = (y 2).val; omega

theorem found1_1 (c : Dev nD) (t : Fin cfg1.N) (Y) (h : (rdat1 V c).Finds 1 t Y) : Y = stgJ V c t.val := by
  obtain ⟨d, rfl⟩ := (rdat1 V c).finds_in_eq_fetched 1 rfl (fun _ _ _ => rfl) (fun _ _ _ h => h) t Y h
  funext y
  have hi := idx1_1 t
  have hlt : t.val < 20 := t.isLt
  have hy0 : (y 0).val < 1 := (y 0).isLt
  refine congrArg (V c main_v1 : S2x10208x192.Idx → Elt F .bf16) (funext fun a => Fin.ext ?_)
  match a with
  | 0 => have e : cc1_transform_1 (grid1.coords t) 0 = t.val / 10 := congrFun hi 0
         show cc1_transform_1 (grid1.coords t) 0 * 1 + 1 * (y 0).val = t.val / 10 % 2; omega
  | 1 => have e : cc1_transform_1 (grid1.coords t) 1 = 0 := congrFun hi 1
         show cc1_transform_1 (grid1.coords t) 1 * 10208 + 1 * (y 1).val = (y 1).val; omega
  | 2 => have e : cc1_transform_1 (grid1.coords t) 2 = 0 := congrFun hi 2
         show cc1_transform_1 (grid1.coords t) 2 * 192 + 1 * (y 2).val = (y 2).val; omega

theorem found1_2 (c : Dev nD) (t : Fin cfg1.N) (Y) (h : (rdat1 V c).Finds 2 t Y) : Y = stgL V c t.val := by
  obtain ⟨d, rfl⟩ := (rdat1 V c).finds_in_eq_fetched 2 rfl (fun _ _ _ => rfl) (fun _ _ _ h => h) t Y h
  funext y
  have hi := idx1_2 t
  have hlt : t.val < 20 := t.isLt
  have hy0 : (y 0).val < 1 := (y 0).isLt
  refine congrArg (V c main_v108 : S3x1000x1208.Idx → Elt F .bf16) (funext fun a => Fin.ext ?_)
  match a with
  | 0 => have e : cc1_transform_2 (grid1.coords t) 0 = (variant t.val).val := congrFun hi 0
         show cc1_transform_2 (grid1.coords t) 0 * 1 + 1 * (y 0).val = (variant t.val).val; omega
  | 1 => have e : cc1_transform_2 (grid1.coords t) 1 = 0 := congrFun hi 1
         show cc1_transform_2 (grid1.coords t) 1 * 1000 + 1 * (y 1).val = (y 1).val; omega
  | 2 => have e : cc1_transform_2 (grid1.coords t) 2 = 0 := congrFun hi 2
         show cc1_transform_2 (grid1.coords t) 2 * 1208 + 1 * (y 2).val = (y 2).val; omega

/-! ## What the windows leave -/

theorem con_at (c : Dev nD) (t : Fin cfg1.N) (s : ℕ) (hs : t.val = s) :
    con (rowsOf (grid1.coords t 1) (stgJ V c t.val)) (stgE V c t.val) (stgL V c t.val) = conAt V c s := by
  subst hs
  unfold conAt
  exact congrArg (fun i : Fin 10 => con (rowsOf i (stgJ V c t.val)) (stgE V c t.val) (stgL V c t.val)) (Fin.ext (coords1_1 t))

theorem leaves1_3 (c : Dev nD) : ∀ (n : ℕ) (t : Fin cfg1.N), t.val = n → ∀ X : S2x64x64.Idx → Elt F .f32, (rdat1 V c).Leaves 3 t X →
    ∀ y : S2x64x64.Idx, (y 0).val ≤ t.val / 10 →
      X y = accB V c (y 0).val (if (y 0).val = t.val / 10 then t.val % 10 else 9) (ix3 0 (y 1) (y 2)) := by
  intro n
  induction n using Nat.strong_induction_on with
  | _ n ih =>
  rintro t ht X ⟨Y, hY, hX⟩ y hy
  have hX : X = asmStep (grid1.coords t 0) (grid1.coords t 1) (stgE V c t.val) (stgJ V c t.val) (stgL V c t.val) Y := hX
  have hlt : t.val < 20 := t.isLt
  have c0 := coords1_0 t
  have c1 := coords1_1 t
  have prev : t.val ≠ 0 → ∀ z : S2x64x64.Idx, (z 0).val ≤ (t.val - 1) / 10 →
      Y z = accB V c (z 0).val (if (z 0).val = (t.val - 1) / 10 then (t.val - 1) % 10 else 9) (ix3 0 (z 1) (z 2)) := by
    intro h0 z hz
    have hf : (cfg1.win 3).fetch t = false := rfl
    rcases ((rdat1 V c).finds_of_pos hf h0 Y).1 hY with h | h
    · have := (flush1_3 _).1 h
      have : (t.val - 1) % 20 = 19 := this
      omega
    · exact ih (t.val - 1) (by omega) ⟨t.val - 1, by omega⟩ rfl Y h z hz
  rw [hX]
  unfold asmStep
  by_cases hb : (y 0).val = t.val / 10
  · rw [if_pos (hb.trans c0.symm), if_pos hb]
    by_cases hz : t.val % 10 = 0
    · rw [if_pos (c1.trans hz), hz, con_at V c t (10 * (y 0).val) (by omega)]
      rfl
    · rw [if_neg (fun h => hz (c1.symm.trans h)), con_at V c t (10 * (y 0).val + (t.val % 10 - 1 + 1)) (by omega)]
      have hp : (fun z : S1x64x64.Idx => Y (ix3 (grid1.coords t 0) (z 1) (z 2))) = accB V c (y 0).val (t.val % 10 - 1) := by
        funext z
        rw [prev (by omega) (ix3 (grid1.coords t 0) (z 1) (z 2)) (by show (grid1.coords t 0).val ≤ _; omega)]
        have e0 : (grid1.coords t 0).val = (y 0).val := c0.trans hb.symm
        show accB V c (grid1.coords t 0).val (if (grid1.coords t 0).val = (t.val - 1) / 10 then (t.val - 1) % 10 else 9) (ix3 0 (z 1) (z 2)) = _
        rw [e0, if_pos (by omega), show (t.val - 1) % 10 = t.val % 10 - 1 by omega]
        refine congrArg _ (funext fun a => ?_)
        match a with
        | 0 => exact Fin.ext (by show 0 = (z 0).val; have : (z 0).val < 1 := (z 0).isLt; omega)
        | 1 => rfl
        | 2 => rfl
      rw [hp]
      obtain ⟨k, hk⟩ : ∃ k, t.val % 10 = k + 1 := ⟨t.val % 10 - 1, by omega⟩
      rw [hk]
      rfl
  · rw [if_neg (fun h => hb (h.trans c0)), if_neg hb, prev (by omega) y (by omega)]
    by_cases h : (y 0).val = (t.val - 1) / 10
    · rw [if_pos h, show (t.val - 1) % 10 = 9 by omega]
    · rw [if_neg h]

theorem cond3_at : ∀ t : Fin cfg1.N, k1_cond3 (grid1.coords t) = 1#1 → t.val = 19 := by decide +kernel

theorem final1_3 (c : Dev nD) (t : Fin cfg1.N) (ht : t.val = 19) (X : S2x64x64.Idx → Elt F .f32) (hX : (rdat1 V c).Leaves 3 t X) : X = mVal V c := by
  funext y
  have hy : (y 0).val < 2 := (y 0).isLt
  refine (leaves1_3 V c 19 t ht X hX y (by omega)).trans ?_
  unfold mVal
  rw [ht, show (19 % 10 : ℕ) = 9 from rfl, ite_self]

theorem obligation1 (c : Dev nD) : (rdat1 V c).BodyObligation (defs₀ (F := F)) Variants.none () Set.univ := fun t Y hY => by
  have h0 := found1_0 V c t (Y 0) (hY 0)
  have h1 := found1_1 V c t (Y 1) (hY 1)
  have h2 := found1_2 V c t (Y 2) (hY 2)
  rw [bigSep_W1, bigSep_W1, row1,
    show (rdat1 V c).Φ t.succ = (rdat1 V c).Φ t.castSucc from rfl,
    show (rdat1 V c).owesAt () t.succ = (rdat1 V c).owesAt () t.castSucc from rfl]
  iintro ⟨HΦ, Ho, H0, H1, H2, H3, H4⟩
  iapply (asm_body c (grid1.coords t) _ _ _ _ _ _ _ _ _ _ (Y 0) (Y 1) (Y 2) (Y 3) (Y 4) Set.univ _)
  isplitl [H0]; · iexact H0
  isplitl [H1]; · iexact H1
  isplitl [H2]; · iexact H2
  isplitl [H3]; · iexact H3
  isplitl [H4]; · iexact H4
  iintro ⟨H0, H1, H2, H3, ⟨%Z, %hZ, H4⟩⟩
  isplitl [HΦ]; · iexact HΦ
  isplitl [Ho]; · iexact Ho
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro
    show asmStep _ _ _ _ _ _ = asmStep _ _ _ _ _ _
    rw [h0, h1, h2]
  iexists Z; isplitr; swap; · iexact H4
  ipureintro
  intro h3
  refine (hZ h3).trans ?_
  rw [show asmStep (grid1.coords t 0) (grid1.coords t 1) (Y 0) (Y 1) (Y 2) (Y 3) = mVal V c from
    final1_3 V c t (cond3_at t h3) _ ⟨Y 3, hY 3, by rw [h0, h1, h2]; rfl⟩]
  rfl

theorem whole1_3 : (cfg1.win 3).WholeAt ⟨19, by decide⟩ := by decide +kernel

theorem whole1_4 : (cfg1.win 4).WholeAt ⟨19, by decide⟩ := by decide +kernel

theorem arr1 (c : Dev nD) (G : Buf (Elt F) ((cfg1.win 3).arr.view.loc (c.tc : Thread nD τ))) (hG : (rdat1 V c).ArrAt 3 cfg1.N G) :
    G = mVal V c := by
  obtain ⟨X, hX, hA⟩ := hG.emb_eq_of_wholeAt whole1_3
  funext y
  exact (hA y).trans (congrFun (final1_3 V c ⟨19, by decide⟩ rfl X hX) y)

theorem cond3_last : k1_cond3 (grid1.coords ⟨19, by decide⟩) = 1#1 := by decide +kernel

theorem arr1_scalar (c : Dev nD) (G : Buf (Elt F) ((cfg1.win 4).arr.view.loc (c.tc : Thread nD τ))) (hG : (rdat1 V c).ArrAt 4 cfg1.N G) :
    G = trVal V c := by
  obtain ⟨X, ⟨Y, _, hX⟩, hA⟩ := hG.emb_eq_of_wholeAt whole1_4
  have hX : k1_cond3 (grid1.coords ⟨19, by decide⟩) = 1#1 → X = trVal V c := hX
  funext y
  exact (hA y).trans (congrFun (hX cond3_last) y)

end Cert.Asm

end
-- ==== Proof.AsmRun.lean ====
module

public import proofs.«01_k».proof.Proof.AsmRegion
public import proofs.«01_k».proof.Proof.Gen.AssemblyIdeal.Regions

@[expose] public section

set_option maxRecDepth 2240

noncomputable section

namespace Cert.Asm

open Cert.AssemblyIdeal Cert.AssemblyIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (HostSeg)

variable {F : FTy → Type} [FloatOps F]

local notation "𝕄" => MT nD τ sig Unit (Elt F) ℕ UU ℕ

/-- A core's contents, read at a reference. -/
abbrev at_ (W : Dev nD → Valuation τ sig (Elt F)) (c : Dev nD) (b : Ref sig .tc) : Buf (Elt F) ((c : Thread nD τ).loc b) := W c b

variable (W0 W1 W2 : Dev nD → Valuation τ sig (Elt F))

/-- The final contents. -/
def last (c : Dev nD) : Valuation τ sig (Elt F) :=
  Function.update (Function.update (W2 c) main_v109_0 (mVal (at_ W2) c)) main_v109_1 (trVal (at_ W2) c)

/-- The regions' data: the first entered at `W0`, the second at `W2`. -/
def rds : (p : Fin 2) → (c : Dev nD) → Pipeline.RDat τ (Elt F) Unit ℕ UU ℕ (Pipeline.pin (pcfgs (F := F)) adm p) c
  | ⟨0, _⟩ => fun c => rdat0 (at_ W0) c
  | ⟨1, _⟩ => fun c => rdat1 (at_ W2) c

abbrev Lv : GSem nD τ sig → Finset Unit := fun _ => ∅
abbrev lv0 : GSem nD τ sig → Unit → ℕ := fun _ _ => 0

abbrev idleOwes (c : Dev nD) : sProp 𝕄 := iprop(∃ W, owes (c : Thread nD τ) (0 : CellTallies nD τ sig Unit) W)

set_option backward.isDefEq.respectTransparency.types false in
theorem exit0 (hv : ∀ c, W1 c main_v1 = padded (at_ W0) c) (hn : ∀ c (b : Ref sig .tc), b ≠ main_v1 → W1 c b = W0 c b) (c : Dev nD) :
    iprop((rds W0 W2 0 c).arraysAt cfg0.N ∗ Pipeline.unscopedRest (Ix := Unit) (Name := ℕ) (U := UU) (Lvl := ℕ) spec0 c (at_ W0 c))
      ⊢ (StableHlo.held (c : Thread nD τ) (Pipeline.ucRefs τ sig) (W1 c) : sProp 𝕄) := by
  rw [← Pipeline.unscopedBufs_held (Ix := Unit) (Name := ℕ) (U := UU) (Lvl := ℕ) c (W1 c),
    Pipeline.unscopedBufs_split (Pipeline.pin (pcfgs (F := F)) adm) 0 launch0.win.arr_unscoped launch0.win.arr_inj c,
    Pipeline.RDat.arraysAt_eq (pcfgs (F := F)) adm (rds W0 W2) 0 c launch0.arr_whole ((rds W0 W2 0 c).share_full fun _ => rfl)]
  refine sep_mono ?_ (Entails.of_eq ?_)
  · rw [bigSep_W0, bigSep_W0]
    iintro ⟨⟨%F0, %h0, H0⟩, ⟨%F1, %h1, H1⟩⟩
    have e0 : F0 = W1 c main_v0 := by
      rw [(rds W0 W2 0 c).ArrAt_in 0 rfl] at h0
      exact h0.trans (hn c main_v0 (by decide)).symm
    have e1 : F1 = W1 c main_v1 := by
      exact (arr0 (at_ W0) c F1 h1).trans (hv c).symm
    rw [e0, e1]
    isplitl [H0]; · iexact H0
    iexact H1
  · unfold Pipeline.unscopedRest
    refine bigSep_congr fun b hb => ?_
    have hne : b ≠ main_v1 := fun h => (Finset.mem_sdiff.mp hb).2 (Finset.mem_image.mpr ⟨1, Finset.mem_univ _, h.symm⟩)
    exact congrArg (fun f => ((c : Thread nD τ).loc b ↦{fullShare} f : sProp 𝕄)) (hn c b hne).symm

set_option backward.isDefEq.respectTransparency.types false in
theorem exit1 (c : Dev nD) :
    iprop((rds W0 W2 1 c).arraysAt cfg1.N ∗ Pipeline.unscopedRest (Ix := Unit) (Name := ℕ) (U := UU) (Lvl := ℕ) spec1 c (at_ W2 c))
      ⊢ (StableHlo.held (c : Thread nD τ) (Pipeline.ucRefs τ sig) (last W2 c) : sProp 𝕄) := by
  rw [Pipeline.RDat.arraysAt_eq (pcfgs (F := F)) adm (rds W0 W2) 1 c launch1.arr_whole ((rds W0 W2 1 c).share_full fun _ => rfl), bigSep_W1]
  iintro ⟨⟨⟨%F0, %h0, H0⟩, ⟨%F1, %h1, H1⟩, ⟨%F2, %h2, H2⟩, ⟨%F3, %h3, H3⟩, ⟨%F4, %h4, H4⟩⟩, Hr⟩
  have hoff : ∀ b : Ref sig .tc, b ≠ main_v109_0 → b ≠ main_v109_1 → last W2 c b = at_ W2 c b := fun b n0 n1 => by
    unfold last
    rw [Function.update_of_ne (StableHlo.devRef_ne_of_ne n1), Function.update_of_ne (StableHlo.devRef_ne_of_ne n0)]
  have e0 : F0 = last W2 c main_arg0 := by
    rw [(rds W0 W2 1 c).ArrAt_in 0 rfl] at h0; exact h0.trans (hoff main_arg0 (by decide) (by decide)).symm
  have e1 : F1 = last W2 c main_v1 := by
    rw [(rds W0 W2 1 c).ArrAt_in 1 rfl] at h1; exact h1.trans (hoff main_v1 (by decide) (by decide)).symm
  have e2 : F2 = last W2 c main_v108 := by
    rw [(rds W0 W2 1 c).ArrAt_in 2 rfl] at h2; exact h2.trans (hoff main_v108 (by decide) (by decide)).symm
  have e3 : F3 = last W2 c main_v109_0 := by
    refine (arr1 (at_ W2) c F3 h3).trans ?_
    unfold last
    rw [Function.update_of_ne (StableHlo.devRef_ne_of_ne (by decide)), Function.update_self]
  have e4 : F4 = last W2 c main_v109_1 := by
    refine (arr1_scalar (at_ W2) c F4 h4).trans ?_
    unfold last; rw [Function.update_self]
  rw [← Pipeline.unscopedBufs_held (Ix := Unit) (Name := ℕ) (U := UU) (Lvl := ℕ) c (last W2 c),
    Pipeline.unscopedBufs_split (Pipeline.pin (pcfgs (F := F)) adm) 1 launch1.win.arr_unscoped launch1.win.arr_inj c, bigSep_W1]
  isplitl [H0 H1 H2 H3 H4]
  · isplitl [H0]; · rw [e0]; iexact H0
    isplitl [H1]; · rw [e1]; iexact H1
    isplitl [H2]; · rw [e2]; iexact H2
    isplitl [H3]; · rw [e3]; iexact H3
    iapply (Entails.of_eq (congrArg (fun f => ((c : Thread nD τ).loc main_v109_1 ↦{fullShare} f : sProp 𝕄)) e4)); iexact H4
  · iapply (Entails.of_eq (show (Pipeline.unscopedRest (Ix := Unit) (Name := ℕ) (U := UU) (Lvl := ℕ) spec1 c (at_ W2 c) : sProp 𝕄) = Pipeline.unscopedRest spec1 c (fun b => last W2 c b) from by
      unfold Pipeline.unscopedRest
      refine bigSep_congr fun b hb => ?_
      have hn := (Finset.mem_sdiff.mp hb).2
      exact congrArg (fun f => ((c : Thread nD τ).loc b ↦{fullShare} f : sProp 𝕄)) (hoff b (fun h => hn (h ▸ Finset.mem_image.mpr ⟨3, Finset.mem_univ _, rfl⟩)) (fun h => hn (h ▸ Finset.mem_image.mpr ⟨4, Finset.mem_univ _, rfl⟩))).symm))
    iexact Hr

set_option backward.isDefEq.respectTransparency.types false in
def reg0 (hv : ∀ c, W1 c main_v1 = padded (at_ W0) c) (hn : ∀ c (b : Ref sig .tc), b ≠ main_v1 → W1 c b = W0 c b) : Pipeline.RDat.RegionSeg (pcfgs (F := F)) adm (rds W0 W2) () defs₀ Variants.none Lv lv0 0 where
  win := launch0.win.to₀
  block_pos := launch0.block_pos
  stage_whole := launch0.stage_whole
  K := PEmpty
  osem k := k.elim
  ho := Pipeline.OwnSemFacts.none _
  hbody c := obligation0 (at_ W0) c
  hwaits := Pipeline.RDat.hwaits_of_owed_zero _ _ _ _ Lv lv0 0 fun _ _ => rfl
  pre c := iprop(StableHlo.held (c : Thread nD τ) (Pipeline.ucRefs τ sig) (W0 c) ∗ idleOwes c)
  post c := iprop(StableHlo.held (c : Thread nD τ) (Pipeline.ucRefs τ sig) (W1 c) ∗ idleOwes c)
  X _ := BI.emp
  Y _ := BI.emp
  Z c := Pipeline.unscopedRest (Ix := Unit) (Name := ℕ) (U := UU) (Lvl := ℕ) spec0 c (at_ W0 c)
  hentry c := by
    rw [Pipeline.ownSems0_none, ← Pipeline.unscopedBufs_held (Ix := Unit) (Name := ℕ) (U := UU) (Lvl := ℕ) c (W0 c)]
    have hsplit := Pipeline.RDat.arrays_of_unscopedBufs (p := 0) (pcfgs (F := F)) adm (rds W0 W2) launch0.win launch0.arr_whole c
      ((rds W0 W2 0 c).share_full fun _ => rfl) (at_ W0 c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    iexact Hrest
  hin c := by
    rw [show (rds W0 W2 0 c).Φ 0 = Pipeline.scopedRest spec0 c from rfl]
    iintro ⟨-, -, Hr⟩; iexact Hr
  hout c := by
    rw [Pipeline.ownSems0_none, show (rds W0 W2 0 c).Φ (Fin.last _) = Pipeline.scopedRest spec0 c from rfl]
    iintro Hr
    isplitr; · iempintro
    isplitr; · iempintro
    iexact Hr
  hexit c := by
    have hjoin := exit0 W0 W1 W2 hv hn c
    iintro ⟨Ha, HO, -, Hrest⟩
    imodintro
    isplitl [Ha Hrest]
    · iapply hjoin; isplitl [Ha] <;> iassumption
    unfold Pipeline.RDat.owesAt Pipeline.owesWithin
    icases HO with ⟨%W, -, HO⟩; iexists W; iexact HO

set_option backward.isDefEq.respectTransparency.types false in
def reg1 : Pipeline.RDat.RegionSeg (pcfgs (F := F)) adm (rds W0 W2) () defs₀ Variants.none Lv lv0 1 where
  win := launch1.win.to₀
  block_pos := launch1.block_pos
  stage_whole := launch1.stage_whole
  K := PEmpty
  osem k := k.elim
  ho := Pipeline.OwnSemFacts.none _
  hbody c := obligation1 (at_ W2) c
  hwaits := Pipeline.RDat.hwaits_of_owed_zero _ _ _ _ Lv lv0 1 fun _ _ => rfl
  pre c := iprop(StableHlo.held (c : Thread nD τ) (Pipeline.ucRefs τ sig) (W2 c) ∗ idleOwes c)
  post c := iprop(StableHlo.held (c : Thread nD τ) (Pipeline.ucRefs τ sig) (last W2 c) ∗ idleOwes c)
  X _ := BI.emp
  Y _ := BI.emp
  Z c := Pipeline.unscopedRest (Ix := Unit) (Name := ℕ) (U := UU) (Lvl := ℕ) spec1 c (at_ W2 c)
  hentry c := by
    rw [Pipeline.ownSems0_none, ← Pipeline.unscopedBufs_held (Ix := Unit) (Name := ℕ) (U := UU) (Lvl := ℕ) c (W2 c)]
    have hsplit := Pipeline.RDat.arrays_of_unscopedBufs (p := 1) (pcfgs (F := F)) adm (rds W0 W2) launch1.win launch1.arr_whole c
      ((rds W0 W2 1 c).share_full fun _ => rfl) (at_ W2 c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    iexact Hrest
  hin c := by
    rw [show (rds W0 W2 1 c).Φ 0 = Pipeline.scopedRest spec1 c from rfl]
    iintro ⟨-, -, Hr⟩; iexact Hr
  hout c := by
    rw [Pipeline.ownSems0_none, show (rds W0 W2 1 c).Φ (Fin.last _) = Pipeline.scopedRest spec1 c from rfl]
    iintro Hr
    isplitr; · iempintro
    isplitr; · iempintro
    iexact Hr
  hexit c := by
    have hjoin := exit1 W0 W2 c
    iintro ⟨Ha, HO, -, Hrest⟩
    imodintro
    isplitl [Ha Hrest]
    · iapply hjoin; isplitl [Ha] <;> iassumption
    unfold Pipeline.RDat.owesAt Pipeline.owesWithin
    icases HO with ⟨%W, -, HO⟩; iexists W; iexact HO

abbrev rest (_ : Fin 3) (c : Dev nD) : sProp 𝕄 := idleOwes c

variable (m : (ℓ : Loc nD τ sig) → Buf (Elt F) ℓ)

/-- What the first region leaves. -/
def left0 : Outs (F := F) := fun _ r c => if h : r = main_v1 then h ▸ padded (at_ (V1 m)) c else m ((c : Thread nD τ).loc r)

theorem left0_v1 (c : Dev nD) : V2 m (left0 m) c main_v1 = padded (at_ (V1 m)) c := by
  show Function.update (V1 m c) (main_v1 : DevRef τ sig) _ (main_v1 : DevRef τ sig) = _
  rw [Function.update_self]; unfold left0; rw [dif_pos rfl]

theorem left0_ne (c : Dev nD) (b : Ref sig .tc) (h : b ≠ main_v1) : V2 m (left0 m) c b = V1 m c b :=
  V2_of m (left0 m) c b fun hb => h (List.mem_singleton.mp hb)

abbrev parts0 (_ : Dev nD) : List (Pipeline.RDat.Seg (pcfgs (F := F)) adm (rds (V1 m) (V3 m (left0 m))) () defs₀ Variants.none Lv lv0) :=
  [.host (seg0 m Variants.none Lv lv0 rest), .region (reg0 (V1 m) (V2 m (left0 m)) (V3 m (left0 m)) (left0_v1 m) (left0_ne m)), .host (seg2 m (left0 m) Variants.none Lv lv0 rest), .region (reg1 (V1 m) (V3 m (left0 m)))]

set_option backward.isDefEq.respectTransparency.types false in
/-- THE PROGRAM'S RUN: it terminates, every counter at zero, the two arguments as launched, and the results the accumulated blocks and their
scalar. -/
theorem run_main (ρ : Dev nD → PrngReg) :
    θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1))
      ∧ r.2.mem ((c.tc : Thread nD τ).loc main_v109_0) = mVal (at_ (V3 m (left0 m))) c
      ∧ r.2.mem ((c.tc : Thread nD τ).loc main_v109_1) = trVal (at_ (V3 m (left0 m))) c)
      ∧ r.2.sem = fun _ => 0) := by
  refine Pipeline.RDat.θ_run_regions_kit_dev_sems (pcfgs (F := F)) adm (rds (V1 m) (V3 m (left0 m))) () cellOf_inj emb₁ defs₀ Variants.none Lv lv0 m ρ main
    (parts0 m)
    (fun c Q => by
      rewrite [main_chain c, Pipeline.RDat.Seg.run_eq_chain,
        show (parts0 m c).map Pipeline.RDat.Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [parts0, Pipeline.RDat.Seg.pipes_host, Pipeline.RDat.Seg.pipes_region, Pipeline.RDat.Seg.pipes_nil]; decide) 0 (fun _ _ => rfl)
    (fun _ => BI.emp) (initOf (Pipeline.cells cfgs cellOf_inj) (Pipeline.launchToks cfgs cellOf_inj)) ?_
    (T₀ := fun c => iprop(StableHlo.held (c : Thread nD τ) (Pipeline.ucRefs τ sig) (V0 m c) ∗ idleOwes c))
    (Tₙ := fun c => StableHlo.held (c : Thread nD τ) (Pipeline.ucRefs τ sig) (last (V3 m (left0 m)) c))
    (hch := fun c => ⟨.rfl, .rfl, .rfl, .rfl, .rfl⟩)
    (hinit := ?_) (QY := fun c s => (s.mem ((c.tc : Thread nD τ).loc main_arg0) = m ((c.tc : Thread nD τ).loc main_arg0) ∧ s.mem ((c.tc : Thread nD τ).loc main_arg1) = m ((c.tc : Thread nD τ).loc main_arg1))
      ∧ s.mem ((c.tc : Thread nD τ).loc main_v109_0) = mVal (at_ (V3 m (left0 m))) c
      ∧ s.mem ((c.tc : Thread nD τ).loc main_v109_1) = trVal (at_ (V3 m (left0 m))) c)
    (hfin := fun c s' => ?_) (hQ := fun _ h hz => ⟨h, funext fun g => hz g (.inr (regions_no_unscoped g.2))⟩)
  · iintro Hu
    imodintro
    isplitl [Hu]
    · iapply (show (ownU _ : sProp 𝕄) ⊢ BI.own (emb₁ (initOf (Pipeline.cells cfgs cellOf_inj) (Pipeline.launchToks cfgs cellOf_inj))) from .rfl)
      iexact Hu
    · iapply (show (BI.emp : sProp 𝕄) ⊢ bigSep Finset.univ (fun _ : Dev nD => BI.emp) from by rw [BI.bigSep_emp_const])
      iempintro
  · have hall : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred 0 c ∗ prngReg c (ρ c) ∗ BI.emp))
        ⊢ (bigSep Finset.univ fun c : Dev nD => iprop(StableHlo.held (c : Thread nD τ) (Pipeline.ucRefs τ sig) (V0 m c) ∗ idleOwes c) : sProp 𝕄) := by
      refine bigSep_mono fun c _ => ?_
      rw [← Pipeline.unscopedBufs_held (Ix := Unit) (Name := ℕ) (U := UU) (Lvl := ℕ) c (V0 m c)]
      show iprop((unscopedBufs c fun b => m ((c.tc : Thread nD τ).loc b)) ∗ _) ⊢ iprop((unscopedBufs c fun b => m ((c.tc : Thread nD τ).loc b)) ∗ idleOwes c)
      iintro ⟨Hb, -, HO, -, -, -⟩
      isplitl [Hb]; · iexact Hb
      iexists ∅; iexact HO
    iintro ⟨H, -⟩
    imodintro
    iapply hall
    iexact H
  · iintro ⟨Hh, HSI⟩
    unfold StableHlo.held
    ihave Hr := (pointsTo_read_all (Pipeline.ucRefs τ sig) (fun b => ((c : Thread nD τ).1, b)) (last (V3 m (left0 m)) c) s') $$ [Hh HSI]
    · isplitl [Hh] <;> iassumption
    icases Hr with ⟨%h, HSI⟩
    imodintro
    isplitr
    · ipureintro
      have hoff : ∀ b : Ref sig .tc, b ≠ main_v109_0 → b ≠ main_v109_1 → last (V3 m (left0 m)) c b = at_ (V3 m (left0 m)) c b := fun b n0 n1 => by
        unfold last
        rw [Function.update_of_ne (StableHlo.devRef_ne_of_ne n1), Function.update_of_ne (StableHlo.devRef_ne_of_ne n0)]
      refine ⟨⟨?_, ?_⟩, ?_, ?_⟩
      · refine (h (Proc.devRef .tc main_arg0) (Finset.mem_filter.mpr ⟨StableHlo.devRef_mem_tcRefs main_arg0, by decide⟩)).trans ((hoff main_arg0 (by decide) (by decide)).trans ?_)
        exact (V3_of m (left0 m) c main_arg0 (by decide)).trans <| (V2_of m (left0 m) c main_arg0 (by decide)).trans <| (V1_of m c main_arg0 (by decide)).trans rfl
      · refine (h (Proc.devRef .tc main_arg1) (Finset.mem_filter.mpr ⟨StableHlo.devRef_mem_tcRefs main_arg1, by decide⟩)).trans ((hoff main_arg1 (by decide) (by decide)).trans ?_)
        exact (V3_of m (left0 m) c main_arg1 (by decide)).trans <| (V2_of m (left0 m) c main_arg1 (by decide)).trans <| (V1_of m c main_arg1 (by decide)).trans rfl
      · refine (h (Proc.devRef .tc main_v109_0) (Finset.mem_filter.mpr ⟨StableHlo.devRef_mem_tcRefs main_v109_0, by decide⟩)).trans ?_
        unfold last
        rw [Function.update_of_ne (StableHlo.devRef_ne_of_ne (by decide)), Function.update_self]
      · refine (h (Proc.devRef .tc main_v109_1) (Finset.mem_filter.mpr ⟨StableHlo.devRef_mem_tcRefs main_v109_1, by decide⟩)).trans ?_
        unfold last
        rw [Function.update_self]
    · iexact HSI

end Cert.Asm

end
-- ==== Proof.AsmReal.lean ====
module
public import Idealize.ShloMosaic.Lib.Pointwise

/-!
# The assembled matrix, in the reals

A node's share of the matrix of the second program, from a table of rows with 104 rows before the first node's, and the
facts about these sums that need no program.
-/

@[expose] public section
noncomputable section
namespace Cert.Asm
open Idealize.ShloMosaic

theorem sum_coe {ι : Type} [Fintype ι] (f : ι → ℝ) : ((∑ i, f i : ℝ) : EReal) = ∑ i, ((f i : ℝ) : EReal) :=
  map_sum (⟨⟨fun x : ℝ => (x : EReal), EReal.coe_zero⟩, EReal.coe_add⟩ : ℝ →+ EReal) _ _

/-- One node's turned sum: the six neighbours' fields against their values, less the node's own. -/
def bt (e : ℕ → ℝ) (u w : Fin 7 → ℝ) (f g : ℕ) : ℝ :=
  e f * w 0 - e g * u 0 + (e (3 + f) * w 1 - e (3 + g) * u 1) + (e (6 + f) * w 2 - e (6 + g) * u 2) + (e (9 + f) * w 3 - e (9 + g) * u 3)
    + (e (12 + f) * w 4 - e (12 + g) * u 4) + (e (15 + f) * w 5 - e (15 + g) * u 5) - (e (18 + f) * w 6 - e (18 + g) * u 6)

/-- A component's seven values at a row: the six neighbours, then the node. -/
def seven (j : ℕ → ℕ → ℝ) (r k p : ℕ) : Fin 7 → ℝ := ![j (105 + r) (k + p), j (103 + r) (k + p), j (204 + r) (k + p), j (4 + r) (k + p), j (203 + r) (k + p), j (5 + r) (k + p), j (104 + r) (k + p)]

/-- A node's turned sum by component. -/
def bR (j e : ℕ → ℕ → ℝ) (k r p : ℕ) : ℝ := match k with
  | 0 => bt (e r) (seven j r 64 p) (seven j r 128 p) 1 2
  | 1 => bt (e r) (seven j r 128 p) (seven j r 0 p) 2 0
  | _ => bt (e r) (seven j r 0 p) (seven j r 64 p) 0 1

/-- Whether node `n` of the 100 × 100 mesh has the neighbour in direction `d`. -/
def nb (d : Fin 6) (n : ℕ) : Bool := match d with
  | 0 => decide (n % 100 ≤ 98)
  | 1 => decide (1 ≤ n % 100)
  | 2 => decide (n / 100 ≤ 98)
  | 3 => decide (1 ≤ n / 100)
  | 4 => decide (n / 100 ≤ 98) && decide (1 ≤ n % 100)
  | 5 => decide (1 ≤ n / 100) && decide (n % 100 ≤ 98)

/-- The same as a number. -/
def mk (d : Fin 6) (n : ℕ) : ℝ := if nb d n then 1 else 0

/-- Twice the sum of the differences against the neighbours, weighted. -/
def lap (j : ℕ → ℕ → ℝ) (w : Fin 6 → ℝ) (r c : ℕ) : ℝ :=
  2 * (w 0 * (j (104 + r) c - j (105 + r) c) + w 1 * (j (104 + r) c - j (103 + r) c) + w 2 * (j (104 + r) c - j (204 + r) c)
    + w 3 * (j (104 + r) c - j (4 + r) c) + w 4 * (j (104 + r) c - j (203 + r) c) + w 5 * (j (104 + r) c - j (5 + r) c))

/-- A node's share of the matrix. -/
def share (j e : ℕ → ℕ → ℝ) (w : Fin 6 → ℝ) (r p q : ℕ) : ℝ :=
  j (104 + r) p * lap j w r q + j (104 + r) (64 + p) * lap j w r (64 + q) + j (104 + r) (128 + p) * lap j w r (128 + q)
    - (bR j e 0 r p * (e r 21 * bR j e 0 r q + e r 22 * bR j e 1 r q + e r 23 * bR j e 2 r q)
      + bR j e 1 r p * (e r 22 * bR j e 0 r q + e r 24 * bR j e 1 r q + e r 25 * bR j e 2 r q)
      + bR j e 2 r p * (e r 23 * bR j e 0 r q + e r 25 * bR j e 1 r q + e r 26 * bR j e 2 r q))

/-- A window's row is a row of the table. -/
theorem share_shift (J E : ℕ → ℕ → ℝ) (s : ℕ) (w : Fin 6 → ℝ) (r p q : ℕ) :
    share (fun m => J (s + m)) (fun m => E (s + m)) w r p q = share J E w (s + r) p q := by
  simp only [share, lap, bR, seven, Nat.add_left_comm s]

/-- The sum over the mesh, block by block. -/
theorem sum_blocks (f : ℕ → ℝ) : ∑ n : Fin 10000, f n.val = ∑ i : Fin 10, ∑ r : Fin 1000, f (1000 * i.val + r.val) := by
  rw [← Fintype.sum_prod_type']
  refine (Fintype.sum_equiv (finProdFinEquiv : Fin 10 × Fin 1000 ≃ Fin (10 * 1000)) _ (fun n => f n.val) fun x => ?_).symm
  exact congrArg f (Nat.add_comm _ _)

end Cert.Asm
end
-- ==== Proof.AsmValue.lean ====
module
public import proofs.«01_k».proof.Proof.AsmRegion
public import proofs.«01_k».proof.Proof.AsmReal
public import Idealize.ShloMosaic.Lib.Pointwise
public import Idealize.ShloMosaic.Lib.Tactic.CleanTypes
/-!
# A point's contribution

What the second program's body adds to a block of its result at one point, read at the extended reals: from real inputs
it is a real sum over the rows. Then the block after its ten points, as a sum over the mesh's nodes.
-/

@[expose] public section
noncomputable section
namespace Cert.Asm
open Cert.AssemblyIdeal Cert.AssemblyIdeal.Gen
open Idealize.ShloMosaic

section
variable (v2 : Vec Ideal S1x1208x192 .bf16) (v4 : Vec Ideal S1x1000x27 .f32) (v198 : Vec Ideal S1x1000x1208 .bf16)

def B0 : FVec Ideal S1000x64 .bf16 := k1_pay104 (k1_pay45 v2) (k1_pay46 v4) (k1_pay94 (k1_pay45 v2) (k1_pay46 v4) (k1_pay78 (k1_pay45 v2) (k1_pay46 v4) (k1_pay53 v2 v4) (k1_pay62 v2 v4) (k1_pay63 v2 v4)))

def B1 : FVec Ideal S1000x64 .bf16 := k1_pay105 (k1_pay45 v2) (k1_pay46 v4) (k1_pay95 (k1_pay45 v2) (k1_pay46 v4) (k1_pay70 (k1_pay45 v2) (k1_pay46 v4) (k1_pay54 v2 v4) (k1_pay56 v4) (k1_pay58 v4) (k1_pay59 v2) (k1_pay61 v2)) (k1_pay79 (k1_pay45 v2) (k1_pay46 v4)) (k1_pay80 (k1_pay45 v2) (k1_pay46 v4)))

def B2 : FVec Ideal S1000x64 .bf16 := k1_pay106 (k1_pay45 v2) (k1_pay46 v4) (k1_pay87 (k1_pay45 v2) (k1_pay46 v4) (k1_pay71 (k1_pay45 v2) (k1_pay46 v4) (k1_pay55 v2 v4) (k1_pay56 v4) (k1_pay57 v4) (k1_pay59 v2) (k1_pay60 v2)) (k1_pay72 (k1_pay46 v4)) (k1_pay73 (k1_pay46 v4)) (k1_pay75 (k1_pay45 v2)) (k1_pay76 (k1_pay45 v2))) (k1_pay96 (k1_pay45 v2) (k1_pay46 v4)) (k1_pay97 (k1_pay45 v2) (k1_pay46 v4))

variable (j e l : ℕ → ℕ → ℝ)
  (hj : ∀ (y : Fin 1208) (c : Fin 192), v2 (ix3 0 y c) = ((j y.val c.val : ℝ) : EReal))
  (he : ∀ (y : Fin 1000) (c : Fin 27), v4 (ix3 0 y c) = ((e y.val c.val : ℝ) : EReal))
  (hl : ∀ (y : Fin 1000) (c : Fin 1208), v198 (ix3 0 y c) = ((l y.val c.val : ℝ) : EReal))

include hj he
theorem B0_at (r : Fin 1000) (p : Fin 64) : B0 v2 v4 (ix2 r p) = ((bt (e r) (seven j r 64 p) (seven j r 128 p) 1 2 : ℝ) : EReal) := by
  unfold B0
  pointwise [k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106]
  simp only [hj, he]
  rfl

theorem B1_at (r : Fin 1000) (p : Fin 64) : B1 v2 v4 (ix2 r p) = ((bt (e r) (seven j r 128 p) (seven j r 0 p) 2 0 : ℝ) : EReal) := by
  unfold B1
  pointwise [k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106]
  simp only [hj, he]
  simp only [bt, seven, Nat.zero_add, EReal.coe_add, EReal.coe_sub, EReal.coe_mul]
  rfl

theorem B2_at (r : Fin 1000) (p : Fin 64) : B2 v2 v4 (ix2 r p) = ((bt (e r) (seven j r 0 p) (seven j r 64 p) 0 1 : ℝ) : EReal) := by
  unfold B2
  pointwise [k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106]
  simp only [hj, he]
  simp only [bt, seven, Nat.zero_add, EReal.coe_add, EReal.coe_sub, EReal.coe_mul]
  rfl
omit hj he

/-- A point's contribution, in the reals. -/
def conR (p q : ℕ) : ℝ :=
  (∑ r : Fin 1000, j (104 + r.val) p * ∑ c : Fin 1208, l r.val c.val * j c.val q) + (∑ r : Fin 1000, j (104 + r.val) (64 + p) * ∑ c : Fin 1208, l r.val c.val * j c.val (64 + q))
    + (∑ r : Fin 1000, j (104 + r.val) (128 + p) * ∑ c : Fin 1208, l r.val c.val * j c.val (128 + q))
    - ((∑ r : Fin 1000, bR j e 0 r p * (e r 21 * bR j e 0 r q + e r 22 * bR j e 1 r q + e r 23 * bR j e 2 r q))
      + (∑ r : Fin 1000, bR j e 1 r p * (e r 22 * bR j e 0 r q + e r 24 * bR j e 1 r q + e r 25 * bR j e 2 r q))
      + (∑ r : Fin 1000, bR j e 2 r p * (e r 23 * bR j e 0 r q + e r 25 * bR j e 1 r q + e r 26 * bR j e 2 r q)))

include hj he hl in
theorem con_eq (p q : Fin 64) : con v2 v4 v198 (ix2 p q) = ((conR j e l p q : ℝ) : EReal) := by
  change k1_pay1 (B0 v2 v4) (B1 v2 v4) (B2 v2 v4) (k1_pay107 (k1_pay45 v2) v198)
    (k1_pay108 (k1_pay46 v4)) (k1_pay109 (k1_pay46 v4)) (k1_pay110 (k1_pay46 v4)) (k1_pay111 (k1_pay46 v4)) (k1_pay112 (k1_pay46 v4)) (k1_pay113 (k1_pay46 v4)) (ix2 p q) = _
  pointwise [k1_pay1, k1_pay98, k1_pay99, k1_pay100, k1_pay107, k1_pay108, k1_pay109, k1_pay110, k1_pay111, k1_pay112, k1_pay113, k1_pay45, k1_pay46]
  simp only [B0_at v2 v4 j e hj he, B1_at v2 v4 j e hj he, B2_at v2 v4 j e hj he, hj, he, hl, ← EReal.coe_mul, ← EReal.coe_add, ← EReal.coe_sub, ← sum_coe]
  rfl
end
end Cert.Asm
end
-- ==== Proof.AsmBand.lean ====
module
public import proofs.«01_k».proof.Proof.Gen.AssemblyIdeal.Regions
public import proofs.«01_k».proof.Proof.AsmReal
public import Idealize.ShloMosaic.Lib.Pointwise
public import Idealize.ShloMosaic.Lib.Tactic.CleanTypes

/-!
# The banded matrix

The second program builds, from row, column and variant numbers, the matrix that takes a window of rows of the
padded table to twice the sum of the differences against the neighbours the mesh has. Here its entries are read as
reals, and its product with a column as that sum.
-/

@[expose] public section
noncomputable section
namespace Cert.Asm
open Cert.AssemblyIdeal Cert.AssemblyIdeal.Gen
open Idealize.ShloMosaic Idealize.ShloMosaic.StableHlo

/-- One where the column is the wanted one. -/
def at1 (c k : ℕ) : ℝ := if c = k then 1 else 0

def start (v : Fin 3) : ℕ := match v with
  | 0 => 0
  | 1 => 1000
  | 2 => 9000

theorem node_eq (v : Fin 3) (r : ℕ) :
    IntOp.addi (Scalar.select (IntOp.cmpi CmpIPredicate.eq (BitVec.ofNat 32 v.val) 0#32) (0#32)
      (Scalar.select (IntOp.cmpi CmpIPredicate.eq (BitVec.ofNat 32 v.val) 1#32) 1000#32 9000#32)) (BitVec.ofNat 32 r) = BitVec.ofNat 32 (start v + r) := by
  rw [BitVec.ofNat_add]
  match v with
  | 0 => rfl
  | 1 => rfl
  | 2 => rfl

def bit (b : Bool) : BitVec 1 := if b then 1#1 else 0#1

theorem uitofp_bit (b : Bool) : (FloatOps.uitofp .f32 (bit b) : Ideal .f32) = (((if b then 1 else 0 : ℝ)) : EReal) := by
  cases b
  · change (((0#1 : BitVec 1).toNat : ℝ) : EReal) = _
    simp
  · change (((1#1 : BitVec 1).toNat : ℝ) : EReal) = _
    simp

theorem col_eq (c r k : ℕ) (hc : c < 2000) (hr : r < 2000) (hk : k < 2000) :
    IntOp.cmpi CmpIPredicate.eq (BitVec.ofNat 32 c) (IntOp.addi (BitVec.ofNat 32 r) (BitVec.ofNat 32 k)) = bit (decide (c = r + k)) := by
  have e : IntOp.addi (BitVec.ofNat 32 r) (BitVec.ofNat 32 k) = BitVec.ofNat 32 (r + k) := (BitVec.ofNat_add ..).symm
  rw [e]
  change BitVec.ofBool (BitVec.ofNat 32 c == BitVec.ofNat 32 (r + k)) = _
  by_cases h : c = r + k
  · rw [h, decide_eq_true rfl]; simp [bit]
  · have : ¬ BitVec.ofNat 32 c = BitVec.ofNat 32 (r + k) := fun e => h (by
      have := congrArg BitVec.toNat e
      simp only [BitVec.toNat_ofNat] at this
      omega)
    rw [decide_eq_false h, beq_eq_false_iff_ne.mpr this]; rfl

/-- A node's row and column as the program computes them. -/
def rowB (n : BitVec 32) : BitVec 32 := IntOp.divsi ArithUnit.host n 100#32
def colB (n : BitVec 32) : BitVec 32 := IntOp.subi n (IntOp.muli (rowB n) 100#32)

theorem mask_all : ∀ n : Fin 10000,
    (IntOp.cmpi .sle (colB (BitVec.ofNat 32 n.val)) 98#32 = bit (nb 0 n.val)) ∧ (IntOp.cmpi .sge (colB (BitVec.ofNat 32 n.val)) 1#32 = bit (nb 1 n.val))
      ∧ (IntOp.cmpi .sle (rowB (BitVec.ofNat 32 n.val)) 98#32 = bit (nb 2 n.val)) ∧ (IntOp.cmpi .sge (rowB (BitVec.ofNat 32 n.val)) 1#32 = bit (nb 3 n.val)) := by
  decide +kernel

theorem and_bit (a b : Bool) : IntOp.andi (bit a) (bit b) = bit (a && b) := by revert a b; decide

theorem start_lt (v : Fin 3) (r : Fin 1000) : start v + r.val < 10000 := by
  have := r.isLt
  match v with
  | 0 => change 0 + r.val < 10000; omega
  | 1 => change 1000 + r.val < 10000; omega
  | 2 => change 9000 + r.val < 10000; omega

/-- An entry of the matrix. -/
def band (v : Fin 3) (r c : ℕ) : ℝ :=
  0 - 2 * (mk 0 (start v + r) * at1 c (r + 105)) - 2 * (mk 1 (start v + r) * at1 c (r + 103)) - 2 * (mk 2 (start v + r) * at1 c (r + 204))
    - 2 * (mk 3 (start v + r) * at1 c (r + 4)) - 2 * (mk 4 (start v + r) * at1 c (r + 203)) - 2 * (mk 5 (start v + r) * at1 c (r + 5))
    + 2 * ((mk 0 (start v + r) + mk 1 (start v + r) + mk 2 (start v + r) + mk 3 (start v + r) + mk 4 (start v + r) + mk 5 (start v + r)) * at1 c (r + 104))

theorem two_eq : (Ideal.ofBits FTy.f32 1073741824#32 : EReal) = ((2 : ℝ) : EReal) := by
  simp [Ideal.ofBits, Ideal.ieee]
  rw [← EReal.coe_mul]
  norm_num

set_option maxRecDepth 8192 in
set_option maxHeartbeats 4000000 in
theorem band_read (V : Valuation τ sig (Elt Ideal)) (v : Fin 3) (r : Fin 1000) (c : Fin 1208) :
    StableHlo.after hostOps1 V (no_index (Proc.devRef .tc main_v108)) (ix3 v r c) = ((band v r.val c.val : ℝ) : EReal) := by
  simp only [hostOps1]
  after_results_simp
  pointwise
  simp only [node_eq]
  obtain ⟨m0, m1, m2, m3⟩ := mask_all ⟨start v + r.val, start_lt v r⟩
  simp only [rowB, colB] at m0 m1 m2 m3
  have hr := r.isLt
  have hc := c.isLt
  rw [m0, m1, m2, m3]
  rw [col_eq c r 105 (by omega) (by omega) (by omega), col_eq c r 103 (by omega) (by omega) (by omega), col_eq c r 204 (by omega) (by omega) (by omega),
    col_eq c r 4 (by omega) (by omega) (by omega), col_eq c r 203 (by omega) (by omega) (by omega), col_eq c r 5 (by omega) (by omega) (by omega),
    col_eq c r 104 (by omega) (by omega) (by omega)]
  simp only [and_bit, uitofp_bit, two_eq, decide_eq_true_eq]
  unfold band
  simp only [EReal.coe_add, EReal.coe_sub, EReal.coe_mul, EReal.coe_zero]
  rfl

/-- The matrix against a column: twice the sum of the differences. -/
theorem band_sum (v : Fin 3) (r : Fin 1000) (j : ℕ → ℝ) :
    ∑ c : Fin 1208, band v r.val c.val * j c.val
      = 2 * (mk 0 (start v + r) * (j (104 + r) - j (105 + r)) + mk 1 (start v + r) * (j (104 + r) - j (103 + r)) + mk 2 (start v + r) * (j (104 + r) - j (204 + r))
        + mk 3 (start v + r) * (j (104 + r) - j (4 + r)) + mk 4 (start v + r) * (j (104 + r) - j (203 + r)) + mk 5 (start v + r) * (j (104 + r) - j (5 + r))) := by
  have hr := r.isLt
  have pick : ∀ k : ℕ, k < 209 → ∑ c : Fin 1208, at1 c.val (r.val + k) * j c.val = j (k + r.val) := fun k hk => by
    rw [Finset.sum_eq_single (⟨r.val + k, by omega⟩ : Fin 1208)]
    · unfold at1; rw [if_pos rfl, one_mul]
      exact congrArg j (Nat.add_comm _ _)
    · intro b _ hb
      unfold at1
      rw [if_neg (fun e => hb (Fin.ext e)), zero_mul]
    · intro h; exact absurd (Finset.mem_univ _) h
  rw [← pick 105 (by omega), ← pick 103 (by omega), ← pick 204 (by omega), ← pick 4 (by omega), ← pick 203 (by omega), ← pick 5 (by omega), ← pick 104 (by omega)]
  simp only [← Finset.sum_sub_distrib, Finset.mul_sum, ← Finset.sum_add_distrib]
  refine Finset.sum_congr rfl fun c _ => ?_
  unfold band
  ring

end Cert.Asm
end
-- ==== Proof.AsmSum.lean ====
module
public import proofs.«01_k».proof.Proof.AsmValue
public import proofs.«01_k».proof.Proof.AsmBand

/-!
# The second program's result

From real arguments a block of the result, after its ten points, is the sum over the mesh's nodes of their shares.
-/

@[expose] public section
noncomputable section
namespace Cert.Asm
open Cert.AssemblyIdeal Cert.AssemblyIdeal.Gen
open Idealize.ShloMosaic

theorem nb_block : ∀ (i : Fin 10) (r : Fin 1000) (d : Fin 6), nb d (start (variant i.val) + r.val) = nb d (1000 * i.val + r.val) := by
  decide +kernel

/-- With the banded matrix a point's contribution is the sum of its rows' shares. -/
theorem conR_band (j e : ℕ → ℕ → ℝ) (v : Fin 3) (p q : ℕ) :
    conR j e (band v) p q = ∑ r : Fin 1000, share j e (fun d => mk d (start v + r)) r p q := by
  have h : ∀ (r : Fin 1000) (k : ℕ), ∑ c : Fin 1208, band v r.val c.val * j c.val k = lap j (fun d => mk d (start v + r)) r k := fun r k => band_sum v r (fun m => j m k)
  unfold conR
  simp only [h, ← Finset.sum_add_distrib, ← Finset.sum_sub_distrib]
  rfl

variable (V : (c : Dev nD) → (b : Ref sig .tc) → Buf (Elt Ideal) ((c.tc : Thread nD τ).loc b))
variable (c : Dev nD) (b : Fin 2) (J E : ℕ → ℕ → ℝ)
  (hJ : ∀ (r : Fin 10208) (k : Fin 192), (V c main_v1 : S2x10208x192.Idx → Elt Ideal .bf16) (ix3 b r k) = ((J r.val k.val : ℝ) : EReal))
  (hE : ∀ (n : Fin 10240) (f : Fin 27), (V c main_arg0 : S2x10240x27.Idx → Elt Ideal .f32) (ix3 b n f) = ((E n.val f.val : ℝ) : EReal))
  (hL : ∀ (v : Fin 3) (r : Fin 1000) (k : Fin 1208), (V c main_v108 : S3x1000x1208.Idx → Elt Ideal .bf16) (ix3 v r k) = ((band v r.val k.val : ℝ) : EReal))

include hJ hE hL in
theorem conAt_eq (i : ℕ) (hi : i < 10) (p q : Fin 64) :
    conAt V c (10 * b.val + i) (ix2 p q) = ((∑ r : Fin 1000, share J E (fun d => mk d (1000 * i + r.val)) (1000 * i + r.val) p q : ℝ) : EReal) := by
  have hb : (⟨(10 * b.val + i) / 10 % 2, Nat.mod_lt _ (by decide)⟩ : Fin 2) = b := Fin.ext (by have := b.isLt; show (10 * b.val + i) / 10 % 2 = b.val; omega)
  have hm : (10 * b.val + i) % 10 = i := by omega
  have hv : variant (10 * b.val + i) = variant i := by unfold variant; rw [hm, Nat.mod_eq_of_lt hi]
  unfold conAt
  rw [con_eq _ _ _ (fun m => J (1000 * i + m)) (fun m => E (1000 * i + m)) (band (variant i)) ?_ ?_ ?_ p q, conR_band]
  · refine congrArg (fun x : ℝ => (x : EReal)) (Finset.sum_congr rfl fun r _ => ?_)
    rw [share_shift]
    refine congrArg (fun w => share J E w (1000 * i + r.val) p q) (funext fun d => ?_)
    unfold mk
    rw [nb_block ⟨i, hi⟩ r d]
  · intro y k
    have := hJ ⟨1000 * i + y.val, by have := y.isLt; omega⟩ k
    refine Eq.trans ?_ this
    unfold rowsOf stgJ
    exact congrArg₂ (fun (x : Fin 2) (z : Fin 10208) => (V c main_v1 : S2x10208x192.Idx → Elt Ideal .bf16) (ix3 x z k)) hb (Fin.ext (by show 1000 * ((10 * b.val + i) % 10) + y.val = _; rw [hm]))
  · intro y k
    have := hE ⟨1000 * i + y.val, by have := y.isLt; omega⟩ k
    refine Eq.trans ?_ this
    unfold stgE
    exact congrArg₂ (fun (x : Fin 2) (z : Fin 10240) => (V c main_arg0 : S2x10240x27.Idx → Elt Ideal .f32) (ix3 x z k)) hb (Fin.ext (by show 1000 * ((10 * b.val + i) % 10) + y.val = _; rw [hm]))
  · intro y k
    refine Eq.trans ?_ (hL (variant i) y k)
    unfold stgL
    exact congrArg (fun (x : Fin 3) => (V c main_v108 : S3x1000x1208.Idx → Elt Ideal .bf16) (ix3 x y k)) hv

include hJ hE hL in
theorem accB_eq (p q : Fin 64) : ∀ n : ℕ, n < 10 →
    accB V c b.val n (ix3 0 p q) = ((∑ i ∈ Finset.range (n + 1), ∑ r : Fin 1000, share J E (fun d => mk d (1000 * i + r.val)) (1000 * i + r.val) p q : ℝ) : EReal)
  | 0, h => by
    have e := conAt_eq V c b J E hJ hE hL 0 h p q
    rw [Finset.sum_range_one, ← e]
    unfold accB
    pointwise
  | n + 1, h => by
    have e := conAt_eq V c b J E hJ hE hL (n + 1) h p q
    have e' := accB_eq p q n (by omega)
    rw [Finset.sum_range_succ, EReal.coe_add, ← e, ← e']
    conv => lhs; unfold accB
    pointwise

include hJ hE hL in
/-- The result's entry. -/
theorem mVal_eq (p q : Fin 64) :
    mVal V c (ix3 b p q) = ((∑ n : Fin 10000, share J E (fun d => mk d n.val) n.val p q : ℝ) : EReal) := by
  rw [sum_blocks (fun n => share J E (fun d => mk d n) n p q), ← Finset.sum_range (fun i => ∑ r : Fin 1000, share J E (fun d => mk d (1000 * i + r.val)) (1000 * i + r.val) p q)]
  exact accB_eq V c b J E hJ hE hL p q 9 (by decide)

end Cert.Asm
end
-- ==== Proof.NormalValue.lean ====
module
public import proofs.«01_k».proof.Proof.Gen.NormalIdeal.Run
public import proofs.«01_k».proof.Proof.AsmReal
public import Idealize.ShloMosaic.Lib.Pointwise
public import Idealize.ShloMosaic.Lib.Tactic.CleanTypes

/-!
# The second reference's result

From real arguments an entry of the reference's result is the sum over the mesh's nodes of their shares, in the table
that has zeros around the nodes' rows.
-/

@[expose] public section
noncomputable section
namespace Cert.Normal
open Cert.NormalIdeal Cert.NormalIdeal.Value Cert.Asm
open Idealize.ShloMosaic Idealize.ShloMosaic.StableHlo

/-- The nodes' rows with zeros around them, a node's three rows side by side. -/
def table (g : ℕ → ℕ → ℝ) (m k : ℕ) : ℝ := if 104 ≤ m ∧ m < 10104 then g (3 * (m - 104) + k / 64) (k % 64) else 0

variable (V : Valuation τ sig (Elt Ideal)) (b : Fin 2) (g E : ℕ → ℕ → ℝ)
  (hg : ∀ (r : Fin 30000) (p : Fin 64), (V (Proc.devRef .tc main_arg1) : (⟨3, ![2, 30000, 64]⟩ : Shape).Idx → Elt Ideal .f32) (ix3 b r p) = ((g r.val p.val : ℝ) : EReal))
  (hE : ∀ (n : Fin 10240) (f : Fin 27), (V (Proc.devRef .tc main_arg0) : (⟨3, ![2, 10240, 27]⟩ : Shape).Idx → Elt Ideal .f32) (ix3 b n f) = ((E n.val f.val : ℝ) : EReal))

theorem zero_i : (FloatOps.sitofp FTy.f32 0#32 : Ideal .f32) = ((0 : ℝ) : EReal) := by
  change (((0#32 : BitVec 32).toInt : ℝ) : EReal) = _
  simp

theorem two_eq : (Ideal.ofBits FTy.f32 1073741824#32 : EReal) = ((2 : ℝ) : EReal) := by
  simp [Ideal.ofBits, Ideal.ieee]
  rw [← EReal.coe_mul]
  norm_num

include hg in
/-- A component at the nodes themselves. -/
theorem here_at (k : Fin 3) (n : Fin 10000) (p : Fin 64) :
    res_main_v0 V (ix4 b n k p) = ((table g (104 + n.val) (64 * k.val + p.val) : ℝ) : EReal) := by
  have hn := n.isLt
  have hp := p.isLt
  unfold res_main_v0
  clean_types
  pointwise
  refine (hg _ p).trans (congrArg (fun x : ℝ => (x : EReal)) ?_)
  unfold table
  rw [if_pos (by omega)]
  exact congrArg₂ g (by have := k.isLt; show n.val * 3 + k.val = _; omega) (by have := k.isLt; omega)

include hg in
/-- A component at the nodes `a` rows on. -/
theorem there_at (a : ℕ) (k : Fin 3) (n : Fin 10000) (p : Fin 64) (h : a + n.val < 10200) :
    res_main_v1 V (ix4 b ⟨a + n.val, h⟩ k p) = ((table g (a + 4 + n.val) (64 * k.val + p.val) : ℝ) : EReal) := by
  unfold res_main_v1
  clean_types
  pointwise
  split
  case isTrue hh =>
    rw [here_at V b g hg]
    exact congrArg (fun m => ((table g m (64 * k.val + p.val) : ℝ) : EReal)) (by show 104 + (a + n.val - 100) = a + 4 + n.val; omega)
  case isFalse hh =>
    rw [zero_i]
    unfold table
    rw [if_neg (by omega)]

include hg in
theorem there0_at (k : Fin 3) (n : Fin 10000) (p : Fin 64) (h : n.val < 10200) :
    res_main_v1 V (ix4 b ⟨n.val, h⟩ k p) = ((table g (4 + n.val) (64 * k.val + p.val) : ℝ) : EReal) := by
  have e := there_at V b g hg 0 k n p (by omega)
  simpa only [Nat.zero_add] using e

theorem mask0_at (n : Fin 10000) : res_main_v56 V (ix2 n 0) = ((mk 0 n.val : ℝ) : EReal) := by
  have hn := n.isLt
  unfold res_main_v56 res_main_v3
  clean_types
  pointwise
  rw [zero_i]
  unfold mk
  split
  case isTrue h => rw [if_pos (by simp only [nb, Bool.and_eq_true, decide_eq_true_eq]; omega)]; exact EReal.coe_one.symm
  case isFalse h => rw [if_neg (by simp only [nb, Bool.and_eq_true, decide_eq_true_eq]; omega)]

theorem mask1_at (n : Fin 10000) : res_main_v103 V (ix2 n 0) = ((mk 1 n.val : ℝ) : EReal) := by
  have hn := n.isLt
  unfold res_main_v103 res_main_v3
  clean_types
  pointwise
  rw [zero_i]
  unfold mk
  split
  case isTrue h => rw [if_pos (by simp only [nb, Bool.and_eq_true, decide_eq_true_eq]; omega)]; exact EReal.coe_one.symm
  case isFalse h => rw [if_neg (by simp only [nb, Bool.and_eq_true, decide_eq_true_eq]; omega)]

theorem mask2_at (n : Fin 10000) : res_main_v150 V (ix2 n 0) = ((mk 2 n.val : ℝ) : EReal) := by
  have hn := n.isLt
  unfold res_main_v150 res_main_v3
  clean_types
  pointwise
  rw [zero_i]
  unfold mk
  split
  case isTrue h => rw [if_pos (by simp only [nb, Bool.and_eq_true, decide_eq_true_eq]; omega)]; exact EReal.coe_one.symm
  case isFalse h => rw [if_neg (by simp only [nb, Bool.and_eq_true, decide_eq_true_eq]; omega)]

theorem mask3_at (n : Fin 10000) : res_main_v197 V (ix2 n 0) = ((mk 3 n.val : ℝ) : EReal) := by
  have hn := n.isLt
  unfold res_main_v197 res_main_v3
  clean_types
  pointwise
  rw [zero_i]
  unfold mk
  split
  case isTrue h => rw [if_pos (by simp only [nb, Bool.and_eq_true, decide_eq_true_eq]; omega)]; exact EReal.coe_one.symm
  case isFalse h => rw [if_neg (by simp only [nb, Bool.and_eq_true, decide_eq_true_eq]; omega)]

theorem mask4_at (n : Fin 10000) : res_main_v244 V (ix2 n 0) = ((mk 4 n.val : ℝ) : EReal) := by
  have hn := n.isLt
  unfold res_main_v244 res_main_v3
  clean_types
  pointwise
  rw [zero_i]
  unfold mk
  split
  case isTrue h => rw [if_pos (by simp only [nb, Bool.and_eq_true, decide_eq_true_eq]; omega)]; exact EReal.coe_one.symm
  case isFalse h => rw [if_neg (by simp only [nb, Bool.and_eq_true, decide_eq_true_eq]; omega)]

theorem mask5_at (n : Fin 10000) : res_main_v291 V (ix2 n 0) = ((mk 5 n.val : ℝ) : EReal) := by
  have hn := n.isLt
  unfold res_main_v291 res_main_v3
  clean_types
  pointwise
  rw [zero_i]
  unfold mk
  split
  case isTrue h => rw [if_pos (by simp only [nb, Bool.and_eq_true, decide_eq_true_eq]; omega)]; exact EReal.coe_one.symm
  case isFalse h => rw [if_neg (by simp only [nb, Bool.and_eq_true, decide_eq_true_eq]; omega)]

include hg hE in
theorem b0_at (n : Fin 10000) (p : Fin 64) :
    res_main_v346 V (ix3 b n p) = ((bt (E n) (seven (table g) n 64 p) (seven (table g) n 128 p) 1 2 : ℝ) : EReal) := by
  unfold res_main_v346 res_main_v5 res_main_v6 res_main_v8 res_main_v9 res_main_v11 res_main_v12 res_main_v14 res_main_v15 res_main_v17 res_main_v18 res_main_v20 res_main_v21 res_main_v23 res_main_v24 res_main_v32 res_main_v34 res_main_v36 res_main_v52 res_main_v54 res_main_v99 res_main_v101 res_main_v146 res_main_v148 res_main_v193 res_main_v195 res_main_v240 res_main_v242 res_main_v287 res_main_v289
  clean_types
  pointwise
  simp only [there_at V b g hg, there0_at V b g hg, here_at V b g hg, hE, Fin.val_zero, Nat.mul_zero, Nat.zero_add]
  simp only [bt, seven, Nat.zero_add, EReal.coe_add, EReal.coe_sub, EReal.coe_mul, zero_mul, zero_add]
  rfl

include hg hE in
theorem b1_at (n : Fin 10000) (p : Fin 64) :
    res_main_v347 V (ix3 b n p) = ((bt (E n) (seven (table g) n 128 p) (seven (table g) n 0 p) 2 0 : ℝ) : EReal) := by
  unfold res_main_v347 res_main_v4 res_main_v6 res_main_v7 res_main_v9 res_main_v10 res_main_v12 res_main_v13 res_main_v15 res_main_v16 res_main_v18 res_main_v19 res_main_v21 res_main_v22 res_main_v24 res_main_v32 res_main_v34 res_main_v36 res_main_v50 res_main_v54 res_main_v97 res_main_v101 res_main_v144 res_main_v148 res_main_v191 res_main_v195 res_main_v238 res_main_v242 res_main_v285 res_main_v289
  clean_types
  pointwise
  simp only [there_at V b g hg, there0_at V b g hg, here_at V b g hg, hE, Fin.val_zero, Nat.mul_zero, Nat.zero_add]
  simp only [bt, seven, Nat.zero_add, EReal.coe_add, EReal.coe_sub, EReal.coe_mul, zero_mul, zero_add]
  rfl

include hg hE in
theorem b2_at (n : Fin 10000) (p : Fin 64) :
    res_main_v348 V (ix3 b n p) = ((bt (E n) (seven (table g) n 0 p) (seven (table g) n 64 p) 0 1 : ℝ) : EReal) := by
  unfold res_main_v348 res_main_v4 res_main_v5 res_main_v7 res_main_v8 res_main_v10 res_main_v11 res_main_v13 res_main_v14 res_main_v16 res_main_v17 res_main_v19 res_main_v20 res_main_v22 res_main_v23 res_main_v32 res_main_v34 res_main_v36 res_main_v50 res_main_v52 res_main_v97 res_main_v99 res_main_v144 res_main_v146 res_main_v191 res_main_v193 res_main_v238 res_main_v240 res_main_v285 res_main_v287
  clean_types
  pointwise
  simp only [there_at V b g hg, there0_at V b g hg, here_at V b g hg, hE, Fin.val_zero, Nat.mul_zero, Nat.zero_add]
  simp only [bt, seven, Nat.zero_add, EReal.coe_add, EReal.coe_sub, EReal.coe_mul, zero_mul, zero_add]
  rfl

include hg hE in
/-- The result's entry. -/
theorem out_at (p q : Fin 64) :
    res_main_v387 V (ix3 b p q) = ((∑ n : Fin 10000, share (table g) E (fun d => mk d n.val) n.val p q : ℝ) : EReal) := by
  have hb0 : ∀ (n : Fin 10000) (p : Fin 64), res_main_v346 V (ix3 b n p) = ((bR (table g) E 0 n p : ℝ) : EReal) := b0_at V b g E hg hE
  have hb1 : ∀ (n : Fin 10000) (p : Fin 64), res_main_v347 V (ix3 b n p) = ((bR (table g) E 1 n p : ℝ) : EReal) := b1_at V b g E hg hE
  have hb2 : ∀ (n : Fin 10000) (p : Fin 64), res_main_v348 V (ix3 b n p) = ((bR (table g) E 2 n p : ℝ) : EReal) := b2_at V b g E hg hE
  unfold res_main_v387 res_main_v377 res_main_v32 res_main_v34 res_main_v36 res_main_v50 res_main_v52 res_main_v54 res_main_v97 res_main_v99 res_main_v101 res_main_v144 res_main_v146 res_main_v148 res_main_v191 res_main_v193 res_main_v195 res_main_v238 res_main_v240 res_main_v242 res_main_v285 res_main_v287 res_main_v289 res_main_v26 res_main_v27 res_main_v29
  clean_types
  pointwise
  simp only [there_at V b g hg, there0_at V b g hg, here_at V b g hg, hE, mask0_at, mask1_at, mask2_at, mask3_at, mask4_at, mask5_at, hb0, hb1, hb2, two_eq, zero_mul, zero_add,
    ← EReal.coe_mul, ← EReal.coe_add, ← EReal.coe_sub, ← sum_coe]
  refine congrArg (fun x : ℝ => (x : EReal)) ?_
  simp only [← Finset.sum_add_distrib, ← Finset.sum_sub_distrib]
  refine Finset.sum_congr rfl fun n _ => ?_
  have e1 : ((1 : Fin 3) : ℕ) = 1 := rfl
  have e2 : ((2 : Fin 3) : ℕ) = 2 := rfl
  have f1 : ((21 : Fin 27) : ℕ) = 21 := rfl
  have f2 : ((22 : Fin 27) : ℕ) = 22 := rfl
  have f3 : ((23 : Fin 27) : ℕ) = 23 := rfl
  have f4 : ((24 : Fin 27) : ℕ) = 24 := rfl
  have f5 : ((25 : Fin 27) : ℕ) = 25 := rfl
  have f6 : ((26 : Fin 27) : ℕ) = 26 := rfl
  simp only [Fin.val_zero, e1, e2, f1, f2, f3, f4, f5, f6, Nat.mul_zero, Nat.zero_add, Nat.reduceAdd, Nat.reduceMul]
  unfold share lap
  ring

end Cert.Normal
end
-- ==== Proof.NormalTrace.lean ====
module
public import proofs.«01_k».proof.Proof.Gen.NormalIdeal.Run
public import proofs.«01_k».proof.Proof.AsmTrace
public import Idealize.ShloMosaic.Lib.Pointwise
public import Idealize.ShloMosaic.Lib.Tactic.CleanTypes

/-!
# The second reference's mean trace

The reference's iterates, as pairs of matrices: its second result is the mean trace of its first.
-/

@[expose] public section
noncomputable section
namespace Cert.Normal
open Cert.NormalIdeal Cert.NormalIdeal.Gen Cert.NormalIdeal.Value Cert.Asm
open Idealize.ShloMosaic Idealize.ShloMosaic.StableHlo

/-! ## The reference's operations -/

section Steps
variable {F : FTy → Type} [FloatOps F]

abbrev Pairs (F : FTy → Type) : Type := FVec F S2x64x64 .f32

def refMul (x y : Pairs F) : Pairs F := Host.dotGeneral dot_S2x64x64_S2x64x64_S2x64x64_2_1_1_2_0_0 none x y

def refFactor (e y z : Pairs F) : Pairs F :=
  subf (mulf (broadcastInDim S2x64x64 ![] bcast_S_S2x64x64 (constant S_ .f32 0x3FC00000#32)) e)
    (mulf (broadcastInDim S2x64x64 ![] bcast_S_S2x64x64 (constant S_ .f32 0x3F000000#32)) (refMul z y))

def refStep (e : Pairs F) (p : Pairs F × Pairs F) : Pairs F × Pairs F :=
  (refMul p.1 (refFactor e p.1 p.2), refMul (refFactor e p.1 p.2) p.2)

def refSum (x : Pairs F) : FVec F S_ .f32 := Host.reduceAdd x (constant S_ .f32 0x00000000#32) reducesTo_S2x64x64_S_d0_1_2 h_S_

variable (V : Valuation τ sig (Elt F))

/-- The reference's last step comes after thirteen. -/
theorem ref_steps : (refMul (res_main_v502 V) (res_main_v509 V), refMul (res_main_v509 V) (res_main_v503 V))
    = times (refStep (res_main_v397 V)) 14 (res_main_v399 V, res_main_v397 V) :=
  congrArg (refStep (res_main_v397 V)) (show (res_main_v502 V, res_main_v503 V) = times (refStep (res_main_v397 V)) 13 (res_main_v399 V, res_main_v397 V) from
  congrArg (refStep (res_main_v397 V)) (show (res_main_v494 V, res_main_v495 V) = times (refStep (res_main_v397 V)) 12 (res_main_v399 V, res_main_v397 V) from
  congrArg (refStep (res_main_v397 V)) (show (res_main_v486 V, res_main_v487 V) = times (refStep (res_main_v397 V)) 11 (res_main_v399 V, res_main_v397 V) from
  congrArg (refStep (res_main_v397 V)) (show (res_main_v478 V, res_main_v479 V) = times (refStep (res_main_v397 V)) 10 (res_main_v399 V, res_main_v397 V) from
  congrArg (refStep (res_main_v397 V)) (show (res_main_v470 V, res_main_v471 V) = times (refStep (res_main_v397 V)) 9 (res_main_v399 V, res_main_v397 V) from
  congrArg (refStep (res_main_v397 V)) (show (res_main_v462 V, res_main_v463 V) = times (refStep (res_main_v397 V)) 8 (res_main_v399 V, res_main_v397 V) from
  congrArg (refStep (res_main_v397 V)) (show (res_main_v454 V, res_main_v455 V) = times (refStep (res_main_v397 V)) 7 (res_main_v399 V, res_main_v397 V) from
  congrArg (refStep (res_main_v397 V)) (show (res_main_v446 V, res_main_v447 V) = times (refStep (res_main_v397 V)) 6 (res_main_v399 V, res_main_v397 V) from
  congrArg (refStep (res_main_v397 V)) (show (res_main_v438 V, res_main_v439 V) = times (refStep (res_main_v397 V)) 5 (res_main_v399 V, res_main_v397 V) from
  congrArg (refStep (res_main_v397 V)) (show (res_main_v430 V, res_main_v431 V) = times (refStep (res_main_v397 V)) 4 (res_main_v399 V, res_main_v397 V) from
  congrArg (refStep (res_main_v397 V)) (show (res_main_v422 V, res_main_v423 V) = times (refStep (res_main_v397 V)) 3 (res_main_v399 V, res_main_v397 V) from
  congrArg (refStep (res_main_v397 V)) (show (res_main_v414 V, res_main_v415 V) = times (refStep (res_main_v397 V)) 2 (res_main_v399 V, res_main_v397 V) from
  congrArg (refStep (res_main_v397 V)) (show (res_main_v406 V, res_main_v407 V) = times (refStep (res_main_v397 V)) 1 (res_main_v399 V, res_main_v397 V) from rfl)))))))))))))

end Steps

/-! ## Their readings over the extended reals -/

/-- The two matrices as one array. -/
def batch (f : Two) : Pairs Ideal := fun i => f (i 0) (i 1) (i 2)

theorem ext_batch {X Y : Pairs Ideal} (h : ∀ b p q, X (ix3 b p q) = Y (ix3 b p q)) : X = Y := by
  funext i
  obtain ⟨b, p, q, rfl⟩ : ∃ (b : Fin 2) (p q : Fin 64), i = ix3 b p q := ⟨i 0, i 1, i 2, by funext k; match k with | 0 | 1 | 2 => rfl⟩
  exact h b p q

theorem mul_batch (f g : Two) : refMul (F := Ideal) (batch f) (batch g) = batch (mul2 f g) := by
  refine ext_batch fun b p q => ?_
  pointwise [refMul]
  rfl

theorem factor_batch (y z : Two) : refFactor (F := Ideal) (batch one2) (batch y) (batch z) = batch (factor y z) := by
  unfold refFactor
  rw [mul_batch]
  rfl

theorem steps_batch (n : ℕ) (p : Two × Two) :
    times (refStep (F := Ideal) (batch one2)) n (batch p.1, batch p.2) = (batch (times step2 n p).1, batch (times step2 n p).2) := by
  induction n with
  | zero => rfl
  | succ n ih =>
    show refStep (batch one2) (times (refStep (batch one2)) n _) = _
    rw [ih]
    unfold refStep
    rw [factor_batch, mul_batch, mul_batch]
    rfl

theorem sum_batch (f : Two) (i : S_.Idx) : refSum (F := Ideal) (batch f) i = ∑ b, ∑ p, ∑ q, f b p q := by
  pointwise [refSum]
  rfl

variable (V : Valuation τ sig (Elt Ideal))

theorem one_batch : res_main_v397 V = batch one2 := by
  refine ext_batch fun b p q => ?_
  unfold res_main_v397
  pointwise
  have e : IntOp.cmpi CmpIPredicate.eq (IntOp.addi (BitVec.ofNat 32 p.val) 0#32) (BitVec.ofNat 32 q.val) = if p = q then 1#1 else 0#1 := by
    have hp := p.isLt
    have hq := q.isLt
    show BitVec.ofBool (BitVec.ofNat 32 p.val + 0#32 == BitVec.ofNat 32 q.val) = _
    rw [BitVec.add_zero]
    by_cases h : p = q
    · rw [if_pos h, h, beq_self_eq_true]
      rfl
    · have hn : ¬ BitVec.ofNat 32 p.val = BitVec.ofNat 32 q.val := fun c => h (Fin.ext (by
        have c' := congrArg BitVec.toNat c
        simp only [BitVec.toNat_ofNat] at c'
        omega))
      rw [if_neg h, beq_eq_false_iff_ne.mpr hn]
      rfl
  rw [e]
  show _ = if p = q then (1 : EReal) else 0
  split
  · show (((1#1 : BitVec 1).toNat : ℝ) : EReal) = 1
    simp
  · show (((0#1 : BitVec 1).toNat : ℝ) : EReal) = 0
    simp

/-- An array, as two matrices. -/
def mats (X : Pairs Ideal) : Two := fun b i j => X (ix3 b i j)

theorem batch_mats (X : Pairs Ideal) : batch (mats X) = X := ext_batch fun _ _ _ => rfl

theorem times_batch (f g : Two) : (mulf (batch f) (batch g) : Pairs Ideal) = batch (fun b i j => f b i j * g b i j) := rfl

theorem norm_of (X : Pairs Ideal) : (Host.sqrt (refSum (mulf X X)) : FVec Ideal S_ .f32) = fun _ => norm2 (mats X) := by
  funext i
  show Ideal.sqrt (refSum (mulf X X) i) = _
  rw [← batch_mats X, times_batch, sum_batch]
  rfl

theorem over_of (X : Pairs Ideal) (n : FVec Ideal S_ .f32) (h : n = fun _ => norm2 (mats X)) :
    (Host.divf X (broadcastInDim S2x64x64 ![] bcast_S_S2x64x64 n) : Pairs Ideal) = batch (over2 (mats X)) := by
  subst h
  exact ext_batch fun b p q => rfl

def refMean (c : FVec Ideal S_ .f32) (e y : Pairs Ideal) : FVec Ideal S1x1 .f32 :=
  shapeCast S1x1 (Host.divf (mulf (Host.sqrt c) (refSum (mulf y e))) (constant S_ .f32 0x40000000#32)) shapeCasts_S_S1x1

theorem all_steps (e y : Pairs Ideal) (M : Two) (n : ℕ) (he : e = batch one2) (hy : y = batch (over2 M)) :
    times (refStep (F := Ideal) e) n (y, e) = (batch (times step2 n (over2 M, one2)).1, batch (times step2 n (over2 M, one2)).2) := by
  subst he hy
  exact steps_batch n (over2 M, one2)

theorem mean_at (c : FVec Ideal S_ .f32) (e y : Pairs Ideal) (M : Two) (hc : c = fun _ => norm2 M) (he : e = batch one2)
    (hy : y = batch (times step2 14 (over2 M, one2)).1) : refMean c e y = fun _ => mean M := by
  subst hc he hy
  funext i
  show Ideal.div (Ideal.sqrt (norm2 M) * refSum (mulf (batch _) (batch one2)) _) _ = _
  rw [times_batch, sum_batch]
  rfl

/-- The reference's second result is the mean trace of its first. -/
theorem trace_at : refMean (res_main_v390 V) (res_main_v397 V) (refMul (res_main_v502 V) (res_main_v509 V)) = fun _ => mean (mats (res_main_v387 V)) := by
  have n : res_main_v390 V = fun _ => norm2 (mats (res_main_v387 V)) := norm_of (res_main_v387 V)
  have o : res_main_v399 V = batch (over2 (mats (res_main_v387 V))) := over_of (res_main_v387 V) (res_main_v390 V) n
  have e : refMul (res_main_v502 V) (res_main_v509 V) = batch (times step2 14 (over2 (mats (res_main_v387 V)), one2)).1 :=
    (Prod.mk.inj ((ref_steps V).trans (all_steps (res_main_v397 V) (res_main_v399 V) (mats (res_main_v387 V)) 14 (one_batch V) o))).1
  exact mean_at _ _ _ _ n (one_batch V) e

end Cert.Normal
end
-- ==== Proof.AsmEquation.lean ====
module
public import proofs.«01_k».proof.Proof.AsmRun
public import proofs.«01_k».proof.Proof.AsmSum
public import proofs.«01_k».proof.Proof.NormalValue
public import proofs.«01_k».proof.Proof.NormalTrace
public import proofs.«01_k».proof.Proof.Gen.Pre_finite_both
public import Idealize.ShloMosaic.Lib.ReduceAll

/-!
# The second equation

From finite arguments the second program and its reference end with the same matrices, each the sum over the mesh's nodes
of their shares, and hence with the same mean trace.
-/

@[expose] public section
noncomputable section
namespace Cert.Asm
open Cert.AssemblyIdeal Cert.AssemblyIdeal.Gen
open Idealize.ShloMosaic Idealize.ShloMosaic.TcCoe Idealize.ShloMosaic.StableHlo

theorem bits_top : (FloatOps.ofBits .f32 0x7F800000#32 : Ideal .f32) = (⊤ : EReal) := by simp [Ideal.ofBits, Ideal.ieee]

theorem olt_finite (x : EReal) (h : Ideal.cmp .olt (max x (-x)) ⊤ = 1#1) : x ≠ ⊤ ∧ x ≠ ⊥ := by
  constructor
  · intro c
    rw [c] at h
    simp [Ideal.cmp] at h
  · intro c
    rw [c] at h
    simp [Ideal.cmp] at h

theorem andi_one (a b : BitVec 1) (h : IntOp.andi a b = 1#1) : a = 1#1 ∧ b = 1#1 := by revert a b; decide

/-- The precondition: no entry of either argument is infinite. -/
theorem finite_args (x : FVec Ideal ⟨3, ![2, 10240, 27]⟩ .f32) (y : FVec Ideal ⟨3, ![2, 30000, 64]⟩ .f32)
    (h : Cert.Pre_finite_both.fn (F := Ideal) x y = fun _ => 1#1) :
    (∀ i, x i ≠ (⊤ : EReal) ∧ x i ≠ (⊥ : EReal)) ∧ (∀ i, y i ≠ (⊤ : EReal) ∧ y i ≠ (⊥ : EReal)) := by
  unfold Cert.Pre_finite_both.fn at h
  have : Subsingleton Cert.Pre_finite_both.S_.Idx := ⟨fun a b => funext fun k => k.elim0⟩
  obtain ⟨h1, h2⟩ := andi_one _ _ (congrFun h (fun k => k.elim0))
  constructor
  · intro i
    have e := Host.reduce_andi_all _ _ _ _ _ h1 i
    have e' : Ideal.cmp .olt (max (x i : EReal) (-(x i : EReal))) (FloatOps.ofBits .f32 0x7F800000#32 : Ideal .f32) = 1#1 := e
    rw [bits_top] at e'
    exact olt_finite _ e'
  · intro i
    have e := Host.reduce_andi_all _ _ _ _ _ h2 i
    have e' : Ideal.cmp .olt (max (y i : EReal) (-(y i : EReal))) (FloatOps.ofBits .f32 0x7F800000#32 : Ideal .f32) = 1#1 := e
    rw [bits_top] at e'
    exact olt_finite _ e'

/-- A table of finite entries, in the reals. -/
def real {n k : ℕ} (x : (⟨3, ![2, n, k]⟩ : Shape).Idx → EReal) (b : Fin 2) (r c : ℕ) : ℝ :=
  if h : r < n ∧ c < k then (x (ix3 b ⟨r, h.1⟩ ⟨c, h.2⟩)).toReal else 0

theorem real_at {n k : ℕ} (x : (⟨3, ![2, n, k]⟩ : Shape).Idx → EReal) (h : ∀ i, x i ≠ ⊤ ∧ x i ≠ ⊥) (b : Fin 2) (r : Fin n) (c : Fin k) :
    x (ix3 b r c) = ((real x b r.val c.val : ℝ) : EReal) := by
  unfold real
  rw [dif_pos ⟨r.isLt, c.isLt⟩]
  exact (EReal.coe_toReal (h _).1 (h _).2).symm

variable (m : (ℓ : Loc nD τ sig) → Buf (Elt Ideal) ℓ) (c : Dev nD)

/-- The reshaped second argument. -/
theorem rows_at (b : Fin 2) (n : Fin 10000) (k : Fin 192) :
    (V1 m c main_v0 : S2x10000x192.Idx → EReal) (ix3 b n k)
      = (m ((c.tc : Thread nD τ).loc main_arg1) : S2x30000x64.Idx → EReal) (ix3 b ⟨3 * n.val + k.val / 64, by have := n.isLt; have := k.isLt; omega⟩ ⟨k.val % 64, Nat.mod_lt _ (by decide)⟩) := by
  show StableHlo.after hostOps0 (V0 m c) (Proc.devRef .tc main_v0) (ix3 b n k) = _
  simp only [hostOps0]
  after_results_simp
  clean_types
  pointwise
  exact congrArg (fun r => (m ((c.tc : Thread nD τ).loc main_arg1) : S2x30000x64.Idx → EReal) (ix3 b r ⟨k.val % 64, Nat.mod_lt _ (by decide)⟩))
    (Fin.ext (by show n.val * 3 + k.val / 64 = 3 * n.val + k.val / 64; omega))

theorem idx0_0 : ∀ t : Fin cfg0.N, cc0_transform_0 (grid0.coords t) = ![t.val / 10, t.val % 10, 0] := by decide +kernel

theorem stg0_at (V : (c : Dev nD) → (b : Ref sig .tc) → Buf (Elt Ideal) ((c : Thread nD τ).loc b)) (t : Fin cfg0.N) (b : Fin 2) (n : Fin 10000) (y : Fin 1000) (k : Fin 192)
    (hb : t.val / 10 = b.val) (hn : 1000 * (t.val % 10) + y.val = n.val) :
    stg0 V c t (ix3 0 y k) = (V c main_v0 : S2x10000x192.Idx → EReal) (ix3 b n k) := by
  have hi := idx0_0 t
  refine congrArg (V c main_v0 : S2x10000x192.Idx → EReal) (funext fun a => Fin.ext ?_)
  match a with
  | 0 => have e : cc0_transform_0 (grid0.coords t) 0 = t.val / 10 := congrFun hi 0
         show cc0_transform_0 (grid0.coords t) 0 * 1 + 1 * 0 = b.val; omega
  | 1 => have e : cc0_transform_0 (grid0.coords t) 1 = t.val % 10 := congrFun hi 1
         show cc0_transform_0 (grid0.coords t) 1 * 1000 + 1 * y.val = n.val; omega
  | 2 => have e : cc0_transform_0 (grid0.coords t) 2 = 0 := congrFun hi 2
         show cc0_transform_0 (grid0.coords t) 2 * 192 + 1 * k.val = k.val; omega

/-- The padded table the first region leaves, in the reals. -/
theorem padded_at (x : S2x30000x64.Idx → EReal) (hx : m ((c.tc : Thread nD τ).loc main_arg1) = x) (h : ∀ i, x i ≠ ⊤ ∧ x i ≠ ⊥) (b : Fin 2) (r : Fin 10208) (k : Fin 192) :
    padded (at_ (V1 m)) c (ix3 b r k) = ((Normal.table (real x b) r.val k.val : ℝ) : EReal) := by
  show paddedAt (at_ (V1 m)) c b r k = _
  have hb := b.isLt
  unfold paddedAt Normal.table
  split
  case isTrue hh =>
    have e : ∀ X : S1x1000x192.Idx → Elt Ideal .f32, ∀ y : Fin 1000, k0_pay1 X (ix3 0 y k) = X (ix3 0 y k) := fun X y => by
      pointwise [k0_pay1]
    rw [e, stg0_at c (at_ (V1 m)) _ b ⟨r.val - 104, by omega⟩ _ k (by show (10 * b.val + (r.val - 104) / 1000) / 10 = b.val; omega)
      (by show 1000 * ((10 * b.val + (r.val - 104) / 1000) % 10) + (r.val - 104) % 1000 = r.val - 104; omega)]
    refine (rows_at m c b _ k).trans ?_
    rw [hx]
    exact real_at x h b _ _
  case isFalse hh => simp [Ideal.ofBits, Ideal.ieee]

/-- The first results. -/
theorem results (V : Valuation Cert.NormalIdeal.τ Cert.NormalIdeal.sig (Elt Ideal)) (x : S2x10240x27.Idx → EReal) (y : S2x30000x64.Idx → EReal)
    (hx : m ((c.tc : Thread nD τ).loc main_arg0) = x) (hy : m ((c.tc : Thread nD τ).loc main_arg1) = y)
    (hx' : V (Proc.devRef .tc Cert.NormalIdeal.main_arg0) = x) (hy' : V (Proc.devRef .tc Cert.NormalIdeal.main_arg1) = y)
    (hf : Cert.Pre_finite_both.fn (F := Ideal) x y = fun _ => 1#1) :
    (Cert.NormalIdeal.Value.res_main_v387 V : S2x64x64.Idx → EReal) = mVal (at_ (V3 m (left0 m))) c := by
  obtain ⟨fx, fy⟩ := finite_args x y hf
  funext i
  obtain ⟨b, p, q, rfl⟩ : ∃ (b : Fin 2) (p q : Fin 64), i = ix3 b p q := ⟨i 0, i 1, i 2, by funext k; match k with | 0 | 1 | 2 => rfl⟩
  rw [mVal_eq (at_ (V3 m (left0 m))) c b (Normal.table (real y b)) (real x b) ?_ ?_ ?_ p q]
  · exact Normal.out_at V b (real y b) (real x b) (fun r p => (congrFun hy' _).trans (real_at y fy b r p)) (fun n f => (congrFun hx' _).trans (real_at x fx b n f)) p q
  · intro r k
    have e : V3 m (left0 m) c main_v1 = padded (at_ (V1 m)) c := (V3_of m (left0 m) c main_v1 (by decide)).trans (left0_v1 m c)
    exact (congrFun e _).trans (padded_at m c y hy fy b r k)
  · intro n f
    have e : V3 m (left0 m) c main_arg0 = m ((c.tc : Thread nD τ).loc main_arg0) :=
      (V3_of m (left0 m) c main_arg0 (by decide)).trans ((left0_ne m c main_arg0 (by decide)).trans (V1_of m c main_arg0 (by decide)))
    exact (congrFun (e.trans hx) _).trans (real_at x fx b n f)
  · intro v r k
    exact band_read (V2 m (left0 m) c) v r k

/-- The mean traces of equal arrays. -/
theorem traces (M : S2x64x64.Idx → EReal) (h : M = mVal (at_ (V3 m (left0 m))) c) :
    (fun _ => mean (Normal.mats M) : S1x1.Idx → EReal) = trVal (at_ (V3 m (left0 m))) c := by
  unfold trVal
  rw [stored_mean, h]
  refine congrArg (fun f : Two => (fun _ => mean f : S1x1.Idx → EReal)) ?_
  funext b i j
  match b with
  | 0 | 1 => rfl

end Cert.Asm
end
-- ==== Proof.AsmText.lean ====
/-
  The second program at machine words and its ideal form are one text printed twice. Here: their body tables and their
  @main are equal, piece by piece, so that one run serves both.
-/
module

public import proofs.«01_k».proof.Defs
public import proofs.«01_k».proof.Proof.Gen.Assembly
public import proofs.«01_k».proof.Proof.Gen.AssemblyIdeal

@[expose] public section

noncomputable section

namespace Cert.Asm

open Idealize.ShloMosaic Idealize.SL.Sem

/-- The kernels' bodies are the same. -/
theorem bodies_eq : @Cert.Assembly.defs₀ Bits _ _ = Cert.AssemblyIdeal.defs₀ (F := Bits) := by
  refine congrArg (Defs.onTc (nD := Cert.Assembly.nD) (τ := Cert.Assembly.τ) (sig := Cert.Assembly.sig) (Val := Elt Bits)
    (Λ := Cert.Assembly.Λ₀)) ?_
  funext l a
  match l, a with
  | 0, (t, s) => rfl
  | 1, (t, s) => rfl
  | ⟨_ + 2, h⟩, _ => exact absurd h (Nat.not_lt.2 (Nat.le_add_left _ _))

/-- So are the tables with the pipelines. -/
theorem tables_eq : @Cert.Assembly.defs Bits _ _ = Cert.AssemblyIdeal.defs (F := Bits) :=
  congrArg (Pipeline.defs (Cert.Assembly.pcfgs (F := Bits))) bodies_eq

set_option maxHeartbeats 8000000 in
/-- The first window of @main is the same. -/
theorem part0_eq : @Cert.Assembly.main_part0 Bits _ _ = Cert.AssemblyIdeal.main_part0 (F := Bits) := rfl

set_option maxHeartbeats 8000000 in
/-- The second window of @main is the same. -/
theorem part1_eq : @Cert.Assembly.main_part1 Bits _ _ = Cert.AssemblyIdeal.main_part1 (F := Bits) := rfl

/-- The last window of @main is the same. -/
theorem part2_eq : @Cert.Assembly.main_part2 Bits _ _ = Cert.AssemblyIdeal.main_part2 (F := Bits) := rfl

/-- So is @main. -/
theorem main_eq : @Cert.Assembly.main Bits _ _ = Cert.AssemblyIdeal.main (F := Bits) := by
  funext d
  refine (congrArg (· >>= fun _ => Cert.Assembly.main_part1 (F := Bits) d >>= fun _ => Cert.Assembly.main_part2 (F := Bits) d)
    (congrFun part0_eq d)).trans ?_
  refine congrArg (Cert.AssemblyIdeal.main_part0 (F := Bits) d >>= ·) (funext fun _ => ?_)
  refine (congrArg (· >>= fun _ => Cert.Assembly.main_part2 (F := Bits) d) (congrFun part1_eq d)).trans ?_
  exact congrArg (Cert.AssemblyIdeal.main_part1 (F := Bits) d >>= ·) (funext fun _ => congrFun part2_eq d)

end Cert.Asm

end
-- ==== Proof.lean ====
/-
  The proof of the certificate's claim, for both programs: the frames of the kernel at both instances and of the reference,
  and the equation of their results at the extended reals.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_finite
public import proofs.«01_k».proof.Proof.Gen.Assembly
public import proofs.«01_k».proof.Proof.Gen.AssemblyIdeal
public import proofs.«01_k».proof.Proof.Gen.AssemblyIdeal.Skeleton
public import proofs.«01_k».proof.Proof.Gen.AssemblyIdeal.Launch
public import proofs.«01_k».proof.Proof.Gen.AssemblyIdeal.Points
public import proofs.«01_k».proof.Proof.Gen.AssemblyIdeal.Regions
public import proofs.«01_k».proof.Proof.Gen.NormalIdeal
public import proofs.«01_k».proof.Proof.Gen.NormalIdeal.Run
public import proofs.«01_k».proof.Proof.Gen.Pre_finite_both
public import proofs.«01_k».proof.Proof.Equation
public import proofs.«01_k».proof.Proof.AsmEquation
public import proofs.«01_k».proof.Proof.AsmText
public import Idealize.ShloMosaic.Adequacy
public import Idealize.ShloMosaic.Init

@[expose] public section

noncomputable section

namespace Cert.Proof

open Idealize.ShloMosaic Idealize.SL.Sem

/-- The kernel at machine words ends with its argument unchanged and every counter at zero. -/
theorem frame_kernel : Cert.quiescent_Kernel := fun m ρ _ =>
  (θ_run Cert.KernelIdeal.defs _ _).mono (fun _ h => ⟨fun c => (h.1 c).1, h.2⟩) (Launch.run_main (F := Bits) m ρ)

/-- The kernel at the extended reals likewise. -/
theorem frame_ideal : Cert.quiescent_KernelIdeal := fun m ρ _ =>
  (θ_run Cert.KernelIdeal.defs _ _).mono (fun _ h => ⟨fun c => (h.1 c).1, h.2⟩) (Launch.run_main (F := Ideal) m ρ)

/-- The reference likewise: it has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- From finite positions the kernel and the reference end with equal results. -/
theorem equation : Cert.algebraic_KernelIdeal_ReferenceIdeal_pre_finite := by
  intro m ρ m' ρ' hpre hagree
  refine ⟨fun c => Launch.R m c, ?_, ?_⟩
  · exact (θ_run Cert.KernelIdeal.defs _ _).mono (fun _ h c => ⟨(h.1 c).2, (h.1 c).1⟩) (Launch.run_main (F := Ideal) m ρ)
  · exact (θ_run Cert.ReferenceIdeal.defs _ _).mono
      (fun _ h c => ⟨(h c).1.trans (Equation.results (StableHlo.launchContents m' c) m c (hagree c) (hpre c)), (h c).2⟩)
      (Cert.ReferenceIdeal.Value.run m' ρ')

/-- The second program at machine words ends with its arguments unchanged and every counter at zero. -/
theorem frame_assembly : Cert.quiescent_Assembly := fun m ρ _ =>
  (congrArg₂ (fun D M => θ_run D (onTc (τ := Cert.Assembly.τ) M) ⟨m, fun _ => 0, ρ⟩ fun r =>
      (∀ c : Dev Cert.Assembly.nD,
        r.2.mem ((c.tc : Thread Cert.Assembly.nD Cert.Assembly.τ).loc Cert.Assembly.main_arg0)
          = m ((c.tc : Thread Cert.Assembly.nD Cert.Assembly.τ).loc Cert.Assembly.main_arg0)
        ∧ r.2.mem ((c.tc : Thread Cert.Assembly.nD Cert.Assembly.τ).loc Cert.Assembly.main_arg1)
          = m ((c.tc : Thread Cert.Assembly.nD Cert.Assembly.τ).loc Cert.Assembly.main_arg1))
      ∧ r.2.sem = fun _ => 0) Asm.tables_eq Asm.main_eq).mpr
    ((θ_run (Cert.AssemblyIdeal.defs (F := Bits)) (onTc (τ := Cert.AssemblyIdeal.τ) (Cert.AssemblyIdeal.main (F := Bits))) ⟨m, fun _ => 0, ρ⟩).mono
      (fun _ h => ⟨fun c => (h.1 c).1, h.2⟩) (Asm.run_main (F := Bits) m ρ))

/-- The second program at the extended reals likewise. -/
theorem frame_assembly_ideal : Cert.quiescent_AssemblyIdeal := fun m ρ _ =>
  (θ_run Cert.AssemblyIdeal.defs _ _).mono (fun _ h => ⟨fun c => (h.1 c).1, h.2⟩) (Asm.run_main (F := Ideal) m ρ)

/-- Its reference likewise: it has no counter. -/
theorem frame_normal : Cert.quiescent_NormalIdeal := fun m ρ _ =>
  (θ_run Cert.NormalIdeal.defs _ _).mono (fun r h => ⟨fun c => (h c).2.2, sem_eq_zero_of_no_sems (by decide) r.2⟩)
    (Cert.NormalIdeal.Value.run m ρ)

/-- From finite arguments the second program and its reference end with equal results. -/
theorem equation_assembly : Cert.algebraic_AssemblyIdeal_NormalIdeal_pre_finite_both := by
  intro m ρ m' ρ' hpre hagree
  refine ⟨fun c => Asm.mVal (Asm.at_ (Cert.AssemblyIdeal.Gen.V3 m (Asm.left0 m))) c, fun c => Asm.trVal (Asm.at_ (Cert.AssemblyIdeal.Gen.V3 m (Asm.left0 m))) c, ?_, ?_⟩
  · exact (θ_run Cert.AssemblyIdeal.defs _ _).mono (fun _ h c => ⟨(h.1 c).2.1, (h.1 c).2.2, (h.1 c).1⟩) (Asm.run_main (F := Ideal) m ρ)
  · have e := fun c => Asm.results m c (StableHlo.launchContents m' c) _ _ rfl rfl (hagree c).1 (hagree c).2 (hpre c)
    exact (θ_run Cert.NormalIdeal.defs _ _).mono
      (fun _ h c => ⟨(h c).1.trans (e c), (h c).2.1.trans ((Normal.trace_at (StableHlo.launchContents m' c)).trans (Asm.traces m c _ (e c))), (h c).2.2⟩)
      (Cert.NormalIdeal.Value.run m' ρ')

theorem claim : Cert.Claim :=
  ⟨Cert.Kernel.Gen.facts, Cert.KernelIdeal.Gen.facts, Cert.ReferenceIdeal.Gen.facts, Cert.Assembly.Gen.facts, Cert.AssemblyIdeal.Gen.facts,
    Cert.NormalIdeal.Gen.facts, Cert.Pre_finite.Gen.facts, Cert.Pre_finite_both.Gen.facts,
    frame_kernel, frame_ideal, fun m ρ _ => frame_ideal m ρ trivial, frame_reference, fun m ρ _ => frame_reference m ρ trivial,
    frame_assembly, frame_assembly_ideal, fun m ρ _ => frame_assembly_ideal m ρ trivial, frame_normal, fun m ρ _ => frame_normal m ρ trivial,
    trivial, equation, trivial, equation_assembly⟩

end Cert.Proof

end
